-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S3x3072x24x96 : Shape := ⟨4, ![3, 3072, 24, 96]⟩
abbrev S3x24 : Shape := ⟨2, ![3, 24]⟩
abbrev S24x32 : Shape := ⟨2, ![24, 32]⟩
abbrev S_ : Shape := ⟨0, ![]⟩

class Facts : Prop where
  bcast_S_S3x24 : S_.BroadcastsInDim S3x24 (![] : Fin 0 → Fin S3x24.rank)
  bcast_S_S24x32 : S_.BroadcastsInDim S24x32 (![] : Fin 0 → Fin S24x32.rank)

variable [Facts]

def fn_part1 {F : FTy → Type} [FloatOps F] (main_v2 : IVec S3x24 1) (main_v5 : IVec S3x24 1) (main_v8 : IVec S3x24 1) (main_v10 : IVec S3x24 1) (main_v13 : IVec S3x24 1) (main_v15 : IVec S3x24 1) (main_v16 : FVec F S24x32 .f32) (main_cst_5 : FVec F S_ .f32) : IVec S3x24 1 × IVec S3x24 1 × IVec S3x24 1 × IVec S3x24 1 × IVec S3x24 1 × IVec S3x24 1 × IVec S24x32 1 :=
  let main_v17 : FVec F S24x32 .f32 := broadcastInDim S24x32 ![] bcast_S_S24x32 main_cst_5
  let main_v18 : IVec S24x32 1 := cmpf .olt main_v16 main_v17
  (main_v2, main_v5, main_v8, main_v10, main_v13, main_v15, main_v18)

def fn {F : FTy → Type} [FloatOps F] (main_arg0 : FVec F S3x3072x24x96 .fp8e4m3) (main_arg1 : FVec F S3x3072x24x96 .fp8e4m3) (main_arg2 : FVec F S3x3072x24x96 .fp8e4m3) (main_arg3 : FVec F S3x24 .f32) (main_arg4 : FVec F S3x24 .f32) (main_arg5 : FVec F S3x24 .f32) (main_arg6 : FVec F S3x3072x24x96 .fp8e5m2) (main_arg7 : FVec F S3x24 .f32) (main_arg8 : FVec F S24x32 .f32) : IVec S3x24 1 × IVec S3x24 1 × IVec S3x24 1 × IVec S3x24 1 × IVec S3x24 1 × IVec S3x24 1 × IVec S24x32 1 :=
  let main_v0 : FVec F S3x24 .f32 := Host.absf main_arg3
  let main_cst : FVec F S_ .f32 := constant S_ .f32 0x7F800000#32
  let main_v1 : FVec F S3x24 .f32 := broadcastInDim S3x24 ![] bcast_S_S3x24 main_cst
  let main_v2 : IVec S3x24 1 := cmpf .olt main_v0 main_v1
  let main_v3 : FVec F S3x24 .f32 := Host.absf main_arg4
  let main_cst_0 : FVec F S_ .f32 := constant S_ .f32 0x7F800000#32
  let main_v4 : FVec F S3x24 .f32 := broadcastInDim S3x24 ![] bcast_S_S3x24 main_cst_0
  let main_v5 : IVec S3x24 1 := cmpf .olt main_v3 main_v4
  let main_v6 : FVec F S3x24 .f32 := Host.absf main_arg5
  let main_cst_1 : FVec F S_ .f32 := constant S_ .f32 0x7F800000#32
  let main_v7 : FVec F S3x24 .f32 := broadcastInDim S3x24 ![] bcast_S_S3x24 main_cst_1
  let main_v8 : IVec S3x24 1 := cmpf .olt main_v6 main_v7
  let main_cst_2 : FVec F S_ .f32 := constant S_ .f32 0x00000000#32
  let main_v9 : FVec F S3x24 .f32 := broadcastInDim S3x24 ![] bcast_S_S3x24 main_cst_2
  let main_v10 : IVec S3x24 1 := cmpf .oge main_arg5 main_v9
  let main_v11 : FVec F S3x24 .f32 := Host.absf main_arg7
  let main_cst_3 : FVec F S_ .f32 := constant S_ .f32 0x7F800000#32
  let main_v12 : FVec F S3x24 .f32 := broadcastInDim S3x24 ![] bcast_S_S3x24 main_cst_3
  let main_v13 : IVec S3x24 1 := cmpf .olt main_v11 main_v12
  let main_cst_4 : FVec F S_ .f32 := constant S_ .f32 0x00000000#32
  let main_v14 : FVec F S3x24 .f32 := broadcastInDim S3x24 ![] bcast_S_S3x24 main_cst_4
  let main_v15 : IVec S3x24 1 := cmpf .oge main_arg7 main_v14
  let main_v16 : FVec F S24x32 .f32 := Host.absf main_arg8
  let main_cst_5 : FVec F S_ .f32 := constant S_ .f32 0x7F800000#32
  fn_part1 (F := F) main_v2 main_v5 main_v8 main_v10 main_v13 main_v15 main_v16 main_cst_5
-- ==== Kernel.lean ====
abbrev S3x3072x24x96 : Shape := ⟨4, ![3, 3072, 24, 96]⟩
abbrev S3x24 : Shape := ⟨2, ![3, 24]⟩
abbrev S24x32 : Shape := ⟨2, ![24, 32]⟩
abbrev S3x24x3072x96 : Shape := ⟨4, ![3, 24, 3072, 96]⟩
abbrev S24x32x128 : Shape := ⟨3, ![24, 32, 128]⟩
abbrev S1x1x3072x96 : Shape := ⟨4, ![1, 1, 3072, 96]⟩
abbrev S1x32x128 : Shape := ⟨3, ![1, 32, 128]⟩
abbrev S3x3072x512 : Shape := ⟨3, ![3, 3072, 512]⟩
abbrev S2x3072x512 : Shape := ⟨3, ![2, 3072, 512]⟩
abbrev S96x3072 : Shape := ⟨2, ![96, 3072]⟩
abbrev S128x256 : Shape := ⟨2, ![128, 256]⟩
abbrev S1x1 : Shape := ⟨2, ![1, 1]⟩
abbrev S8x256 : Shape := ⟨2, ![8, 256]⟩
abbrev S1x256 : Shape := ⟨2, ![1, 256]⟩
abbrev S128x128 : Shape := ⟨2, ![128, 128]⟩
abbrev S3072x96 : Shape := ⟨2, ![3072, 96]⟩
abbrev S1x512 : Shape := ⟨2, ![1, 512]⟩
abbrev S1x1x512x96 : Shape := ⟨4, ![1, 1, 512, 96]⟩
abbrev S512x96 : Shape := ⟨2, ![512, 96]⟩
abbrev S512x512 : Shape := ⟨2, ![512, 512]⟩
abbrev S1x128x128 : Shape := ⟨3, ![1, 128, 128]⟩
abbrev S16x8x128 : Shape := ⟨3, ![16, 8, 128]⟩
abbrev S8x128 : Shape := ⟨2, ![8, 128]⟩
abbrev S1x1x128x96 : Shape := ⟨4, ![1, 1, 128, 96]⟩
abbrev S128x96 : Shape := ⟨2, ![128, 96]⟩
abbrev S128x512 : Shape := ⟨2, ![128, 512]⟩
abbrev S1x1x384x96 : Shape := ⟨4, ![1, 1, 384, 96]⟩
abbrev S384x96 : Shape := ⟨2, ![384, 96]⟩
abbrev S128x384 : Shape := ⟨2, ![128, 384]⟩
abbrev S1x1x256x96 : Shape := ⟨4, ![1, 1, 256, 96]⟩
abbrev S256x96 : Shape := ⟨2, ![256, 96]⟩
abbrev S8x512 : Shape := ⟨2, ![8, 512]⟩
abbrev S512 : Shape := ⟨1, ![512]⟩
abbrev S256x512 : Shape := ⟨2, ![256, 512]⟩
abbrev S1x128 : Shape := ⟨2, ![1, 128]⟩
abbrev S96x512 : Shape := ⟨2, ![96, 512]⟩
abbrev S96x256 : Shape := ⟨2, ![96, 256]⟩
abbrev S256x256 : Shape := ⟨2, ![256, 256]⟩
abbrev S256 : Shape := ⟨1, ![256]⟩
abbrev S32x256 : Shape := ⟨2, ![32, 256]⟩
abbrev S32 : Shape := ⟨1, ![32]⟩
abbrev S32x1 : Shape := ⟨2, ![32, 1]⟩
abbrev S1 : Shape := ⟨1, ![1]⟩
abbrev S32x128 : Shape := ⟨2, ![32, 128]⟩

abbrev nBuf : Space → Nat
  | .hbm => 17
  | .vmem => 24
  | .smem => 5
  | _ => 0

abbrev bufTy : (tb : Table) → Fin (tcTables nBuf tb) → BufTy
  | .hbm, ⟨0, _⟩ => ⟨S3x3072x24x96, .fp8e4m3⟩
  | .hbm, ⟨1, _⟩ => ⟨S3x3072x24x96, .fp8e4m3⟩
  | .hbm, ⟨2, _⟩ => ⟨S3x3072x24x96, .fp8e4m3⟩
  | .hbm, ⟨3, _⟩ => ⟨S3x24, .f32⟩
  | .hbm, ⟨4, _⟩ => ⟨S3x24, .f32⟩
  | .hbm, ⟨5, _⟩ => ⟨S3x24, .f32⟩
  | .hbm, ⟨6, _⟩ => ⟨S3x3072x24x96, .fp8e5m2⟩
  | .hbm, ⟨7, _⟩ => ⟨S3x24, .f32⟩
  | .hbm, ⟨8, _⟩ => ⟨S24x32, .f32⟩
  | .hbm, ⟨9, _⟩ => ⟨S3x24x3072x96, .fp8e4m3⟩
  | .hbm, ⟨10, _⟩ => ⟨S3x24x3072x96, .fp8e4m3⟩
  | .hbm, ⟨11, _⟩ => ⟨S3x24x3072x96, .fp8e4m3⟩
  | .hbm, ⟨12, _⟩ => ⟨S3x24x3072x96, .fp8e5m2⟩
  | .hbm, ⟨13, _⟩ => ⟨S3x24x3072x96, .bf16⟩
  | .hbm, ⟨14, _⟩ => ⟨S3x24x3072x96, .bf16⟩
  | .hbm, ⟨15, _⟩ => ⟨S3x24x3072x96, .bf16⟩
  | .hbm, ⟨16, _⟩ => ⟨S24x32x128, .f32⟩
  | .local _ .vmem, ⟨0, _⟩ => ⟨S1x1x3072x96, .fp8e4m3⟩
  | .local _ .vmem, ⟨1, _⟩ => ⟨S1x1x3072x96, .fp8e4m3⟩
  | .local _ .vmem, ⟨2, _⟩ => ⟨S1x1x3072x96, .fp8e4m3⟩
  | .local _ .vmem, ⟨3, _⟩ => ⟨S1x1x3072x96, .fp8e4m3⟩
  | .local _ .vmem, ⟨4, _⟩ => ⟨S1x1x3072x96, .fp8e4m3⟩
  | .local _ .vmem, ⟨5, _⟩ => ⟨S1x1x3072x96, .fp8e4m3⟩
  | .local _ .vmem, ⟨6, _⟩ => ⟨S1x1x3072x96, .fp8e5m2⟩
  | .local _ .vmem, ⟨7, _⟩ => ⟨S1x1x3072x96, .fp8e5m2⟩
  | .local _ .vmem, ⟨8, _⟩ => ⟨S1x1x3072x96, .bf16⟩
  | .local _ .vmem, ⟨9, _⟩ => ⟨S1x1x3072x96, .bf16⟩
  | .local _ .vmem, ⟨10, _⟩ => ⟨S1x1x3072x96, .bf16⟩
  | .local _ .vmem, ⟨11, _⟩ => ⟨S1x1x3072x96, .bf16⟩
  | .local _ .vmem, ⟨12, _⟩ => ⟨S1x1x3072x96, .bf16⟩
  | .local _ .vmem, ⟨13, _⟩ => ⟨S1x1x3072x96, .bf16⟩
  | .local _ .vmem, ⟨14, _⟩ => ⟨S1x32x128, .f32⟩
  | .local _ .vmem, ⟨15, _⟩ => ⟨S1x32x128, .f32⟩
  | .local _ .vmem, ⟨16, _⟩ => ⟨S3x3072x512, .f32⟩
  | .local _ .vmem, ⟨17, _⟩ => ⟨S2x3072x512, .f32⟩
  | .local _ .vmem, ⟨18, _⟩ => ⟨S96x3072, .f32⟩
  | .local _ .vmem, ⟨19, _⟩ => ⟨S96x3072, .f32⟩
  | .local _ .vmem, ⟨20, _⟩ => ⟨S96x3072, .bf16⟩
  | .local _ .vmem, ⟨21, _⟩ => ⟨S96x3072, .bf16⟩
  | .local _ .vmem, ⟨22, _⟩ => ⟨S96x3072, .bf16⟩
  | .local _ .vmem, ⟨23, _⟩ => ⟨S128x256, .f32⟩
  | .local _ .smem, ⟨0, _⟩ => ⟨S3x24, .f32⟩
  | .local _ .smem, ⟨1, _⟩ => ⟨S3x24, .f32⟩
  | .local _ .smem, ⟨2, _⟩ => ⟨S3x24, .f32⟩
  | .local _ .smem, ⟨3, _⟩ => ⟨S3x24, .f32⟩
  | .local _ .smem, ⟨4, _⟩ => ⟨S24x32, .f32⟩
  | _, _ => ⟨S3x3072x24x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![24, 3], ![false, false]⟩

def k0_off1 (i : grid0.Coords) : Fin 2 → Nat :=
  let arg1 : BitVec 32 := BitVec.ofNat 32 (i 1).val
  let v0 : Index := Scalar.indexCast arg1
  let arg0 : BitVec 32 := BitVec.ofNat 32 (i 0).val
  let v1 : Index := Scalar.indexCast arg0
  ![v0.toNat, v1.toNat]
def k0_off2 (i : grid0.Coords) : Fin 2 → Nat :=
  let arg0 : BitVec 32 := BitVec.ofNat 32 (i 0).val
  let v17 : Index := Scalar.indexCast arg0
  let c31 : Index := 31#32
  ![v17.toNat, 31]
def k0_off3 (i : grid0.Coords) : Fin 2 → Nat :=
  let arg0 : BitVec 32 := BitVec.ofNat 32 (i 0).val
  let v19 : Index := Scalar.indexCast arg0
  let c0 : Index := 0#32
  ![v19.toNat, 0]
def k0_off4 (i : grid0.Coords) : Fin 2 → Nat :=
  let arg0 : BitVec 32 := BitVec.ofNat 32 (i 0).val
  let v26 : Index := Scalar.indexCast arg0
  let c1 : Index := 1#32
  ![v26.toNat, 1]
def k0_off5 (i : grid0.Coords) : Fin 2 → Nat :=
  let arg0 : BitVec 32 := BitVec.ofNat 32 (i 0).val
  let v34 : Index := Scalar.indexCast arg0
  let c2 : Index := 2#32
  ![v34.toNat, 2]
def k0_off6 (i : grid0.Coords) : Fin 2 → Nat :=
  let arg0 : BitVec 32 := BitVec.ofNat 32 (i 0).val
  let v42 : Index := Scalar.indexCast arg0
  let c3 : Index := 3#32
  ![v42.toNat, 3]
def k0_off7 (i : grid0.Coords) : Fin 2 → Nat :=
  let arg0 : BitVec 32 := BitVec.ofNat 32 (i 0).val
  let v50 : Index := Scalar.indexCast arg0
  let c4 : Index := 4#32
  ![v50.toNat, 4]
def k0_off8 (i : grid0.Coords) : Fin 2 → Nat :=
  let arg0 : BitVec 32 := BitVec.ofNat 32 (i 0).val
  let v58 : Index := Scalar.indexCast arg0
  let c5 : Index := 5#32
  ![v58.toNat, 5]
def k0_off9 (i : grid0.Coords) : Fin 2 → Nat :=
  let arg0 : BitVec 32 := BitVec.ofNat 32 (i 0).val
  let v66 : Index := Scalar.indexCast arg0
  let c6 : Index := 6#32
  ![v66.toNat, 6]
def k0_off10 (i : grid0.Coords) : Fin 2 → Nat :=
  let arg0 : BitVec 32 := BitVec.ofNat 32 (i 0).val
  let v74 : Index := Scalar.indexCast arg0
  let c7 : Index := 7#32
  ![v74.toNat, 7]
def k0_off11 (i : grid0.Coords) : Fin 2 → Nat :=
  let arg0 : BitVec 32 := BitVec.ofNat 32 (i 0).val
  let v82 : Index := Scalar.indexCast arg0
  let c8 : Index := 8#32
  ![v82.toNat, 8]
def k0_off12 (i : grid0.Coords) : Fin 2 → Nat :=
  let arg0 : BitVec 32 := BitVec.ofNat 32 (i 0).val
  let v90 : Index := Scalar.indexCast arg0
  let c9 : Index := 9#32
  ![v90.toNat, 9]
def k0_off13 (i : grid0.Coords) : Fin 2 → Nat :=
  let arg0 : BitVec 32 := BitVec.ofNat 32 (i 0).val
  let v98 : Index := Scalar.indexCast arg0
  let c10 : Index := 10#32
  ![v98.toNat, 10]
def k0_off14 (i : grid0.Coords) : Fin 2 → Nat :=
  let arg0 : BitVec 32 := BitVec.ofNat 32 (i 0).val
  let v106 : Index := Scalar.indexCast arg0
  let c11 : Index := 11#32
  ![v106.toNat, 11]
def k0_off15 (i : grid0.Coords) : Fin 2 → Nat :=
  let arg0 : BitVec 32 := BitVec.ofNat 32 (i 0).val
  let v114 : Index := Scalar.indexCast arg0
  let c12 : Index := 12#32
  ![v114.toNat, 12]
def k0_off16 (i : grid0.Coords) : Fin 2 → Nat :=
  let arg0 : BitVec 32 := BitVec.ofNat 32 (i 0).val
  let v122 : Index := Scalar.indexCast arg0
  let c13 : Index := 13#32
  ![v122.toNat, 13]
def k0_off17 (i : grid0.Coords) : Fin 2 → Nat :=
  let arg0 : BitVec 32 := BitVec.ofNat 32 (i 0).val
  let v130 : Index := Scalar.indexCast arg0
  let c14 : Index := 14#32
  ![v130.toNat, 14]
def k0_off18 (i : grid0.Coords) : Fin 2 → Nat :=
  let arg0 : BitVec 32 := BitVec.ofNat 32 (i 0).val
  let v138 : Index := Scalar.indexCast arg0
  let c15 : Index := 15#32
  ![v138.toNat, 15]
def k0_off19 (i : grid0.Coords) : Fin 2 → Nat :=
  let arg0 : BitVec 32 := BitVec.ofNat 32 (i 0).val
  let v146 : Index := Scalar.indexCast arg0
  let c16 : Index := 16#32
  ![v146.toNat, 16]
def k0_off20 (i : grid0.Coords) : Fin 2 → Nat :=
  let arg0 : BitVec 32 := BitVec.ofNat 32 (i 0).val
  let v154 : Index := Scalar.indexCast arg0
  let c17 : Index := 17#32
  ![v154.toNat, 17]
def k0_off21 (i : grid0.Coords) : Fin 2 → Nat :=
  let arg0 : BitVec 32 := BitVec.ofNat 32 (i 0).val
  let v162 : Index := Scalar.indexCast arg0
  let c18 : Index := 18#32
  ![v162.toNat, 18]
def k0_off22 (i : grid0.Coords) : Fin 2 → Nat :=
  let arg0 : BitVec 32 := BitVec.ofNat 32 (i 0).val
  let v170 : Index := Scalar.indexCast arg0
  let c19 : Index := 19#32
  ![v170.toNat, 19]
def k0_off23 (i : grid0.Coords) : Fin 2 → Nat :=
  let arg0 : BitVec 32 := BitVec.ofNat 32 (i 0).val
  let v178 : Index := Scalar.indexCast arg0
  let c20 : Index := 20#32
  ![v178.toNat, 20]
def k0_off24 (i : grid0.Coords) : Fin 2 → Nat :=
  let arg0 : BitVec 32 := BitVec.ofNat 32 (i 0).val
  let v186 : Index := Scalar.indexCast arg0
  let c21 : Index := 21#32
  ![v186.toNat, 21]
def k0_off25 (i : grid0.Coords) : Fin 2 → Nat :=
  let arg0 : BitVec 32 := BitVec.ofNat 32 (i 0).val
  let v194 : Index := Scalar.indexCast arg0
  let c22 : Index := 22#32
  ![v194.toNat, 22]
def k0_off26 (i : grid0.Coords) : Fin 2 → Nat :=
  let arg0 : BitVec 32 := BitVec.ofNat 32 (i 0).val
  let v202 : Index := Scalar.indexCast arg0
  let c23 : Index := 23#32
  ![v202.toNat, 23]
def k0_off27 (i : grid0.Coords) : Fin 2 → Nat :=
  let arg0 : BitVec 32 := BitVec.ofNat 32 (i 0).val
  let v210 : Index := Scalar.indexCast arg0
  let c24 : Index := 24#32
  ![v210.toNat, 24]
def k0_off28 (i : grid0.Coords) : Fin 2 → Nat :=
  let arg0 : BitVec 32 := BitVec.ofNat 32 (i 0).val
  let v218 : Index := Scalar.indexCast arg0
  let c25 : Index := 25#32
  ![v218.toNat, 25]
def k0_off29 (i : grid0.Coords) : Fin 2 → Nat :=
  let arg0 : BitVec 32 := BitVec.ofNat 32 (i 0).val
  let v226 : Index := Scalar.indexCast arg0
  let c26 : Index := 26#32
  ![v226.toNat, 26]
def k0_off30 (i : grid0.Coords) : Fin 2 → Nat :=
  let arg0 : BitVec 32 := BitVec.ofNat 32 (i 0).val
  let v234 : Index := Scalar.indexCast arg0
  let c27 : Index := 27#32
  ![v234.toNat, 27]
def k0_off31 (i : grid0.Coords) : Fin 2 → Nat :=
  let arg0 : BitVec 32 := BitVec.ofNat 32 (i 0).val
  let v242 : Index := Scalar.indexCast arg0
  let c28 : Index := 28#32
  ![v242.toNat, 28]
def k0_off32 (i : grid0.Coords) : Fin 2 → Nat :=
  let arg0 : BitVec 32 := BitVec.ofNat 32 (i 0).val
  let v250 : Index := Scalar.indexCast arg0
  let c29 : Index := 29#32
  ![v250.toNat, 29]
def k0_off33 (i : grid0.Coords) : Fin 2 → Nat :=
  let arg0 : BitVec 32 := BitVec.ofNat 32 (i 0).val
  let v258 : Index := Scalar.indexCast arg0
  let c30 : Index := 30#32
  ![v258.toNat, 30]
def k0_cond1 (i : grid0.Coords) : BitVec 1 :=
  let arg1 : BitVec 32 := BitVec.ofNat 32 (i 1).val
  let c0_i32_8160 : BitVec 32 := 0#32
  let v14522 : BitVec 1 := Scalar.cmpi .eq arg1 c0_i32_8160
  let v14523 : BitVec 32 := Scalar.extui v14522
  let c0_i32_8161 : BitVec 32 := 0#32
  let v14524 : BitVec 1 := Scalar.cmpi .ne v14523 c0_i32_8161
  v14524

def k0_cond2 (i : grid0.Coords) : BitVec 1 :=
  let arg1 : BitVec 32 := BitVec.ofNat 32 (i 1).val
  let c0_i32_8162 : BitVec 32 := 0#32
  let v14525 : BitVec 1 := Scalar.cmpi .ne arg1 c0_i32_8162
  let v14526 : BitVec 32 := Scalar.extui v14525
  let c0_i32_8163 : BitVec 32 := 0#32
  let v14527 : BitVec 1 := Scalar.cmpi .ne v14526 c0_i32_8163
  v14527

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S3x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S3x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S3x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S3x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S24x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x3072x96 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x3072x96 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x3072x96 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x3072x96 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x3072x96 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x3072x96 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x3072x96 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S3x3072x24x96 : Shape := ⟨4, ![3, 3072, 24, 96]⟩
abbrev S3x24 : Shape := ⟨2, ![3, 24]⟩
abbrev S24x32 : Shape := ⟨2, ![24, 32]⟩
abbrev S3072x3072 : Shape := ⟨2, ![3072, 3072]⟩
abbrev S3x24x3072x96 : Shape := ⟨4, ![3, 24, 3072, 96]⟩
abbrev S3072 : Shape := ⟨1, ![3072]⟩
abbrev S1x3072 : Shape := ⟨2, ![1, 3072]⟩
abbrev S3072x1 : Shape := ⟨2, ![3072, 1]⟩
abbrev S3x24x3072x3072 : Shape := ⟨4, ![3, 24, 3072, 3072]⟩
abbrev S_ : Shape := ⟨0, ![]⟩
abbrev S3x24x1x1 : Shape := ⟨4, ![3, 24, 1, 1]⟩
abbrev S3072x3072x1 : Shape := ⟨3, ![3072, 3072, 1]⟩
abbrev S24x3072x3072 : Shape := ⟨3, ![24, 3072, 3072]⟩
abbrev S1x24x3072x3072 : Shape := ⟨4, ![1, 24, 3072, 3072]⟩
abbrev S3x24x3072 : Shape := ⟨3, ![3, 24, 3072]⟩
abbrev S3x24x3072x1 : Shape := ⟨4, ![3, 24, 3072, 1]⟩

abbrev nBuf : Space → Nat
  | .hbm => 98
  | .vmem => 9
  | .smem => 0
  | _ => 0

abbrev bufTy : (tb : Table) → Fin (tcTables nBuf tb) → BufTy
  | .hbm, ⟨0, _⟩ => ⟨S3x3072x24x96, .fp8e4m3⟩
  | .hbm, ⟨1, _⟩ => ⟨S3x3072x24x96, .fp8e4m3⟩
  | .hbm, ⟨2, _⟩ => ⟨S3x3072x24x96, .fp8e4m3⟩
  | .hbm, ⟨3, _⟩ => ⟨S3x24, .f32⟩
  | .hbm, ⟨4, _⟩ => ⟨S3x24, .f32⟩
  | .hbm, ⟨5, _⟩ => ⟨S3x24, .f32⟩
  | .hbm, ⟨6, _⟩ => ⟨S3x3072x24x96, .fp8e5m2⟩
  | .hbm, ⟨7, _⟩ => ⟨S3x24, .f32⟩
  | .hbm, ⟨8, _⟩ => ⟨S24x32, .f32⟩
  | .hbm, ⟨9, _⟩ => ⟨S3x3072x24x96, .bf16⟩
  | .hbm, ⟨10, _⟩ => ⟨S3x3072x24x96, .bf16⟩
  | .hbm, ⟨11, _⟩ => ⟨S3x3072x24x96, .bf16⟩
  | .hbm, ⟨12, _⟩ => ⟨S3x3072x24x96, .bf16⟩
  | .hbm, ⟨13, _⟩ => ⟨S3072x3072, .i32⟩
  | .hbm, ⟨14, _⟩ => ⟨S3x24x3072x96, .bf16⟩
  | .hbm, ⟨15, _⟩ => ⟨S3x24x3072x96, .bf16⟩
  | .hbm, ⟨16, _⟩ => ⟨S3x24x3072x96, .bf16⟩
  | .hbm, ⟨17, _⟩ => ⟨S3x24x3072x96, .bf16⟩
  | .hbm, ⟨18, _⟩ => ⟨S3072, .i32⟩
  | .hbm, ⟨19, _⟩ => ⟨S1x3072, .i32⟩
  | .hbm, ⟨20, _⟩ => ⟨S3072x1, .i32⟩
  | .hbm, ⟨21, _⟩ => ⟨S3072x3072, .i32⟩
  | .hbm, ⟨22, _⟩ => ⟨S3072x3072, .i32⟩
  | .hbm, ⟨23, _⟩ => ⟨S3072x3072, .i1⟩
  | .hbm, ⟨24, _⟩ => ⟨S3x24x3072x3072, .f32⟩
  | .hbm, ⟨25, _⟩ => ⟨S_, .f32⟩
  | .hbm, ⟨26, _⟩ => ⟨S3x24, .f32⟩
  | .hbm, ⟨27, _⟩ => ⟨S3x24, .f32⟩
  | .hbm, ⟨28, _⟩ => ⟨S3x24, .f32⟩
  | .hbm, ⟨29, _⟩ => ⟨S3x24x1x1, .f32⟩
  | .hbm, ⟨30, _⟩ => ⟨S3x24x3072x3072, .f32⟩
  | .hbm, ⟨31, _⟩ => ⟨S3x24x3072x3072, .f32⟩
  | .hbm, ⟨32, _⟩ => ⟨S_, .i32⟩
  | .hbm, ⟨33, _⟩ => ⟨S3072x3072, .i32⟩
  | .hbm, ⟨34, _⟩ => ⟨S3072x3072, .i1⟩
  | .hbm, ⟨35, _⟩ => ⟨S_, .i32⟩
  | .hbm, ⟨36, _⟩ => ⟨S3072x3072, .i32⟩
  | .hbm, ⟨37, _⟩ => ⟨S3072x3072, .i32⟩
  | .hbm, ⟨38, _⟩ => ⟨S3072x3072, .i32⟩
  | .hbm, ⟨39, _⟩ => ⟨S3072x3072x1, .i32⟩
  | .hbm, ⟨40, _⟩ => ⟨S24x3072x3072, .f32⟩
  | .hbm, ⟨41, _⟩ => ⟨S1x24x3072x3072, .f32⟩
  | .hbm, ⟨42, _⟩ => ⟨S3x24x3072x3072, .f32⟩
  | .hbm, ⟨43, _⟩ => ⟨S3x24x3072x3072, .f32⟩
  | .hbm, ⟨44, _⟩ => ⟨S_, .f32⟩
  | .hbm, ⟨45, _⟩ => ⟨S_, .f32⟩
  | .hbm, ⟨46, _⟩ => ⟨S3x24x3072x3072, .i1⟩
  | .hbm, ⟨47, _⟩ => ⟨S3x24x3072x3072, .f32⟩
  | .hbm, ⟨48, _⟩ => ⟨S3x24x3072x3072, .f32⟩
  | .hbm, ⟨49, _⟩ => ⟨S_, .f32⟩
  | .hbm, ⟨50, _⟩ => ⟨S3x24x3072, .f32⟩
  | .hbm, ⟨51, _⟩ => ⟨S3x24x3072x1, .f32⟩
  | .hbm, ⟨52, _⟩ => ⟨S3x24x3072x3072, .f32⟩
  | .hbm, ⟨53, _⟩ => ⟨S3x24x3072x3072, .f32⟩
  | .hbm, ⟨54, _⟩ => ⟨S3x24x3072x3072, .f32⟩
  | .hbm, ⟨55, _⟩ => ⟨S_, .f32⟩
  | .hbm, ⟨56, _⟩ => ⟨S3x24x3072, .f32⟩
  | .hbm, ⟨57, _⟩ => ⟨S3x24x3072x1, .f32⟩
  | .hbm, ⟨58, _⟩ => ⟨S_, .f32⟩
  | .hbm, ⟨59, _⟩ => ⟨S3x24x3072x1, .f32⟩
  | .hbm, ⟨60, _⟩ => ⟨S3x24x3072x1, .f32⟩
  | .hbm, ⟨61, _⟩ => ⟨S3x24x3072x3072, .f32⟩
  | .hbm, ⟨62, _⟩ => ⟨S3x24x3072x3072, .f32⟩
  | .hbm, ⟨63, _⟩ => ⟨S3x24x3072x3072, .f32⟩
  | .hbm, ⟨64, _⟩ => ⟨S3x24, .f32⟩
  | .hbm, ⟨65, _⟩ => ⟨S3x24x1x1, .f32⟩
  | .hbm, ⟨66, _⟩ => ⟨S3x24x3072x3072, .f32⟩
  | .hbm, ⟨67, _⟩ => ⟨S3x24x3072x3072, .f32⟩
  | .hbm, ⟨68, _⟩ => ⟨S3x24x3072x3072, .f32⟩
  | .hbm, ⟨69, _⟩ => ⟨S_, .f32⟩
  | .hbm, ⟨70, _⟩ => ⟨S3x24x3072, .f32⟩
  | .hbm, ⟨71, _⟩ => ⟨S3x24x3072x1, .f32⟩
  | .hbm, ⟨72, _⟩ => ⟨S3x24x3072x3072, .f32⟩
  | .hbm, ⟨73, _⟩ => ⟨S3x24x3072x3072, .f32⟩
  | .hbm, ⟨74, _⟩ => ⟨S3x24x3072x3072, .f32⟩
  | .hbm, ⟨75, _⟩ => ⟨S3x24x3072x3072, .bf16⟩
  | .hbm, ⟨76, _⟩ => ⟨S3x24x3072x96, .f32⟩
  | .hbm, ⟨77, _⟩ => ⟨S3x24x3072x96, .f32⟩
  | .hbm, ⟨78, _⟩ => ⟨S3x24x3072x3072, .bf16⟩
  | .hbm, ⟨79, _⟩ => ⟨S3x24x3072x96, .f32⟩
  | .hbm, ⟨80, _⟩ => ⟨S_, .f32⟩
  | .hbm, ⟨81, _⟩ => ⟨S3x24, .f32⟩
  | .hbm, ⟨82, _⟩ => ⟨S3x24, .f32⟩
  | .hbm, ⟨83, _⟩ => ⟨S3x24x1x1, .f32⟩
  | .hbm, ⟨84, _⟩ => ⟨S3x24x3072x96, .f32⟩
  | .hbm, ⟨85, _⟩ => ⟨S3x24x3072x96, .f32⟩
  | .hbm, ⟨86, _⟩ => ⟨S3x24x3072x96, .bf16⟩
  | .hbm, ⟨87, _⟩ => ⟨S_, .f32⟩
  | .hbm, ⟨88, _⟩ => ⟨S3x24, .f32⟩
  | .hbm, ⟨89, _⟩ => ⟨S3x24, .f32⟩
  | .hbm, ⟨90, _⟩ => ⟨S3x24x1x1, .f32⟩
  | .hbm, ⟨91, _⟩ => ⟨S3x24x3072x96, .f32⟩
  | .hbm, ⟨92, _⟩ => ⟨S3x24x3072x96, .f32⟩
  | .hbm, ⟨93, _⟩ => ⟨S3x24x3072x96, .bf16⟩
  | .hbm, ⟨94, _⟩ => ⟨S3x24x1x1, .f32⟩
  | .hbm, ⟨95, _⟩ => ⟨S3x24x3072x96, .f32⟩
  | .hbm, ⟨96, _⟩ => ⟨S3x24x3072x96, .f32⟩
  | .hbm, ⟨97, _⟩ => ⟨S3x24x3072x96, .bf16⟩
  | .local _ .vmem, ⟨0, _⟩ => ⟨S3x3072x24x96, .fp8e4m3⟩
  | .local _ .vmem, ⟨1, _⟩ => ⟨S3x3072x24x96, .fp8e4m3⟩
  | .local _ .vmem, ⟨2, _⟩ => ⟨S3x3072x24x96, .fp8e4m3⟩
  | .local _ .vmem, ⟨3, _⟩ => ⟨S3x3072x24x96, .fp8e5m2⟩
  | .local _ .vmem, ⟨4, _⟩ => ⟨S3x3072x24x96, .bf16⟩
  | .local _ .vmem, ⟨5, _⟩ => ⟨S3x3072x24x96, .bf16⟩
  | .local _ .vmem, ⟨6, _⟩ => ⟨S3x3072x24x96, .bf16⟩
  | .local _ .vmem, ⟨7, _⟩ => ⟨S3x3072x24x96, .bf16⟩
  | .local _ .vmem, ⟨8, _⟩ => ⟨S3072x3072, .i32⟩
  | _, _ => ⟨S3x3072x24x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_6 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S3x3072x24x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3072x24x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3072x24x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x3072x24x96 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x3072x24x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x3072x24x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x3072x24x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x3072x24x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x3072 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Tiles.lean ====
module

public import proofs.«01_k».proof.KernelIdeal
public import Idealize.ShloMosaic.Lib.Pointwise
public import Idealize.ShloMosaic.Lib.WholeRead
public import Idealize.ShloMosaic.Lib.ValueLayout
public import Idealize.ShloMosaic.Lib.Pipeline.FrameBody

@[expose] public section

noncomputable section
namespace Cert.Attn
open Idealize.ShloMosaic
open scoped BigOperators

/-- The row coordinate of an index: its last coordinate but one. -/
def rowOf {s : Shape} (x : s.Idx) : ℕ := if h : 2 ≤ s.rank then (x ⟨s.rank - 2, by omega⟩).val else 0
/-- The column coordinate of an index: its last coordinate. -/
def colOf {s : Shape} (x : s.Idx) : ℕ := if h : 1 ≤ s.rank then (x ⟨s.rank - 1, by omega⟩).val else 0
/-- The tile of shape `s` of an (unbounded) matrix `f` whose first entry is `f r c`. -/
def tl (s : Shape) (f : ℕ → ℕ → EReal) (r c : ℕ) : s.Idx → EReal := fun x => f (r + rowOf x) (c + colOf x)

/-- An entry of a tile of rank one. -/
theorem tl_ix1 {b : ℕ} (f : ℕ → ℕ → EReal) (r c : ℕ) (j : Fin b) :
    (tl ⟨1, ![b]⟩ f r c) (ix1 j) = f r (c + j.val) := rfl
/-- An entry of a tile of rank two. -/
theorem tl_ix2 {a b : ℕ} (f : ℕ → ℕ → EReal) (r c : ℕ) (i : Fin a) (j : Fin b) :
    (tl ⟨2, ![a, b]⟩ f r c) (ix2 i j) = f (r + i.val) (c + j.val) := rfl
/-- An entry of a tile of rank three. -/
theorem tl_ix3 {a b d : ℕ} (f : ℕ → ℕ → EReal) (r c : ℕ) (k : Fin d) (i : Fin a) (j : Fin b) :
    (tl ⟨3, ![d, a, b]⟩ f r c) (ix3 k i j) = f (r + i.val) (c + j.val) := rfl
/-- An entry of a tile of rank four. -/
theorem tl_ix4 {a b d e : ℕ} (f : ℕ → ℕ → EReal) (r c : ℕ) (l : Fin e) (k : Fin d) (i : Fin a) (j : Fin b) :
    (tl ⟨4, ![e, d, a, b]⟩ f r c) (ix4 l k i j) = f (r + i.val) (c + j.val) := rfl

/-! ## Layout operations of tiles -/

/-- A leading unit axis added to a tile. -/
theorem cast_ab_1ab {a b : ℕ} (f : ℕ → ℕ → EReal) (r c : ℕ) (h : (⟨2, ![a, b]⟩ : Shape).ShapeCasts ⟨3, ![1, a, b]⟩) :
    shapeCast ⟨3, ![1, a, b]⟩ (tl ⟨2, ![a, b]⟩ f r c) h = (tl ⟨3, ![1, a, b]⟩ f r c) := by
  funext j; rw [ValueIdx.eq_ix3 j]; exact ValueIdx.shapeCast_ab_1ab_apply _ h _ _ _
/-- A leading unit axis dropped from a tile. -/
theorem cast_1ab_ab {a b : ℕ} (f : ℕ → ℕ → EReal) (r c : ℕ) (h : (⟨3, ![1, a, b]⟩ : Shape).ShapeCasts ⟨2, ![a, b]⟩) :
    shapeCast ⟨2, ![a, b]⟩ (tl ⟨3, ![1, a, b]⟩ f r c) h = (tl ⟨2, ![a, b]⟩ f r c) := by
  funext j; rw [ValueIdx.eq_ix2 j]; exact ValueIdx.shapeCast_1ab_ab_apply _ h _ _
/-- Two leading unit axes dropped from a tile. -/
theorem cast_11ab_ab {a b : ℕ} (f : ℕ → ℕ → EReal) (r c : ℕ) (h : (⟨4, ![1, 1, a, b]⟩ : Shape).ShapeCasts ⟨2, ![a, b]⟩) :
    shapeCast ⟨2, ![a, b]⟩ (tl ⟨4, ![1, 1, a, b]⟩ f r c) h = (tl ⟨2, ![a, b]⟩ f r c) := by
  funext j
  refine (shapeCast_apply _ h j (ix4 (0 : Fin 1) (0 : Fin 1) (j 0) (j 1)) ?_).trans rfl
  rw [Shape.rowMajor_val_four, Shape.rowMajor_val_two]
  show ((0 * 1 + 0) * a + (j 0).val) * b + (j 1).val = (j 0).val * b + (j 1).val
  simp only [Nat.zero_mul, Nat.zero_add]
/-- Two leading unit axes added to a tile. -/
theorem cast_ab_11ab {a b : ℕ} (f : ℕ → ℕ → EReal) (r c : ℕ) (h : (⟨2, ![a, b]⟩ : Shape).ShapeCasts ⟨4, ![1, 1, a, b]⟩) :
    shapeCast ⟨4, ![1, 1, a, b]⟩ (tl ⟨2, ![a, b]⟩ f r c) h = (tl ⟨4, ![1, 1, a, b]⟩ f r c) := by
  funext j
  refine (shapeCast_apply _ h j (ix2 (j 2) (j 3)) ?_).trans rfl
  rw [Shape.rowMajor_val_four, Shape.rowMajor_val_two]
  have h0 : (j 0).val = 0 := by have : (j 0).val < 1 := (j 0).isLt; omega
  have h1 : (j 1).val = 0 := by have : (j 1).val < 1 := (j 1).isLt; omega
  show (j 2).val * b + (j 3).val = (((j 0).val * 1 + (j 1).val) * a + (j 2).val) * b + (j 3).val
  simp only [h0, h1, Nat.zero_mul, Nat.zero_add]
/-- A vector made a row. -/
theorem cast_a_1a {b : ℕ} (f : ℕ → ℕ → EReal) (c : ℕ) (h : (⟨1, ![b]⟩ : Shape).ShapeCasts ⟨2, ![1, b]⟩) :
    shapeCast ⟨2, ![1, b]⟩ (tl ⟨1, ![b]⟩ f 0 c) h = (tl ⟨2, ![1, b]⟩ f 0 c) := by
  funext j
  have h0 : (j 0).val = 0 := by have : (j 0).val < 1 := (j 0).isLt; omega
  rw [ValueIdx.eq_ix2 j]
  refine (ValueIdx.shapeCast_a_1a_apply _ h _ _).trans ?_
  show f (0 + 0) (c + (j 1).val) = f (0 + (j 0).val) (c + (j 1).val)
  rw [h0]
/-- A cast to the same shape. -/
theorem cast_same {α : Type} {s : Shape} (x : s.Idx → α) (h : s.ShapeCasts s) : shapeCast s x h = x := by
  funext j; exact shapeCast_apply x h j j rfl

/-- A slice of a tile is a tile. -/
theorem slice_tl {a b a' b' : ℕ} (f : ℕ → ℕ → EReal) (r c o p : ℕ) (h : (⟨2, ![a, b]⟩ : Shape).Slices ![o, p] ⟨2, ![a', b']⟩) :
    extractStridedSlice ⟨2, ![a', b']⟩ ![o, p] (tl ⟨2, ![a, b]⟩ f r c) h = (tl ⟨2, ![a', b']⟩ f (r + o) (c + p)) := by
  funext j
  show f (r + (o + (j 0).val)) (c + (p + (j 1).val)) = f (r + o + (j 0).val) (c + p + (j 1).val)
  rw [Nat.add_assoc, Nat.add_assoc]

/-- The transpose of a matrix. -/
def tr (f : ℕ → ℕ → EReal) : ℕ → ℕ → EReal := fun i j => f j i
/-- The transpose of a tile. -/
theorem transpose_tl {a b : ℕ} (f : ℕ → ℕ → EReal) (r c : ℕ) (p : List (Fin (⟨2, ![a, b]⟩ : Shape).rank)) (hp : p = [1, 0])
    (h : (⟨2, ![a, b]⟩ : Shape).Transposes p ⟨2, ![b, a]⟩) :
    transpose ⟨2, ![b, a]⟩ p (tl ⟨2, ![a, b]⟩ f r c) h = (tl ⟨2, ![b, a]⟩ (tr f) c r) := by
  subst hp
  funext j; rw [ValueIdx.eq_ix2 j]; exact ValueIdx.transpose_ix2_apply _ h _ _

/-- Roundings are identities over the extended reals. -/
theorem truncf_tl {φ ψ : FTy} {s : Shape} (f : ℕ → ℕ → EReal) (r c : ℕ) (h : ψ.bits < φ.bits) :
    truncf (F := Ideal) (φ := φ) ψ (tl s f r c) h = tl s f r c := rfl
/-- Widening the entries of a tile does nothing in exact arithmetic. -/
theorem extf_tl {φ ψ : FTy} {s : Shape} (f : ℕ → ℕ → EReal) (r c : ℕ) (h : φ.bits < ψ.bits) :
    extf (F := Ideal) (φ := φ) ψ (tl s f r c) h = tl s f r c := rfl

/-! ## Loads -/

/-- The entry of a matrix under an entry of a rectangle. -/
theorem rectIdx_tl {a b a' b' : ℕ} (f : ℕ → ℕ → EReal) (r c : ℕ)
    (h : ∀ i : Fin 4, ![0, 0, r, c] i + ![1, 1, a', b'] i ≤ ![1, 1, a, b] i)
    (j : (⟨4, ![1, 1, a', b']⟩ : Shape).Idx) :
    tl ⟨4, ![1, 1, a, b]⟩ f 0 0 ((Rect.unit (s := ⟨4, ![1, 1, a, b]⟩) ![0, 0, r, c] ![1, 1, a', b'] h).toLoadRect.idx j)
      = tl ⟨4, ![1, 1, a', b']⟩ f r c j := by
  show f (0 + (r + 1 * (j 2).val)) (0 + (c + 1 * (j 3).val)) = f (r + (j 2).val) (c + (j 3).val)
  simp only [Nat.zero_add, Nat.one_mul]

/-- A load from an input block that holds a whole matrix. -/
theorem readAt_e4m3 {sig : RefSig} {κ : Kind} {sp : Space} {a b a' b' : ℕ} (m : Memref sig κ sp ⟨4, ![1, 1, a, b]⟩ .fp8e4m3) (hm : m.IsWhole)
    (f : ℕ → ℕ → EReal) (r c : ℕ)
    (h : ∀ i : Fin 4, ![0, 0, r, c] i + ![1, 1, a', b'] i ≤ ![1, 1, a, b] i) :
    View.readAt (Elt Ideal) m.view (Rect.unit (s := ⟨4, ![1, 1, a, b]⟩) ![0, 0, r, c] ![1, 1, a', b'] h).toLoadRect
      (hm.unread (tl ⟨4, ![1, 1, a, b]⟩ f 0 0)) = tl ⟨4, ![1, 1, a', b']⟩ f r c := by
  funext j; rw [hm.readAt_unread]; exact rectIdx_tl f r c h j
/-- A read of a slab of codes of the other 8-bit format, as a tile. -/
theorem readAt_e5m2 {sig : RefSig} {κ : Kind} {sp : Space} {a b a' b' : ℕ} (m : Memref sig κ sp ⟨4, ![1, 1, a, b]⟩ .fp8e5m2) (hm : m.IsWhole)
    (f : ℕ → ℕ → EReal) (r c : ℕ)
    (h : ∀ i : Fin 4, ![0, 0, r, c] i + ![1, 1, a', b'] i ≤ ![1, 1, a, b] i) :
    View.readAt (Elt Ideal) m.view (Rect.unit (s := ⟨4, ![1, 1, a, b]⟩) ![0, 0, r, c] ![1, 1, a', b'] h).toLoadRect
      (hm.unread (tl ⟨4, ![1, 1, a, b]⟩ f 0 0)) = tl ⟨4, ![1, 1, a', b']⟩ f r c := by
  funext j; rw [hm.readAt_unread]; exact rectIdx_tl f r c h j

/-- A load of a part of a scratch buffer that was filled with a whole matrix. -/
theorem readCov_whole {sig : RefSig} {κ : Kind} {sp : Space} {a b a' b' : ℕ} (v : View sig κ sp ⟨2, ![a, b]⟩ .bf16)
    (f : ℕ → ℕ → EReal) (r c : ℕ)
    (h0 : ∀ i : Fin 2, ![0, 0] i + ![a, b] i ≤ ![a, b] i)
    (h : ∀ i : Fin 2, ![r, c] i + ![a', b'] i ≤ ![a, b] i) :
    v.readCov (Val := Elt Ideal) [⟨Rect.unit (s := ⟨2, ![a, b]⟩) ![0, 0] ![a, b] h0, tl ⟨2, ![a, b]⟩ f 0 0⟩]
      (Rect.unit (s := ⟨2, ![a, b]⟩) ![r, c] ![a', b'] h).toLoadRect = tl ⟨2, ![a', b']⟩ f r c := by
  rw [View.readCov_eq_canon']
  funext j
  have e : (Rect.unit (s := ⟨2, ![a, b]⟩) ![r, c] ![a', b'] h).toLoadRect.idx j
      = (Rect.unit (s := ⟨2, ![a, b]⟩) ![0, 0] ![a, b] h0).emb
        ((Rect.unit (s := ⟨2, ![a, b]⟩) ![r, c] ![a', b'] h).toLoadRect.idx j) := by
    funext d; apply Fin.ext
    match d with
    | ⟨0, _⟩ => show r + 1 * (j 0).val = 0 + 1 * (r + 1 * (j 0).val); omega
    | ⟨1, _⟩ => show c + 1 * (j 1).val = 0 + 1 * (c + 1 * (j 1).val); omega
  rw [e, View.canon_cons_emb]
  show f (0 + (r + 1 * (j 0).val)) (0 + (c + 1 * (j 1).val)) = f (r + (j 0).val) (c + (j 1).val)
  simp only [Nat.zero_add, Nat.one_mul]

/-- A load of the box just stored. -/
theorem readCov_hit {sig : RefSig} {κ : Kind} {sp : Space} {s : Shape} (v : View sig κ sp s .f32) (r : Rect s)
    (w : r.shape.Idx → EReal) (L : List (View.Piece (Elt Ideal) s .f32)) :
    v.readCov (Val := Elt Ideal) (⟨r, w⟩ :: L) r.toLoadRect = w := View.readCov_cons_toLoadRect v r w L

/-- Two boxes of three axes that some axis separates. -/
theorem readCov_skip3 {sig : RefSig} {κ : Kind} {sp : Space} {n a b : ℕ} (v : View sig κ sp ⟨3, ![n, a, b]⟩ .f32)
    (o p q o' p' q' : ℕ)
    (h : ∀ i : Fin 3, ![o, p, q] i + ![1, 128, 128] i ≤ ![n, a, b] i) (h' : ∀ i : Fin 3, ![o', p', q'] i + ![1, 128, 128] i ≤ ![n, a, b] i)
    (w : (⟨3, ![1, 128, 128]⟩ : Shape).Idx → EReal) (L : List (View.Piece (Elt Ideal) ⟨3, ![n, a, b]⟩ .f32))
    (sep : o ≠ o' ∨ p + 127 < p' ∨ p' + 127 < p ∨ q + 127 < q' ∨ q' + 127 < q) :
    v.readCov (Val := Elt Ideal) (⟨Rect.unit (s := ⟨3, ![n, a, b]⟩) ![o, p, q] ![1, 128, 128] h, w⟩ :: L)
        (Rect.unit (s := ⟨3, ![n, a, b]⟩) ![o', p', q'] ![1, 128, 128] h').toLoadRect
      = v.readCov (Val := Elt Ideal) L (Rect.unit (s := ⟨3, ![n, a, b]⟩) ![o', p', q'] ![1, 128, 128] h').toLoadRect := by
  apply View.readCov_cons_of_disjoint
  rw [Finset.disjoint_left]
  intro x hx hx'
  obtain ⟨y, rfl⟩ := LoadRect.exists_idx_of_mem _ hx
  obtain ⟨z, e⟩ := LoadRect.exists_idx_of_mem _ hx'
  have e0 : o' + 1 * (z 0).val = o + 1 * (y 0).val := congrArg (fun t => (t (0 : Fin 3)).val) e
  have e1 : p' + 1 * (z 1).val = p + 1 * (y 1).val := congrArg (fun t => (t (1 : Fin 3)).val) e
  have e2 : q' + 1 * (z 2).val = q + 1 * (y 2).val := congrArg (fun t => (t (2 : Fin 3)).val) e
  have z0 : (z 0).val < 1 := (z 0).isLt
  have y0 : (y 0).val < 1 := (y 0).isLt
  have z1 : (z 1).val < 128 := (z 1).isLt
  have y1 : (y 1).val < 128 := (y 1).isLt
  have z2 : (z 2).val < 128 := (z 2).isLt
  have y2 : (y 2).val < 128 := (y 2).isLt
  omega

/-- Two column blocks that do not meet. -/
theorem readCov_skip2 {sig : RefSig} {κ : Kind} {sp : Space} {a b m m' : ℕ} (v : View sig κ sp ⟨2, ![a, b]⟩ .f32)
    (q q' : ℕ)
    (h : ∀ i : Fin 2, ![0, q] i + ![a, m] i ≤ ![a, b] i) (h' : ∀ i : Fin 2, ![0, q'] i + ![a, m'] i ≤ ![a, b] i)
    (w : (⟨2, ![a, m]⟩ : Shape).Idx → EReal) (L : List (View.Piece (Elt Ideal) ⟨2, ![a, b]⟩ .f32))
    (sep : q + m ≤ q' ∨ q' + m' ≤ q) :
    v.readCov (Val := Elt Ideal) (⟨Rect.unit (s := ⟨2, ![a, b]⟩) ![0, q] ![a, m] h, w⟩ :: L)
        (Rect.unit (s := ⟨2, ![a, b]⟩) ![0, q'] ![a, m'] h').toLoadRect
      = v.readCov (Val := Elt Ideal) L (Rect.unit (s := ⟨2, ![a, b]⟩) ![0, q'] ![a, m'] h').toLoadRect := by
  apply View.readCov_cons_of_disjoint
  rw [Finset.disjoint_left]
  intro x hx hx'
  obtain ⟨y, rfl⟩ := LoadRect.exists_idx_of_mem _ hx
  obtain ⟨z, e⟩ := LoadRect.exists_idx_of_mem _ hx'
  have e1 : q' + 1 * (z 1).val = q + 1 * (y 1).val := congrArg (fun t => (t (1 : Fin 2)).val) e
  have z1 : (z 1).val < m' := (z 1).isLt
  have y1 : (y 1).val < m := (y 1).isLt
  omega

/-- A load of 512 columns whose two halves are the last two stores. -/
theorem readCov_pair {sig : RefSig} {κ : Kind} {sp : Space} {a b : ℕ} (v : View sig κ sp ⟨2, ![a, b]⟩ .f32)
    (f : ℕ → ℕ → EReal) (c c' : ℕ) (hc : c' = c + 256)
    (h : ∀ i : Fin 2, ![0, c'] i + ![a, 256] i ≤ ![a, b] i) (h' : ∀ i : Fin 2, ![0, c] i + ![a, 256] i ≤ ![a, b] i)
    (h'' : ∀ i : Fin 2, ![0, c] i + ![a, 512] i ≤ ![a, b] i)
    (L : List (View.Piece (Elt Ideal) ⟨2, ![a, b]⟩ .f32)) :
    v.readCov (Val := Elt Ideal)
        (⟨Rect.unit (s := ⟨2, ![a, b]⟩) ![0, c'] ![a, 256] h, tl ⟨2, ![a, 256]⟩ f 0 c'⟩ ::
         ⟨Rect.unit (s := ⟨2, ![a, b]⟩) ![0, c] ![a, 256] h', tl ⟨2, ![a, 256]⟩ f 0 c⟩ :: L)
        (Rect.unit (s := ⟨2, ![a, b]⟩) ![0, c] ![a, 512] h'').toLoadRect
      = tl ⟨2, ![a, 512]⟩ f 0 c := by
  subst hc
  rw [View.readCov_eq_canon']
  funext j
  have j1 : (j 1).val < 512 := (j 1).isLt
  have j0 : (j 0).val < a := (j 0).isLt
  by_cases hj : (j 1).val < 256
  · rw [View.canon_cons_of_not_mem]
    · let y : (⟨2, ![a, 256]⟩ : Shape).Idx := ix2 ⟨(j 0).val, j0⟩ ⟨(j 1).val, hj⟩
      have e : (Rect.unit (s := ⟨2, ![a, b]⟩) ![0, c] ![a, 512] h'').toLoadRect.idx j
          = (Rect.unit (s := ⟨2, ![a, b]⟩) ![0, c] ![a, 256] h').emb y := by
        funext d; apply Fin.ext
        match d with
        | ⟨0, _⟩ => rfl
        | ⟨1, _⟩ => rfl
      rw [e, View.canon_cons_emb]; rfl
    · intro hx
      obtain ⟨z, e⟩ := LoadRect.exists_idx_of_mem _ hx
      have e1 : c + 256 + 1 * (z 1).val = c + 1 * (j 1).val := congrArg (fun t => (t (1 : Fin 2)).val) e
      omega
  · have hj' : (j 1).val - 256 < 256 := by omega
    let y : (⟨2, ![a, 256]⟩ : Shape).Idx := ix2 ⟨(j 0).val, j0⟩ ⟨(j 1).val - 256, hj'⟩
    have e : (Rect.unit (s := ⟨2, ![a, b]⟩) ![0, c] ![a, 512] h'').toLoadRect.idx j
        = (Rect.unit (s := ⟨2, ![a, b]⟩) ![0, c + 256] ![a, 256] h).emb y := by
      funext d; apply Fin.ext
      match d with
      | ⟨0, _⟩ => rfl
      | ⟨1, _⟩ => show c + 1 * (j 1).val = c + 256 + 1 * ((j 1).val - 256); omega
    rw [e, View.canon_cons_emb]
    show f (0 + (j 0).val) (c + 256 + ((j 1).val - 256)) = f (0 + (j 0).val) (c + (j 1).val)
    congr 1; omega

end Cert.Attn
-- ==== Proof.Strips.lean ====
module

public import proofs.«01_k».proof.Proof.Tiles

@[expose] public section

noncomputable section
namespace Cert.Attn
open Idealize.ShloMosaic Cert.KernelIdeal
open scoped BigOperators

/-! ## Matrix combinators -/

/-- `Σ_{lo ≤ x < hi} f i x · g j x`: both operands contracted along their columns. -/
def nt (f g : ℕ → ℕ → EReal) (lo hi : ℕ) : ℕ → ℕ → EReal := fun i j => ∑ x ∈ Finset.Ico lo hi, f i x * g j x
/-- `Σ_{lo ≤ x < hi} f i x · g x j`. -/
def nn (f g : ℕ → ℕ → EReal) (lo hi : ℕ) : ℕ → ℕ → EReal := fun i j => ∑ x ∈ Finset.Ico lo hi, f i x * g x j
/-- The product of all 3072 positions, both operands contracted along their columns. -/
def ntF (f g : ℕ → ℕ → EReal) : ℕ → ℕ → EReal := nt f g 0 3072
/-- The product of all 3072 positions, the second operand contracted along its rows. -/
def nnF (f g : ℕ → ℕ → EReal) : ℕ → ℕ → EReal := nn f g 0 3072
/-- A matrix times a scalar. -/
def sc (f : ℕ → ℕ → EReal) (x : EReal) : ℕ → ℕ → EReal := fun i j => f i j * x
/-- The matrix all of whose rows are the first row of `f`. -/
def row (f : ℕ → ℕ → EReal) : ℕ → ℕ → EReal := fun _ j => f 0 j
/-- Sums of the rows `8 j + s`, `lo ≤ j < hi`, for each residue `s`. -/
def sums (f : ℕ → ℕ → EReal) (lo hi : ℕ) : ℕ → ℕ → EReal := fun s q => ∑ j ∈ Finset.Ico lo hi, f (8 * j + s) q
/-- Maxima of the rows `8 j + s`, `lo ≤ j < hi`, for each residue `s`. -/
def maxs (f : ℕ → ℕ → EReal) (lo hi : ℕ) : ℕ → ℕ → EReal := fun s q => (Finset.Ico lo hi).sup fun j => f (8 * j + s) q
/-- The same over all rows. -/
def sumF (f : ℕ → ℕ → EReal) : ℕ → ℕ → EReal := sums f 0 384
/-- The same over all rows. -/
def maxF (f : ℕ → ℕ → EReal) : ℕ → ℕ → EReal := maxs f 0 384
/-- The sum of each column, from the eight partial ones. -/
def colSum (f : ℕ → ℕ → EReal) : ℕ → ℕ → EReal := fun _ q => ∑ s ∈ Finset.range 8, sumF f s q
/-- The maximum of each column. -/
def colMax (f : ℕ → ℕ → EReal) : ℕ → ℕ → EReal := fun _ q => (Finset.range 8).sup fun s => maxF f s q
/-- `f k q = 0` wherever position `k` comes after position `q`. -/
def Van (f : ℕ → ℕ → EReal) : Prop := ∀ k q, q < k → f k q = 0

/-- The data of one attention head: the four code matrices by (position, channel), the bias by distance, the scales. -/
structure Env where
  K : ℕ → ℕ → EReal
  Q : ℕ → ℕ → EReal
  V : ℕ → ℕ → EReal
  O : ℕ → ℕ → EReal
  ts : EReal
  dqs : EReal
  dks : EReal
  dvs : EReal
  bd : ℕ → EReal
  far : ∀ n, 113 ≤ n → bd n = 0

namespace Env
variable (E : Env)
/-- Bias by (key, query), `⊥` above the causal diagonal. -/
def BD : ℕ → ℕ → EReal := fun k q => if k ≤ q then E.bd (q - k) else ⊥
/-- Scaled scores by (key, query), without bias. -/
def T0 : ℕ → ℕ → EReal := fun k q => nt E.K E.Q 0 96 k q * E.ts
/-- The masked score with its bias, in units of `log 2`; minus infinity for a key after its query. -/
def T : ℕ → ℕ → EReal := fun k q => E.T0 k q + E.BD k q
/-- Unnormalised probabilities. -/
def P : ℕ → ℕ → EReal := fun k q => Ideal.exp2 (E.T k q - colMax E.T 0 q)
/-- The unnormalised probability times `dP`. -/
def PDP : ℕ → ℕ → EReal := fun k q => E.P k q * nt E.V E.O 0 96 k q
/-- One over the sum of a column of unnormalised probabilities. -/
def INV : ℕ → ℕ → EReal := fun r q => Ideal.div 1 (colSum E.P r q)
/-- The row term of the softmax gradient: the sum of probability times `dP`. -/
def DROW : ℕ → ℕ → EReal := fun r q => colSum E.PDP r q * E.INV r q
/-- Normalised probabilities. -/
def PN : ℕ → ℕ → EReal := fun k q => E.P k q * E.INV 0 q
/-- `dP` less the row term. -/
def DM : ℕ → ℕ → EReal := fun k q => nt E.V E.O 0 96 k q - E.DROW 0 q
/-- The gradient of the scores. -/
def DS : ℕ → ℕ → EReal := fun k q => E.PN k q * E.DM k q

/-- A key after its query scores minus infinity. -/
theorem T_van (k q : ℕ) (h : q < k) : E.T k q = ⊥ := by
  simp only [T, BD, if_neg (Nat.not_le.mpr h), EReal.add_bot]
/-- Its probability is zero. -/
theorem P_van : Van E.P := fun k q h => by
  simp only [P, T_van E k q h]
  rw [sub_eq_add_neg, EReal.bot_add]; rfl
/-- So is its probability times `dP`. -/
theorem PDP_van : Van E.PDP := fun k q h => by simp only [PDP, P_van E k q h, zero_mul]
/-- So is its normalised probability. -/
theorem PN_van : Van E.PN := fun k q h => by simp only [PN, P_van E k q h, zero_mul]
/-- So is its score gradient. -/
theorem DS_van : Van E.DS := fun k q h => by simp only [DS, PN_van E k q h, zero_mul]
end Env

variable [Facts₀]
variable (E : Env)

/-! ## The steps of the kernel on tiles -/

/-- A tile of scores times their scale. -/
theorem mul_ts {s : Shape} (r c : ℕ) :
    mulf (F := Ideal) (φ := .f32) (tl s (nt E.K E.Q 0 96) r c) (broadcast s E.ts) = tl s E.T0 r c := rfl

/-- A tile of scores plus the tile of biases at the same distances is a tile of biased scores. -/
theorem add_bias (r c a b : ℕ) (h : a + c = r + b) :
    addf (F := Ideal) (φ := .f32) (tl S128x128 E.T0 r c) (tl S128x128 E.BD a b) = tl S128x128 E.T r c := by
  funext x
  show E.T0 (r + rowOf x) (c + colOf x) + E.BD (a + rowOf x) (b + colOf x) = E.T0 (r + rowOf x) (c + colOf x) + E.BD (r + rowOf x) (c + colOf x)
  congr 1
  simp only [Env.BD]
  by_cases hk : a + rowOf x ≤ b + colOf x
  · rw [if_pos hk, if_pos (by omega)]; exact congrArg E.bd (by omega)
  · rw [if_neg hk, if_neg (by omega)]

/-- Far from the diagonal the bias is zero, so a tile of scores is a tile of biased scores. -/
theorem far_tile (r c : ℕ) (h : r + 255 < c) : tl S128x128 E.T0 r c = tl S128x128 E.T r c := by
  funext x
  have hx : rowOf x < 128 := (x 0).isLt
  show E.T0 (r + rowOf x) (c + colOf x) = E.T0 (r + rowOf x) (c + colOf x) + E.BD (r + rowOf x) (c + colOf x)
  simp only [Env.BD]
  rw [if_pos (by omega), E.far _ (by omega), add_zero]

/-- Two adjacent ranges of maxima combine. -/
theorem maxs_step {s : Shape} (r c lo mi hi : ℕ) (h : lo ≤ mi ∧ mi ≤ hi) (f : ℕ → ℕ → EReal) :
    maximumf (F := Ideal) (φ := .f32) (tl s (maxs f lo mi) r c) (tl s (maxs f mi hi) r c) = tl s (maxs f lo hi) r c := by
  funext x
  show max ((Finset.Ico lo mi).sup _) ((Finset.Ico mi hi).sup _) = (Finset.Ico lo hi).sup _
  rw [← Finset.Ico_union_Ico_eq_Ico h.1 h.2, Finset.sup_union]
/-- Two adjacent ranges of sums combine. -/
theorem sums_step {s : Shape} (r c lo mi hi : ℕ) (h : lo ≤ mi ∧ mi ≤ hi) (f : ℕ → ℕ → EReal) :
    addf (F := Ideal) (φ := .f32) (tl s (sums f lo mi) r c) (tl s (sums f mi hi) r c) = tl s (sums f lo hi) r c := by
  funext x
  exact Finset.sum_Ico_consecutive _ h.1 h.2
/-- Two adjacent ranges of a product along columns combine. -/
theorem nt_step {s : Shape} (r c lo mi hi : ℕ) (h : lo ≤ mi ∧ mi ≤ hi) (f g : ℕ → ℕ → EReal) :
    addf (F := Ideal) (φ := .f32) (tl s (nt f g mi hi) r c) (tl s (nt f g lo mi) r c) = tl s (nt f g lo hi) r c := by
  funext x
  refine (add_comm _ _).trans ?_
  exact Finset.sum_Ico_consecutive _ h.1 h.2
/-- Two adjacent ranges of a product along rows combine. -/
theorem nn_step {s : Shape} (r c lo mi hi : ℕ) (h : lo ≤ mi ∧ mi ≤ hi) (f g : ℕ → ℕ → EReal) :
    addf (F := Ideal) (φ := .f32) (tl s (nn f g lo mi) r c) (tl s (nn f g mi hi) r c) = tl s (nn f g lo hi) r c := by
  funext x
  exact Finset.sum_Ico_consecutive _ h.1 h.2

/-- Adding to a zero tile changes nothing. -/
theorem zero_add_tile {s : Shape} (x : s.Idx → EReal) :
    addf (F := Ideal) (φ := .f32) (constant (F := Ideal) s .f32 0#32) x = x := by
  funext j
  show Ideal.ofBits .f32 0#32 + x j = x j
  rw [Ideal.ofBits_zero_f32, zero_add]

/-- The same for a zero spread over a tile. -/
theorem zero_add_bcast {s : Shape} (x : s.Idx → EReal) :
    addf (F := Ideal) (φ := .f32) (broadcast s (FloatOps.ofBits (F := Ideal) FTy.f32 0#32)) x = x := zero_add_tile x

/-- Zero terms at the end of a sum may be put back. -/
theorem sum_trim (u : ℕ → EReal) {lo mi hi : ℕ} (h : lo ≤ mi) (h' : mi ≤ hi) (hu : ∀ j, mi ≤ j → u j = 0) :
    ∑ j ∈ Finset.Ico lo mi, u j = ∑ j ∈ Finset.Ico lo hi, u j := by
  rw [← Finset.sum_Ico_consecutive u h h', Finset.sum_eq_zero (s := Finset.Ico mi hi), add_zero]
  intro j hj
  exact hu j (Finset.mem_Ico.mp hj).1
/-- Zero terms at the start of a sum may be put back. -/
theorem sum_trim' (u : ℕ → EReal) {lo mi hi : ℕ} (h : lo ≤ mi) (h' : mi ≤ hi) (hu : ∀ j, j < mi → u j = 0) :
    ∑ j ∈ Finset.Ico mi hi, u j = ∑ j ∈ Finset.Ico lo hi, u j := by
  rw [← Finset.sum_Ico_consecutive u h h', Finset.sum_eq_zero (s := Finset.Ico lo mi), zero_add]
  intro j hj
  exact hu j (Finset.mem_Ico.mp hj).2

/-- A sum that stops at the diagonal is the sum over all rows, where the rest vanishes. -/
theorem sums_all (f : ℕ → ℕ → EReal) (hf : Van f) (c n : ℕ) (hn : 8 * n = c + 128) (hm : n ≤ 384) :
    tl S8x128 (sums f 0 n) 0 c = tl S8x128 (sumF f) 0 c := by
  funext x
  have hx : colOf x < 128 := (x 1).isLt
  exact sum_trim _ (Nat.zero_le n) hm fun j hj => hf _ _ (by omega)
/-- A maximum of scores that stops at the diagonal is the maximum over all rows. -/
theorem maxs_all (c n : ℕ) (hn : 8 * n = c + 128) (hm : n ≤ 384) :
    tl S8x128 (maxs E.T 0 n) 0 c = tl S8x128 (maxF E.T) 0 c := by
  funext x
  have hx : colOf x < 128 := (x 1).isLt
  show (Finset.Ico 0 n).sup (fun j => E.T (8 * j + (0 + rowOf x)) (c + colOf x)) = (Finset.Ico 0 384).sup (fun j => E.T (8 * j + (0 + rowOf x)) (c + colOf x))
  rw [← Finset.Ico_union_Ico_eq_Ico (Nat.zero_le n) hm, Finset.sup_union]
  rw [show (Finset.Ico n 384).sup (fun j => E.T (8 * j + (0 + rowOf x)) (c + colOf x)) = ⊥ from ?_, sup_bot_eq]
  refine (Finset.sup_congr rfl fun j hj => E.T_van _ _ ?_).trans (Finset.sup_bot _)
  have := (Finset.mem_Ico.mp hj).1; omega
/-- A product that starts at the diagonal is the product over all positions, where the rest vanishes. -/
theorem nt_all (f g : ℕ → ℕ → EReal) (hg : Van g) (lo c r : ℕ) (h : lo = c) (hc : lo ≤ 3072) :
    tl S96x256 (nt f g lo 3072) r c = tl S96x256 (ntF f g) r c := by
  subst h
  funext x
  exact sum_trim' _ (Nat.zero_le lo) hc fun j hj => by rw [hg _ _ (by omega), mul_zero]
/-- A product that stops at the diagonal is the product over all positions, where the rest vanishes. -/
theorem nn_all (f g : ℕ → ℕ → EReal) (hg : Van g) (hi c r : ℕ) (h : hi = c + 512) (hc : hi ≤ 3072) :
    tl S96x512 (nn f g 0 hi) r c = tl S96x512 (nnF f g) r c := by
  funext x
  have hx : colOf x < 512 := (x 1).isLt
  exact sum_trim _ (Nat.zero_le hi) hc fun j hj => by rw [hg _ _ (by omega), mul_zero]

/-- Sums over the first `n` numbers from `lo`. -/
theorem sum_fin (u : ℕ → EReal) (lo n : ℕ) : ∑ x : Fin n, u (lo + x.val) = ∑ x ∈ Finset.Ico lo (lo + n), u x := by
  rw [Finset.sum_Ico_eq_sum_range, Nat.add_sub_cancel_left]
  exact Fin.sum_univ_eq_sum_range (fun k => u (lo + k)) n
omit [Facts₀] in
/-- A maximum from minus infinity over `n` consecutive terms is their supremum. -/
theorem max_fin (u : ℕ → EReal) (lo n : ℕ) :
    Finset.fold max (Ideal.ofBits FTy.f32 4286578688#32) (fun x : Fin n => u (lo + x.val)) Finset.univ = (Finset.Ico lo (lo + n)).sup u := by
  rw [show Ideal.ofBits FTy.f32 4286578688#32 = (⊥ : EReal) from by simp [Ideal.ofBits, Ideal.ieee]]
  refine le_antisymm ?_ ?_
  · refine (Finset.fold_max_le _).mpr ⟨bot_le, fun x _ => ?_⟩
    exact Finset.le_sup (f := u) (Finset.mem_Ico.mpr ⟨by omega, by have := x.isLt; omega⟩)
  · refine Finset.sup_le fun j hj => ?_
    have := Finset.mem_Ico.mp hj
    exact (Finset.le_fold_max _).mpr (Or.inr ⟨⟨j - lo, by omega⟩, Finset.mem_univ _, le_of_eq (congrArg u (by show j = lo + (j - lo); omega))⟩)

/-! ## Reductions over the leading axis, named -/

/-- The sums along the first axis of sixteen. -/
def sum16 (x : S16x8x128.Idx → EReal) : S8x128.Idx → EReal := fun j => ∑ k : Fin 16, x (ix3 k (j 0) (j 1))
/-- The maxima along the first axis of sixteen. -/
def max16 (x : S16x8x128.Idx → EReal) : S8x128.Idx → EReal := fun j =>
  Finset.fold max (Ideal.ofBits FTy.f32 4286578688#32) (fun k : Fin 16 => x (ix3 k (j 0) (j 1))) Finset.univ
/-- The sums along the first axis of eight. -/
def sum8 (x : S8x512.Idx → EReal) : S512.Idx → EReal := fun j => ∑ k : Fin 8, x (ix2 k (j 0))
/-- The maxima along the first axis of eight. -/
def max8 (x : S8x512.Idx → EReal) : S512.Idx → EReal := fun j =>
  Finset.fold max (Ideal.ofBits FTy.f32 4286578688#32) (fun k : Fin 8 => x (ix2 k (j 0))) Finset.univ
/-- The sum reduction along the axis of sixteen. -/
theorem sum16_eq (x : S16x8x128.Idx → EReal) (ax : List (Fin S16x8x128.rank)) (hax : ax = [0]) (h2 : _) (h3 : _) (h4 : (0#32 : BitVec 32) = 0#32) :
    multiReduction (F := Ideal) (φ := .f32) (s := S16x8x128) .add ax S8x128 x 0#32 h2 h3 h4 = sum16 x := by
  subst hax
  funext j
  pointwise
  rfl
/-- The maximum reduction along the axis of sixteen. -/
theorem max16_eq (x : S16x8x128.Idx → EReal) (ax : List (Fin S16x8x128.rank)) (hax : ax = [0]) (h2 : _) (h3 : _) (h4 : (4286578688#32 : BitVec 32) = 4286578688#32) :
    multiReduction (F := Ideal) (φ := .f32) (s := S16x8x128) .maximumf ax S8x128 x 4286578688#32 h2 h3 h4 = max16 x := by
  subst hax
  funext j
  pointwise
  rfl
/-- The sum reduction along the axis of eight. -/
theorem sum8_eq (x : S8x512.Idx → EReal) (ax : List (Fin S8x512.rank)) (hax : ax = [0]) (h2 : _) (h3 : _) (h4 : (0#32 : BitVec 32) = 0#32) :
    multiReduction (F := Ideal) (φ := .f32) (s := S8x512) .add ax S512 x 0#32 h2 h3 h4 = sum8 x := by
  subst hax
  funext j
  pointwise
  rfl
/-- The maximum reduction along the axis of eight. -/
theorem max8_eq (x : S8x512.Idx → EReal) (ax : List (Fin S8x512.rank)) (hax : ax = [0]) (h2 : _) (h3 : _) (h4 : (4286578688#32 : BitVec 32) = 4286578688#32) :
    multiReduction (F := Ideal) (φ := .f32) (s := S8x512) .maximumf ax S512 x 4286578688#32 h2 h3 h4 = max8 x := by
  subst hax
  funext j
  pointwise
  rfl

/-- The sums of a tile by residue of the row. -/
theorem red_sum (f : ℕ → ℕ → EReal) (r c : ℕ) (hr : r % 8 = 0) (h1 : _) :
    sum16 (shapeCast S16x8x128 (tl S128x128 f r c) h1) = tl S8x128 (sums f (r / 8) (r / 8 + 16)) 0 c := by
  funext j
  simp only [sum16]
  pointwise
  refine Eq.trans ?_ (sum_fin (fun x => f (8 * x + (0 + (j 0).val)) (c + (j 1).val)) (r / 8) 16)
  refine Finset.sum_congr rfl fun x _ => ?_
  show f (r + (x.val * 8 + (j 0).val)) _ = f (8 * (r / 8 + x.val) + (0 + (j 0).val)) _
  exact congrArg (fun a => f a _) (by omega)
/-- The maxima of a tile by residue of the row. -/
theorem red_max (f : ℕ → ℕ → EReal) (r c : ℕ) (hr : r % 8 = 0) (h1 : _) :
    max16 (shapeCast S16x8x128 (tl S128x128 f r c) h1) = tl S8x128 (maxs f (r / 8) (r / 8 + 16)) 0 c := by
  funext j
  simp only [max16]
  pointwise
  refine Eq.trans ?_ (max_fin (fun x => f (8 * x + (0 + (j 0).val)) (c + (j 1).val)) (r / 8) 16)
  refine Finset.fold_congr fun x _ => ?_
  show f (r + (x.val * 8 + (j 0).val)) _ = f (8 * (r / 8 + x.val) + (0 + (j 0).val)) _
  exact congrArg (fun a => f a _) (by omega)
/-- The sums by residue add up to the sums of the columns. -/
theorem red_colSum (f : ℕ → ℕ → EReal) (c : ℕ) : sum8 (tl S8x512 (sumF f) 0 c) = tl S512 (colSum f) 0 c := by
  funext j
  show (∑ x : Fin 8, sumF f (0 + x.val) (c + (j 0).val)) = ∑ s ∈ Finset.range 8, sumF f s (c + (j 0).val)
  rw [sum_fin (fun x => sumF f x (c + (j 0).val)) 0 8, Finset.range_eq_Ico]
/-- The maxima by residue give the maxima of the columns. -/
theorem red_colMax (f : ℕ → ℕ → EReal) (c : ℕ) : max8 (tl S8x512 (maxF f) 0 c) = tl S512 (colMax f) 0 c := by
  funext j
  show Finset.fold max _ (fun x : Fin 8 => maxF f (0 + x.val) (c + (j 0).val)) Finset.univ = (Finset.range 8).sup fun s => maxF f s (c + (j 0).val)
  rw [max_fin (fun x => maxF f x (c + (j 0).val)) 0 8, Finset.range_eq_Ico]

/-- A matrix product of tiles of 512×96 by 512×96, both contracted along columns. -/
theorem mm_nt_512x96_512x96 {φ₁ φ₂ : FTy} (f g : ℕ → ℕ → EReal) (r c x : ℕ) :
    matmul (F := Ideal) (φ₁ := φ₁) (φ₂ := φ₂) dot_S512x96_S512x96_S512x512_1_1_0_0_n_n none (tl S512x96 f r x) (tl S512x96 g c x) (constant S512x512 .f32 0#32)
      = tl S512x512 (nt f g x (x + 96)) r c := by
  funext j
  pointwise
  exact sum_fin (fun y => f (r + (j 0).val) y * g (c + (j 1).val) y) x 96
/-- A matrix product of tiles of 128×96 by 512×96, both contracted along columns. -/
theorem mm_nt_128x96_512x96 {φ₁ φ₂ : FTy} (f g : ℕ → ℕ → EReal) (r c x : ℕ) :
    matmul (F := Ideal) (φ₁ := φ₁) (φ₂ := φ₂) dot_S128x96_S512x96_S128x512_1_1_0_0_n_n none (tl S128x96 f r x) (tl S512x96 g c x) (constant S128x512 .f32 0#32)
      = tl S128x512 (nt f g x (x + 96)) r c := by
  funext j
  pointwise
  exact sum_fin (fun y => f (r + (j 0).val) y * g (c + (j 1).val) y) x 96
/-- A matrix product of tiles of 128×96 by 384×96, both contracted along columns. -/
theorem mm_nt_128x96_384x96 {φ₁ φ₂ : FTy} (f g : ℕ → ℕ → EReal) (r c x : ℕ) :
    matmul (F := Ideal) (φ₁ := φ₁) (φ₂ := φ₂) dot_S128x96_S384x96_S128x384_1_1_0_0_n_n none (tl S128x96 f r x) (tl S384x96 g c x) (constant S128x384 .f32 0#32)
      = tl S128x384 (nt f g x (x + 96)) r c := by
  funext j
  pointwise
  exact sum_fin (fun y => f (r + (j 0).val) y * g (c + (j 1).val) y) x 96
/-- A matrix product of tiles of 128×96 by 256×96, both contracted along columns. -/
theorem mm_nt_128x96_256x96 {φ₁ φ₂ : FTy} (f g : ℕ → ℕ → EReal) (r c x : ℕ) :
    matmul (F := Ideal) (φ₁ := φ₁) (φ₂ := φ₂) dot_S128x96_S256x96_S128x256_1_1_0_0_n_n none (tl S128x96 f r x) (tl S256x96 g c x) (constant S128x256 .f32 0#32)
      = tl S128x256 (nt f g x (x + 96)) r c := by
  funext j
  pointwise
  exact sum_fin (fun y => f (r + (j 0).val) y * g (c + (j 1).val) y) x 96
/-- A matrix product of tiles of 128×96 by 128×96, both contracted along columns. -/
theorem mm_nt_128x96_128x96 {φ₁ φ₂ : FTy} (f g : ℕ → ℕ → EReal) (r c x : ℕ) :
    matmul (F := Ideal) (φ₁ := φ₁) (φ₂ := φ₂) dot_S128x96_S128x96_S128x128_1_1_0_0_n_n none (tl S128x96 f r x) (tl S128x96 g c x) (constant S128x128 .f32 0#32)
      = tl S128x128 (nt f g x (x + 96)) r c := by
  funext j
  pointwise
  exact sum_fin (fun y => f (r + (j 0).val) y * g (c + (j 1).val) y) x 96
/-- A matrix product of tiles of 256×96 by 512×96, both contracted along columns. -/
theorem mm_nt_256x96_512x96 {φ₁ φ₂ : FTy} (f g : ℕ → ℕ → EReal) (r c x : ℕ) :
    matmul (F := Ideal) (φ₁ := φ₁) (φ₂ := φ₂) dot_S256x96_S512x96_S256x512_1_1_0_0_n_n none (tl S256x96 f r x) (tl S512x96 g c x) (constant S256x512 .f32 0#32)
      = tl S256x512 (nt f g x (x + 96)) r c := by
  funext j
  pointwise
  exact sum_fin (fun y => f (r + (j 0).val) y * g (c + (j 1).val) y) x 96
/-- A matrix product of tiles of 96×512 by 256×512, both contracted along columns. -/
theorem mm_nt_96x512_256x512 {φ₁ φ₂ : FTy} (f g : ℕ → ℕ → EReal) (r c x : ℕ) :
    matmul (F := Ideal) (φ₁ := φ₁) (φ₂ := φ₂) dot_S96x512_S256x512_S96x256_1_1_0_0_n_n none (tl S96x512 f r x) (tl S256x512 g c x) (constant S96x256 .f32 0#32)
      = tl S96x256 (nt f g x (x + 512)) r c := by
  funext j
  pointwise
  exact sum_fin (fun y => f (r + (j 0).val) y * g (c + (j 1).val) y) x 512
/-- A matrix product of tiles of 96×256 by 256×256, both contracted along columns. -/
theorem mm_nt_96x256_256x256 {φ₁ φ₂ : FTy} (f g : ℕ → ℕ → EReal) (r c x : ℕ) :
    matmul (F := Ideal) (φ₁ := φ₁) (φ₂ := φ₂) dot_S96x256_S256x256_S96x256_1_1_0_0_n_n none (tl S96x256 f r x) (tl S256x256 g c x) (constant S96x256 .f32 0#32)
      = tl S96x256 (nt f g x (x + 256)) r c := by
  funext j
  pointwise
  exact sum_fin (fun y => f (r + (j 0).val) y * g (c + (j 1).val) y) x 256
/-- A matrix product of tiles of 96×256 by 256×512, columns against rows. -/
theorem mm_nn_96x256_256x512 {φ₁ φ₂ : FTy} (f g : ℕ → ℕ → EReal) (r c x : ℕ) :
    matmul (F := Ideal) (φ₁ := φ₁) (φ₂ := φ₂) dot_S96x256_S256x512_S96x512_1_0_0_1_n_n none (tl S96x256 f r x) (tl S256x512 g x c) (constant S96x512 .f32 0#32)
      = tl S96x512 (nn f g x (x + 256)) r c := by
  funext j
  pointwise
  exact sum_fin (fun y => f (r + (j 0).val) y * g y (c + (j 1).val)) x 256
/-- A matrix product of tiles of 96×256 by 256×256, columns against rows. -/
theorem mm_nn_96x256_256x256 {φ₁ φ₂ : FTy} (f g : ℕ → ℕ → EReal) (r c x : ℕ) :
    matmul (F := Ideal) (φ₁ := φ₁) (φ₂ := φ₂) dot_S96x256_S256x256_S96x256_1_0_0_1_n_n none (tl S96x256 f r x) (tl S256x256 g x c) (constant S96x256 .f32 0#32)
      = tl S96x256 (nn f g x (x + 256)) r c := by
  funext j
  pointwise
  exact sum_fin (fun y => f (r + (j 0).val) y * g y (c + (j 1).val)) x 256

/-- One row spread over a tile. -/
theorem row_all (f : ℕ → ℕ → EReal) (c : ℕ) (h : _) :
    broadcastTo S128x128 (tl S1x128 f 0 c) h = tl S128x128 (row f) 0 c := by
  funext j
  pointwise
  rfl

/-! ## Concatenations of tiles, named -/

section
variable {α : Type}
/-- 4 blocks S8x128 side by side along axis 1. -/
def c4_8 (a b c d : S8x128.Idx → α) (h : Shape.Concatenates [S8x128, S8x128, S8x128, S8x128] S8x512 1) : S8x512.Idx → α :=
  concatenate S8x512 1 [⟨S8x128, a⟩, ⟨S8x128, b⟩, ⟨S8x128, c⟩, ⟨S8x128, d⟩] h
/-- The concatenation of four tiles, named. -/
theorem c4_8_eq (a b c d : S8x128.Idx → α) (h : _) :
    concatenate S8x512 1 [⟨S8x128, a⟩, ⟨S8x128, b⟩, ⟨S8x128, c⟩, ⟨S8x128, d⟩] h = c4_8 a b c d h := rfl
/-- 4 blocks S128x128 side by side along axis 1. -/
def c4_128 (a b c d : S128x128.Idx → α) (h : Shape.Concatenates [S128x128, S128x128, S128x128, S128x128] S128x512 1) : S128x512.Idx → α :=
  concatenate S128x512 1 [⟨S128x128, a⟩, ⟨S128x128, b⟩, ⟨S128x128, c⟩, ⟨S128x128, d⟩] h
/-- The concatenation of four tiles, named. -/
theorem c4_128_eq (a b c d : S128x128.Idx → α) (h : _) :
    concatenate S128x512 1 [⟨S128x128, a⟩, ⟨S128x128, b⟩, ⟨S128x128, c⟩, ⟨S128x128, d⟩] h = c4_128 a b c d h := rfl
/-- 2 blocks S128x128 side by side along axis 1. -/
def c2_128 (a b : S128x128.Idx → α) (h : Shape.Concatenates [S128x128, S128x128] S128x256 1) : S128x256.Idx → α :=
  concatenate S128x256 1 [⟨S128x128, a⟩, ⟨S128x128, b⟩] h
/-- The concatenation of two tiles, named. -/
theorem c2_128_eq (a b : S128x128.Idx → α) (h : _) :
    concatenate S128x256 1 [⟨S128x128, a⟩, ⟨S128x128, b⟩] h = c2_128 a b h := rfl
/-- 2 blocks S128x512 side by side along axis 0. -/
def c2_512 (a b : S128x512.Idx → α) (h : Shape.Concatenates [S128x512, S128x512] S256x512 0) : S256x512.Idx → α :=
  concatenate S256x512 0 [⟨S128x512, a⟩, ⟨S128x512, b⟩] h
/-- The concatenation of two tiles, named. -/
theorem c2_512_eq (a b : S128x512.Idx → α) (h : _) :
    concatenate S256x512 0 [⟨S128x512, a⟩, ⟨S128x512, b⟩] h = c2_512 a b h := rfl
/-- 2 blocks S128x256 side by side along axis 0. -/
def c2_256 (a b : S128x256.Idx → α) (h : Shape.Concatenates [S128x256, S128x256] S256x256 0) : S256x256.Idx → α :=
  concatenate S256x256 0 [⟨S128x256, a⟩, ⟨S128x256, b⟩] h
/-- The concatenation of two tiles, named. -/
theorem c2_256_eq (a b : S128x256.Idx → α) (h : _) :
    concatenate S256x256 0 [⟨S128x256, a⟩, ⟨S128x256, b⟩] h = c2_256 a b h := rfl
/-- 2 blocks S96x256 side by side along axis 1. -/
def c2_96 (a b : S96x256.Idx → α) (h : Shape.Concatenates [S96x256, S96x256] S96x512 1) : S96x512.Idx → α :=
  concatenate S96x512 1 [⟨S96x256, a⟩, ⟨S96x256, b⟩] h
/-- The concatenation of two tiles, named. -/
theorem c2_96_eq (a b : S96x256.Idx → α) (h : _) :
    concatenate S96x512 1 [⟨S96x256, a⟩, ⟨S96x256, b⟩] h = c2_96 a b h := rfl
end

/-- Four tiles of eight rows side by side are one tile. -/
theorem cat4_8 (f : ℕ → ℕ → EReal) (r c c1 c2 c3 : ℕ) (h1 : c1 = c + 128) (h2 : c2 = c + 256) (h3 : c3 = c + 384) (h : _) :
    c4_8 (tl S8x128 f r c) (tl S8x128 f r c1) (tl S8x128 f r c2) (tl S8x128 f r c3) h
      = tl S8x512 f r c := by
  funext j
  simp only [c4_8, c4_128, c2_128, c2_512, c2_256, c2_96]
  pointwise
  by_cases q0 : (j 1).val < 128
  · refine (dif_pos q0).trans ?_
    rfl
  refine (dif_neg q0).trans ?_
  by_cases q1 : (j 1).val - 128 < 128
  · refine (dif_pos q1).trans ?_
    show f _ (c1 + ((j 1).val - 128)) = f _ (c + (j 1).val)
    exact congrArg (f _) (by omega)
  refine (dif_neg q1).trans ?_
  by_cases q2 : (j 1).val - 128 - 128 < 128
  · refine (dif_pos q2).trans ?_
    show f _ (c2 + ((j 1).val - 128 - 128)) = f _ (c + (j 1).val)
    exact congrArg (f _) (by omega)
  refine (dif_neg q2).trans ?_
  show f _ (c3 + ((j 1).val - 128 - 128 - 128)) = f _ (c + (j 1).val)
  exact congrArg (f _) (by omega)
/-- Four tiles side by side are one tile. -/
theorem cat4_128 (f : ℕ → ℕ → EReal) (r c c1 c2 c3 : ℕ) (h1 : c1 = c + 128) (h2 : c2 = c + 256) (h3 : c3 = c + 384) (h : _) :
    c4_128 (tl S128x128 f r c) (tl S128x128 f r c1) (tl S128x128 f r c2) (tl S128x128 f r c3) h
      = tl S128x512 f r c := by
  funext j
  simp only [c4_8, c4_128, c2_128, c2_512, c2_256, c2_96]
  pointwise
  by_cases q0 : (j 1).val < 128
  · refine (dif_pos q0).trans ?_
    rfl
  refine (dif_neg q0).trans ?_
  by_cases q1 : (j 1).val - 128 < 128
  · refine (dif_pos q1).trans ?_
    show f _ (c1 + ((j 1).val - 128)) = f _ (c + (j 1).val)
    exact congrArg (f _) (by omega)
  refine (dif_neg q1).trans ?_
  by_cases q2 : (j 1).val - 128 - 128 < 128
  · refine (dif_pos q2).trans ?_
    show f _ (c2 + ((j 1).val - 128 - 128)) = f _ (c + (j 1).val)
    exact congrArg (f _) (by omega)
  refine (dif_neg q2).trans ?_
  show f _ (c3 + ((j 1).val - 128 - 128 - 128)) = f _ (c + (j 1).val)
  exact congrArg (f _) (by omega)
/-- The same, the first tile being zero because it lies past the diagonal. -/
theorem cat4_zero (f : ℕ → ℕ → EReal) (r c1 c2 c3 : ℕ) (h1 : 128 ≤ c1) (h2 : c2 = c1 + 128) (h3 : c3 = c1 + 256) (hz : c1 ≤ r) (hf : Van f) (h : _) :
    c4_128 (broadcast S128x128 (FloatOps.ofBits (F := Ideal) FTy.bf16 0#16)) (tl S128x128 f r c1) (tl S128x128 f r c2) (tl S128x128 f r c3) h
      = tl S128x512 f r (c1 - 128) := by
  funext j
  simp only [c4_8, c4_128, c2_128, c2_512, c2_256, c2_96]
  pointwise
  by_cases q0 : (j 1).val < 128
  · refine (dif_pos q0).trans ?_
    show 0 = f (r + (j 0).val) ((c1 - 128) + (j 1).val)
    rw [hf _ _ (by omega)]
  refine (dif_neg q0).trans ?_
  by_cases q1 : (j 1).val - 128 < 128
  · refine (dif_pos q1).trans ?_
    show f _ (c1 + ((j 1).val - 128)) = f _ ((c1 - 128) + (j 1).val)
    exact congrArg (f _) (by omega)
  refine (dif_neg q1).trans ?_
  by_cases q2 : (j 1).val - 128 - 128 < 128
  · refine (dif_pos q2).trans ?_
    show f _ (c2 + ((j 1).val - 128 - 128)) = f _ ((c1 - 128) + (j 1).val)
    exact congrArg (f _) (by omega)
  refine (dif_neg q2).trans ?_
  show f _ (c3 + ((j 1).val - 128 - 128 - 128)) = f _ ((c1 - 128) + (j 1).val)
  exact congrArg (f _) (by omega)
/-- Two tiles side by side are one tile. -/
theorem cat2_128 (f : ℕ → ℕ → EReal) (r c c1 : ℕ) (h1 : c1 = c + 128) (h : _) :
    c2_128 (tl S128x128 f r c) (tl S128x128 f r c1) h = tl S128x256 f r c := by
  funext j
  simp only [c4_8, c4_128, c2_128, c2_512, c2_256, c2_96]
  pointwise
  by_cases q0 : (j 1).val < 128
  · refine (dif_pos q0).trans ?_
    rfl
  refine (dif_neg q0).trans ?_
  show f _ (c1 + ((j 1).val - 128)) = f _ (c + (j 1).val)
  exact congrArg (f _) (by omega)
/-- The same, the first tile being zero because it lies past the diagonal. -/
theorem cat2_zero (f : ℕ → ℕ → EReal) (r c1 : ℕ) (h1 : 128 ≤ c1) (hz : c1 ≤ r) (hf : Van f) (h : _) :
    c2_128 (broadcast S128x128 (FloatOps.ofBits (F := Ideal) FTy.bf16 0#16)) (tl S128x128 f r c1) h = tl S128x256 f r (c1 - 128) := by
  funext j
  simp only [c4_8, c4_128, c2_128, c2_512, c2_256, c2_96]
  pointwise
  by_cases q0 : (j 1).val < 128
  · refine (dif_pos q0).trans ?_
    show 0 = f (r + (j 0).val) (c1 - 128 + (j 1).val)
    rw [hf _ _ (by omega)]
  refine (dif_neg q0).trans ?_
  show f _ (c1 + ((j 1).val - 128)) = f _ (c1 - 128 + (j 1).val)
  exact congrArg (f _) (by omega)
/-- Two tiles of 512 columns one above the other are one tile. -/
theorem stack_512 (f : ℕ → ℕ → EReal) (r r1 c : ℕ) (h1 : r1 = r + 128) (h : _) :
    c2_512 (tl S128x512 f r c) (tl S128x512 f r1 c) h = tl S256x512 f r c := by
  funext j
  simp only [c4_8, c4_128, c2_128, c2_512, c2_256, c2_96]
  pointwise
  by_cases q0 : (j 0).val < 128
  · refine (dif_pos q0).trans ?_
    rfl
  refine (dif_neg q0).trans ?_
  show f (r1 + ((j 0).val - 128)) _ = f (r + (j 0).val) _
  exact congrArg (fun a => f a _) (by omega)
/-- Two tiles of 256 columns one above the other are one tile. -/
theorem stack_256 (f : ℕ → ℕ → EReal) (r r1 c : ℕ) (h1 : r1 = r + 128) (h : _) :
    c2_256 (tl S128x256 f r c) (tl S128x256 f r1 c) h = tl S256x256 f r c := by
  funext j
  simp only [c4_8, c4_128, c2_128, c2_512, c2_256, c2_96]
  pointwise
  by_cases q0 : (j 0).val < 128
  · refine (dif_pos q0).trans ?_
    rfl
  refine (dif_neg q0).trans ?_
  show f (r1 + ((j 0).val - 128)) _ = f (r + (j 0).val) _
  exact congrArg (fun a => f a _) (by omega)
/-- A product over a range of rows, padded with zero columns on the left, is the product of the wider tile, where the second operand vanishes. -/
theorem pad_512 (f g : ℕ → ℕ → EReal) (hg : Van g) (lo hi : ℕ) (hlo : 256 ≤ lo) (h : _) :
    c2_96 (broadcast S96x256 (FloatOps.ofBits (F := Ideal) FTy.f32 0#32)) (tl S96x256 (nn f g lo hi) 0 lo) h
      = tl S96x512 (nn f g lo hi) 0 (lo - 256) := by
  funext j
  simp only [c4_8, c4_128, c2_128, c2_512, c2_256, c2_96]
  pointwise
  by_cases q0 : (j 1).val < 256
  · refine (dif_pos q0).trans ?_
    show 0 = ∑ x ∈ Finset.Ico lo hi, f (0 + (j 0).val) x * g x (lo - 256 + (j 1).val)
    refine (Finset.sum_eq_zero fun x hx => ?_).symm
    have h0 := (Finset.mem_Ico.mp hx).1
    have h1 : colOf j = (j 1).val := rfl
    rw [hg _ _ (by omega), mul_zero]
  refine (dif_neg q0).trans ?_
  show nn f g lo hi _ (lo + ((j 1).val - 256)) = nn f g lo hi _ (lo - 256 + (j 1).val)
  exact congrArg (nn f g lo hi _) (by omega)

/-! Elementwise steps. -/
/-- Powers of two of biased scores less the column maximum are unnormalised probabilities. -/
theorem exp_sub (r c : ℕ) :
    exp2 (F := Ideal) (φ := .f32) (subf (tl S128x128 E.T r c) (tl S128x128 (row (colMax E.T)) 0 c)) = tl S128x128 E.P r c := rfl
/-- Probability times `dP`, on tiles. -/
theorem p_dp (r c : ℕ) :
    mulf (F := Ideal) (φ := .f32) (tl S128x128 E.P r c) (tl S128x128 (nt E.V E.O 0 96) r c) = tl S128x128 E.PDP r c := rfl
/-- The normalised probability, on tiles. -/
theorem p_inv (r c : ℕ) :
    mulf (F := Ideal) (φ := .f32) (tl S128x128 E.P r c) (tl S128x128 (row E.INV) 0 c) = tl S128x128 E.PN r c := rfl
/-- `dP` less the row term, on tiles. -/
theorem dp_row (r c : ℕ) :
    subf (F := Ideal) (φ := .f32) (tl S128x128 (nt E.V E.O 0 96) r c) (tl S128x128 (row E.DROW) 0 c) = tl S128x128 E.DM r c := rfl
/-- The score gradient, on tiles. -/
theorem p_ds (r c : ℕ) :
    mulf (F := Ideal) (φ := .f32) (tl S128x128 E.PN r c) (tl S128x128 E.DM r c) = tl S128x128 E.DS r c := rfl
/-- The word of one. -/
theorem one_bits : Ideal.ofBits FTy.f32 1065353216#32 = 1 := Ideal.ofBits_one_f32
/-- One over the column sums, on a row of 512. -/
theorem inv_row (c : ℕ) :
    divf (F := Ideal) (φ := .f32) (broadcast S1x512 (FloatOps.ofBits (F := Ideal) FTy.f32 1065353216#32)) (tl S1x512 (colSum E.P) 0 c) = tl S1x512 E.INV 0 c := by
  funext x
  show Ideal.div (Ideal.ofBits FTy.f32 1065353216#32) _ = Ideal.div 1 _
  rw [one_bits]; rfl
/-- The row term, on a row of 512. -/
theorem drow_row (c : ℕ) :
    mulf (F := Ideal) (φ := .f32) (tl S1x512 (colSum E.PDP) 0 c) (tl S1x512 E.INV 0 c) = tl S1x512 E.DROW 0 c := rfl
/-- A tile times a scalar. -/
theorem mul_scalar (f : ℕ → ℕ → EReal) (r c : ℕ) (x : EReal) :
    mulf (F := Ideal) (φ := .f32) (tl S96x512 f r c) (broadcast S96x512 x) = tl S96x512 (sc f x) r c := rfl

end Cert.Attn
-- ==== Proof.Pay.lean ====
module
public import proofs.«01_k».proof.Proof.Strips
public import proofs.«01_k».proof.Proof.Gen.KernelIdeal.Skeleton
@[expose] public section
noncomputable section
namespace Cert.Attn
open Idealize.ShloMosaic Cert.KernelIdeal Cert.KernelIdeal.Gen
variable [Facts₀]
/-! # The widened and transposed slabs the kernel keeps in scratch, as tiles -/

/-- The query slab, widened and transposed. -/
theorem pay_q (f : ℕ → ℕ → EReal) : k0_pay21 (F := Ideal) (tl S1x1x3072x96 f 0 0) = tl S96x3072 (tr f) 0 0 := by
  simp only [k0_pay21, cast_11ab_ab, extf_tl, transpose_tl, cast_same, eq_self]
/-- The slab of the output's gradient, widened and transposed. -/
theorem pay_o (f : ℕ → ℕ → EReal) : k0_pay22 (F := Ideal) (tl S1x1x3072x96 f 0 0) = tl S96x3072 (tr f) 0 0 := by
  simp only [k0_pay22, cast_11ab_ab, extf_tl, transpose_tl, cast_same, eq_self]
/-- The key slab, widened. -/
theorem pay_k (f : ℕ → ℕ → EReal) : k0_pay23 (F := Ideal) (tl S1x1x3072x96 f 0 0) = tl S3072x96 f 0 0 := by
  simp only [k0_pay23, cast_11ab_ab, extf_tl]
end Cert.Attn
-- ==== Proof.OutA.lean ====
module
public import proofs.«01_k».proof.Proof.Pay
public import proofs.«01_k».proof.Proof.Gen.KernelIdeal.Frame.RunA
@[expose] public section
set_option maxRecDepth 100000
noncomputable section
namespace Cert.Attn
open Idealize.ShloMosaic Cert.KernelIdeal Cert.KernelIdeal.Gen Idealize.ShloMosaic.TcCoe Idealize.ShloMosaic.Tactic
open Cert.KernelIdeal.Gen.kernelRun0_A.sl
variable [Facts₀]
/-! # What the kernel body stores, at the first batch entry of a head

Every value of the body is a tile of one of the matrices of `Env`: the score scale, the two bias tiles, the output scales
and the four slabs are given as such, and each operation takes tiles to a tile. -/

set_option maxHeartbeats 0 in
/-- The six row strips stored to each of `dq`, `dk` and `dv` are tiles of the gradients' closed forms. -/
theorem outA (E : Env) (c : Dev nD) (i : grid0.Coords) (arg2 : Memref sig .tc .smem S3x24 .f32) (harg2 : arg2.IsWhole) (arg3 : Memref sig .tc .smem S3x24 .f32) (harg3 :
  arg3.IsWhole) (arg4 : Memref sig .tc .smem S3x24 .f32) (harg4 : arg4.IsWhole) (arg5 : Memref sig .tc .smem S3x24 .f32) (harg5 : arg5.IsWhole) (arg6 :
  Memref sig .tc .smem S24x32 .f32) (harg6 : arg6.IsWhole) (arg7 : Memref sig .tc .vmem S1x1x3072x96 .fp8e4m3) (harg7 : arg7.IsWhole) (arg8 : Memref sig
  .tc .vmem S1x1x3072x96 .fp8e4m3) (harg8 : arg8.IsWhole) (arg9 : Memref sig .tc .vmem S1x1x3072x96 .fp8e4m3) (harg9 : arg9.IsWhole) (arg10 : Memref sig
  .tc .vmem S1x1x3072x96 .fp8e5m2) (harg10 : arg10.IsWhole) (arg11 : Memref sig .tc .vmem S1x1x3072x96 .bf16) (harg11 : arg11.IsWhole) (arg12 : Memref
  sig .tc .vmem S1x1x3072x96 .bf16) (harg12 : arg12.IsWhole) (arg13 : Memref sig .tc .vmem S1x1x3072x96 .bf16) (harg13 : arg13.IsWhole) (arg14 : Memref
  sig .tc .vmem S1x32x128 .f32) (harg14 : arg14.IsWhole) (arg15 : Memref sig .tc .vmem S3x3072x512 .f32) (harg15 : arg15.IsWhole) (arg16 : Memref sig
  .tc .vmem S2x3072x512 .f32) (harg16 : arg16.IsWhole) (arg17 : Memref sig .tc .vmem S96x3072 .f32) (harg17 : arg17.IsWhole) (arg18 : Memref sig .tc
  .vmem S96x3072 .f32) (harg18 : arg18.IsWhole) (arg19 : Memref sig .tc .vmem S96x3072 .bf16) (harg19 : arg19.IsWhole) (arg20 : Memref sig .tc .vmem
  S96x3072 .bf16) (harg20 : arg20.IsWhole) (arg21 : Memref sig .tc .vmem S96x3072 .bf16) (harg21 : arg21.IsWhole) (arg22 : Memref sig .tc .vmem S128x256
  .f32) (harg22 : arg22.IsWhole) (hc0 : cond0_0 i) (hc1 : ¬cond0_1 i)
  (x0 : Vec Ideal S3x24 .f32) (x1 : Vec Ideal S3x24 .f32) (x2 : Vec Ideal S3x24 .f32) (x3 : Vec Ideal S3x24 .f32) (x4 : Vec Ideal S24x32 .f32) (x5 : Vec Ideal S1x1x3072x96 .fp8e4m3) (x6 : Vec Ideal S1x1x3072x96 .fp8e4m3) (x7 : Vec Ideal S1x1x3072x96 .fp8e4m3) (x8 : Vec Ideal S1x1x3072x96 .fp8e5m2)
  (hts : r_9 (F := Ideal) c i arg2 harg2 arg3 harg3 x0 x1 = E.ts) (hd : r_46 (F := Ideal) c i arg6 harg6 x4 = tl S128x128 E.BD 0 0) (hs : r_47 (F := Ideal) c i arg6 harg6 x4 = tl S128x128 E.BD 0 128)
  (hdq : v6884 (F := Ideal) c i arg3 harg3 arg4 harg4 arg5 harg5 x1 x2 x3 = E.dqs) (hdk : v6886 (F := Ideal) c i arg2 harg2 arg4 harg4 arg5 harg5 x0 x2 x3 = E.dks) (hdv : r_3 (F := Ideal) c i arg5 harg5 x3 = E.dvs)
  (h5 : x5 = tl S1x1x3072x96 E.Q 0 0) (h6 : x6 = tl S1x1x3072x96 E.K 0 0) (h7 : x7 = tl S1x1x3072x96 E.V 0 0) (h8 : x8 = tl S1x1x3072x96 E.O 0 0) :
  v14290 (F := Ideal) c i arg2 harg2 arg3 harg3 arg4 harg4 arg5 harg5 arg6 harg6 arg7 harg7 arg8 harg8 arg9 harg9 arg10 harg10 arg15 arg16 arg21 x0 x1 x2 x3 x4 x5 x6 x7 x8 = tl S1x1x512x96 (tr (sc (nnF (tr E.K) E.DS) E.dqs)) 0 0 ∧
  v14029 (F := Ideal) c i arg2 harg2 arg3 harg3 arg4 harg4 arg5 harg5 arg6 harg6 arg7 harg7 arg8 harg8 arg9 harg9 arg10 harg10 arg15 arg16 arg21 x0 x1 x2 x3 x4 x5 x6 x7 x8 = tl S1x1x512x96 (tr (sc (nnF (tr E.K) E.DS) E.dqs)) 512 0 ∧
  v13283 (F := Ideal) c i arg2 harg2 arg3 harg3 arg4 harg4 arg5 harg5 arg6 harg6 arg7 harg7 arg8 harg8 arg9 harg9 arg10 harg10 arg15 arg16 arg21 x0 x1 x2 x3 x4 x5 x6 x7 x8 = tl S1x1x512x96 (tr (sc (nnF (tr E.K) E.DS) E.dqs)) 1024 0 ∧
  v11852 (F := Ideal) c i arg2 harg2 arg3 harg3 arg4 harg4 arg5 harg5 arg6 harg6 arg7 harg7 arg8 harg8 arg9 harg9 arg10 harg10 arg15 arg16 arg21 x0 x1 x2 x3 x4 x5 x6 x7 x8 = tl S1x1x512x96 (tr (sc (nnF (tr E.K) E.DS) E.dqs)) 1536 0 ∧
  v9721 (F := Ideal) c i arg2 harg2 arg3 harg3 arg4 harg4 arg5 harg5 arg6 harg6 arg7 harg7 arg8 harg8 arg9 harg9 arg10 harg10 arg15 arg16 arg21 x0 x1 x2 x3 x4 x5 x6 x7 x8 = tl S1x1x512x96 (tr (sc (nnF (tr E.K) E.DS) E.dqs)) 2048 0 ∧
  v6893 (F := Ideal) c i arg2 harg2 arg3 harg3 arg4 harg4 arg5 harg5 arg6 harg6 arg7 harg7 arg8 harg8 arg9 harg9 arg10 harg10 arg15 arg16 arg21 x0 x1 x2 x3 x4 x5 x6 x7 x8 = tl S1x1x512x96 (tr (sc (nnF (tr E.K) E.DS) E.dqs)) 2560 0 ∧
  v14298 (F := Ideal) c i arg2 harg2 arg3 harg3 arg4 harg4 arg5 harg5 arg6 harg6 arg7 harg7 arg8 harg8 arg9 harg9 arg10 harg10 arg15 arg16 arg17 arg19 x0 x1 x2 x3 x4 x5 x6 x7 x8 = tl S1x1x512x96 (tr (sc (ntF (tr E.Q) E.DS) E.dks)) 0 0 ∧
  v14037 (F := Ideal) c i arg2 harg2 arg3 harg3 arg4 harg4 arg5 harg5 arg6 harg6 arg7 harg7 arg8 harg8 arg9 harg9 arg10 harg10 arg15 arg16 arg17 arg19 x0 x1 x2 x3 x4 x5 x6 x7 x8 = tl S1x1x512x96 (tr (sc (ntF (tr E.Q) E.DS) E.dks)) 512 0 ∧
  v13291 (F := Ideal) c i arg2 harg2 arg3 harg3 arg4 harg4 arg5 harg5 arg6 harg6 arg7 harg7 arg8 harg8 arg9 harg9 arg10 harg10 arg15 arg16 arg17 arg19 x0 x1 x2 x3 x4 x5 x6 x7 x8 = tl S1x1x512x96 (tr (sc (ntF (tr E.Q) E.DS) E.dks)) 1024 0 ∧
  v11860 (F := Ideal) c i arg2 harg2 arg3 harg3 arg4 harg4 arg5 harg5 arg6 harg6 arg7 harg7 arg8 harg8 arg9 harg9 arg10 harg10 arg15 arg16 arg17 arg19 x0 x1 x2 x3 x4 x5 x6 x7 x8 = tl S1x1x512x96 (tr (sc (ntF (tr E.Q) E.DS) E.dks)) 1536 0 ∧
  v9729 (F := Ideal) c i arg2 harg2 arg3 harg3 arg4 harg4 arg5 harg5 arg6 harg6 arg7 harg7 arg8 harg8 arg9 harg9 arg10 harg10 arg15 arg16 arg17 arg19 x0 x1 x2 x3 x4 x5 x6 x7 x8 = tl S1x1x512x96 (tr (sc (ntF (tr E.Q) E.DS) E.dks)) 2048 0 ∧
  v6901 (F := Ideal) c i arg2 harg2 arg3 harg3 arg4 harg4 arg5 harg5 arg6 harg6 arg7 harg7 arg8 harg8 arg9 harg9 arg10 harg10 arg15 arg16 arg17 arg19 x0 x1 x2 x3 x4 x5 x6 x7 x8 = tl S1x1x512x96 (tr (sc (ntF (tr E.Q) E.DS) E.dks)) 2560 0 ∧
  v14306 (F := Ideal) c i arg2 harg2 arg3 harg3 arg5 harg5 arg6 harg6 arg7 harg7 arg8 harg8 arg10 harg10 arg15 arg18 arg20 x0 x1 x3 x4 x5 x6 x8 = tl S1x1x512x96 (tr (sc (ntF (tr E.O) E.PN) E.dvs)) 0 0 ∧
  v14045 (F := Ideal) c i arg2 harg2 arg3 harg3 arg5 harg5 arg6 harg6 arg7 harg7 arg8 harg8 arg10 harg10 arg15 arg18 arg20 x0 x1 x3 x4 x5 x6 x8 = tl S1x1x512x96 (tr (sc (ntF (tr E.O) E.PN) E.dvs)) 512 0 ∧
  v13299 (F := Ideal) c i arg2 harg2 arg3 harg3 arg5 harg5 arg6 harg6 arg7 harg7 arg8 harg8 arg10 harg10 arg15 arg18 arg20 x0 x1 x3 x4 x5 x6 x8 = tl S1x1x512x96 (tr (sc (ntF (tr E.O) E.PN) E.dvs)) 1024 0 ∧
  v11868 (F := Ideal) c i arg2 harg2 arg3 harg3 arg5 harg5 arg6 harg6 arg7 harg7 arg8 harg8 arg10 harg10 arg15 arg18 arg20 x0 x1 x3 x4 x5 x6 x8 = tl S1x1x512x96 (tr (sc (ntF (tr E.O) E.PN) E.dvs)) 1536 0 ∧
  v9737 (F := Ideal) c i arg2 harg2 arg3 harg3 arg5 harg5 arg6 harg6 arg7 harg7 arg8 harg8 arg10 harg10 arg15 arg18 arg20 x0 x1 x3 x4 x5 x6 x8 = tl S1x1x512x96 (tr (sc (ntF (tr E.O) E.PN) E.dvs)) 2048 0 ∧
  v6909 (F := Ideal) c i arg2 harg2 arg3 harg3 arg5 harg5 arg6 harg6 arg7 harg7 arg8 harg8 arg10 harg10 arg15 arg18 arg20 x0 x1 x3 x4 x5 x6 x8 = tl S1x1x512x96 (tr (sc (ntF (tr E.O) E.PN) E.dvs)) 2560 0 := by
  subst h5 h6 h7 h8
  simp (config := {maxSteps := 1000000000}) only [
    HS0_114, HS0_115, HS0_116, HS0_117, HS0_118, HS0_119, HS0_120, HS0_121, HS0_122, HS0_123, HS0_124, HS0_125, HS0_126, HS0_127, HS0_128, HS0_129,
    HS0_146, HS0_147, HS0_148, HS0_149, HS0_150, HS0_151, HS0_152, HS0_153, HS0_170, HS0_171, HS0_172, HS0_173, HS0_174, HS0_175, HS0_176, HS0_177,
    HS0_178, HS0_179, HS0_180, HS0_181, HS0_182, HS0_183, HS0_184, HS0_185, HS0_202, HS0_203, HS0_204, HS0_205, HS0_206, HS0_207, HS0_208, HS0_209,
    HS0_210, HS0_211, HS0_212, HS0_213, HS0_214, HS0_215, HS0_216, HS0_217, HS0_222, HS0_223, HS0_224, HS0_225, HS0_226, HS0_227, HS0_228, HS0_229,
    HS0_233, HS0_234, HS0_235, HS0_236, HS0_237, HS0_238, HS0_239, HS0_240, HS0_241, HS0_242, HS0_243, HS0_244, HS0_247, HS0_248, HS0_249, HS0_250,
    HS0_251, HS0_253, HS0_254, HS0_255, HS0_256, HS0_257, HS0_258, HS0_259, HS0_260, HS0_261, HS0_278, HS0_279, HS0_280, HS0_281, HS0_282, HS0_283,
    HS0_284, HS0_285, HS0_302, HS0_303, HS0_304, HS0_305, HS0_306, HS0_307, HS0_308, HS0_309, HS0_310, HS0_311, HS0_312, HS0_313, HS0_314, HS0_315,
    HS0_316, HS0_317, HS0_334, HS0_335, HS0_336, HS0_337, HS0_338, HS0_339, HS0_340, HS0_341, HS0_342, HS0_343, HS0_344, HS0_345, HS0_346, HS0_347,
    HS0_348, HS0_349, HS0_354, HS0_355, HS0_356, HS0_357, HS0_358, HS0_359, HS0_360, HS0_361, HS0_365, HS0_366, HS0_367, HS0_368, HS0_369, HS0_370,
    HS0_371, HS0_372, HS0_373, HS0_374, HS0_375, HS0_376, HS0_379, HS0_380, HS0_381, HS0_382, HS0_383, HS0_385, HS0_386, HS0_387, HS0_388, HS0_389,
    HS0_390, HS0_391, HS0_392, HS0_393, HS0_394, HS0_395, HS0_396, HS0_397, HS0_398, HS0_399, HS0_400, HS0_401, HS0_402, HS0_403, HS0_404, HS0_405,
    HS0_406, HS0_407, HS0_408, HS0_409, HS0_410, HS0_411, HS0_412, HS0_413, HS0_414, HS0_415, HS0_416, HS0_417, HS0_418, HS0_419, HS0_420, HS0_421,
    HS0_422, HS0_423, HS0_424, HS0_425, HS0_426, HS0_427, HS0_428, HS0_429, HS0_430, HS0_431, HS0_432, HS0_433, HS0_434, HS0_435, HS0_436, HS0_437,
    HS0_438, HS0_439, HS0_440, HS0_441, HS0_442, HS0_443, HS0_444, HS0_445, HS0_446, HS0_447, HS0_448, HS0_449, HS0_450, HS0_451, HS0_452, HS0_453,
    HS0_454, HS0_455, HS0_456, HS0_457, HS0_458, HS0_459, HS0_460, HS0_461, HS0_462, HS0_463, HS0_464, HS0_465, HS0_466, HS0_467, HS0_468, HS0_469,
    HS0_470, HS0_471, HS0_472, HS0_473, HS0_474, HS0_475, HS0_476, HS0_477, HS0_478, HS0_479, HS0_480, HS0_481, HS0_482, HS0_483, HS0_484, HS0_485,
    HS0_486, HS0_487, HS0_488, HS0_489, HS0_490, HS0_491, HS0_492, HS0_493, HS0_494, HS0_495, HS0_496, HS0_497, HS0_498, HS0_499, HS0_500, HS0_501,
    HS0_502, HS0_503, HS0_504, HS0_505, HS0_506, HS0_507, HS0_508, HS0_509, HS0_510, HS0_511, HS0_512, HS0_513, HS0_514, HS0_515, HS0_516, HS0_517,
    HS0_518, HS0_519, HS0_520, HS0_521, HS0_522, HS0_523, HS0_524, HS0_525, HS0_526, HS0_527, HS0_528, HS0_529, HS0_530, HS0_531, HS0_532, HS0_533,
    HS0_534, HS0_535, HS0_536, HS0_537, HS0_538, HS0_539, HS0_540, HS0_541, HS0_542, HS0_543, HS0_544, HS0_545, HS0_546, HS0_547, HS0_548, HS0_549,
    HS0_550, HS0_551, HS0_552, HS0_553, HS0_554, HS0_555, HS0_556, HS0_557, HS0_558, HS0_559, HS0_560, HS0_561, HS0_562, HS0_563, HS0_564, HS0_565,
    HS0_566, HS0_567, HS0_568, HS0_569, HS0_570, HS0_571, HS0_572, HS0_573, HS0_574, HS0_575, HS0_576, HS0_577, HS0_578, HS0_579, HS0_580, HS0_581,
    HS0_582, HS0_583, HS0_584, HS0_585, HS0_586, HS0_587, HS0_588, HS0_589, HS0_590, HS0_591, HS0_592, HS0_593, HS0_594, HS0_595, HS0_596, HS0_597,
    HS0_598, HS0_599, HS0_600, HS0_90, HS0_91, HS0_92, HS0_93, HS0_94, HS0_95, HS0_96, HS0_97, HS1_106, HS1_114, HS1_122, HS1_130, HS1_138, HS1_146,
    HS1_154, HS1_158, HS1_161, HS1_163, HS1_164, HS1_165, HS1_166, HS1_167, HS1_168, HS1_169, HS1_170, HS1_171, HS1_172, HS1_173, HS1_174, HS1_175,
    HS1_176, HS1_177, HS1_178, HS1_179, HS1_180, HS1_181, HS1_182, HS1_183, HS1_184, HS1_185, HS1_186, HS1_187, HS1_188, HS1_189, HS1_190, HS1_191,
    HS1_192, HS1_193, HS1_194, HS1_195, HS1_196, HS1_197, HS1_198, HS1_199, HS1_200, HS1_201, HS1_202, HS1_203, HS1_204, HS1_205, HS1_206, HS1_207,
    HS1_208, HS1_209, HS1_210, HS1_211, HS1_212, HS1_213, HS1_214, HS1_215, HS1_216, HS1_217, HS1_218, HS1_219, HS1_220, HS1_221, HS1_222, HS1_223,
    HS1_224, HS1_225, HS1_226, HS1_227, HS1_228, HS1_229, HS1_230, HS1_231, HS1_232, HS1_233, HS1_234, HS1_235, HS1_236, HS1_237, HS1_238, HS1_239,
    HS1_240, HS1_241, HS1_242, HS1_243, HS1_244, HS1_245, HS1_246, HS1_247, HS1_248, HS1_249, HS1_250, HS1_251, HS1_252, HS1_253, HS1_254, HS1_255,
    HS1_256, HS1_257, HS1_258, HS1_259, HS1_260, HS1_261, HS1_262, HS1_263, HS1_264, HS1_265, HS1_266, HS1_267, HS1_268, HS1_269, HS1_270, HS1_271,
    HS1_272, HS1_273, HS1_274, HS1_275, HS1_276, HS1_277, HS1_278, HS1_279, HS1_280, HS1_281, HS1_282, HS1_283, HS1_284, HS1_285, HS1_286, HS1_287,
    HS1_288, HS1_289, HS1_290, HS1_291, HS1_292, HS1_293, HS1_294, HS1_295, HS1_296, HS1_297, HS1_298, HS1_299, HS1_300, HS1_90, HS1_98, HS2_12, HS2_13,
    HS2_14, HS2_15, HS2_16, HS2_17, HS2_18, HS2_19, HS2_20, HS2_21, HS2_22, HS2_23, HS2_24, HS2_25, HS2_26, HS2_27, HS2_28, HS2_29, HS2_30, HS2_31,
    HS2_32, HS2_33, HS2_34, HS2_35, HS2_36, HS2_37, HS2_38, HS2_39, HS2_40, HS2_41, HS2_42, HS3_12, HS3_13, HS3_14, HS3_15, HS3_16, HS3_17, HS3_18,
    HS3_19, HS3_20, HS3_21, HS3_22, HS3_23, HS3_24, HS3_25, HS3_26, HS3_27, HS3_28, HS3_29, HS3_30, HS3_31, HS3_32, HS3_33, HS3_34, HS3_35, HS3_36,
    HS3_37, HS3_38, HS3_39, HS3_40, HS3_41, HS3_42, HS4_1, HS5_1, HS6_1, cst_1907, cst_1976, cst_1982, cst_3681, cst_394, cst_418, cst_438, cst_454,
    cst_480, cst_53, cst_64, r_48, v10000, v10003, v10004, v10007, v1001, v10010, v10011, v10012, v10013, v10014, v10015, v10016, v10017, v10018, v10019,
    v1002, v10020, v10023, v10024, v10027, v10030, v10031, v10032, v10033, v10034, v10035, v10036, v10037, v10038, v10039, v10040, v10043, v10044, v10047,
    v10050, v10051, v10052, v10053, v10054, v10055, v10056, v10057, v10060, v10062, v10063, v10066, v10067, v10068, v10069, v10072, v10073, v10074,
    v10075, v10078, v10079, v10080, v10081, v10084, v10085, v10086, v10087, v10090, v10091, v10092, v10093, v10094, v10097, v10098, v10099, v10100,
    v10101, v10104, v10105, v10106, v10107, v10108, v1011, v10111, v10112, v10113, v10114, v10115, v10118, v10119, v10120, v10121, v10122, v10125, v10126,
    v10127, v10128, v10129, v1013, v10132, v10133, v10134, v10135, v10136, v10139, v1014, v10140, v10141, v10142, v10143, v10144, v10147, v10148, v10149,
    v1015, v10150, v10151, v10154, v10155, v10156, v10157, v10158, v1016, v10161, v10162, v10163, v10164, v10165, v10168, v10169, v1017, v10170, v10171,
    v10172, v10173, v10176, v10177, v10178, v1018, v10181, v10182, v10183, v10184, v10185, v10186, v10189, v1019, v10190, v10191, v10194, v10195, v10196,
    v10197, v10198, v10199, v1020, v10202, v10203, v10204, v10207, v10208, v10209, v1021, v10210, v10211, v10212, v10215, v10216, v10217, v10220, v10221,
    v10222, v10223, v10224, v10225, v10226, v10227, v10230, v10231, v10232, v10235, v10236, v10237, v10238, v10239, v1024, v10240, v10243, v10244, v10245,
    v10248, v10249, v10250, v10251, v10252, v10253, v10256, v10257, v10258, v10261, v10262, v10263, v10264, v10265, v10266, v10269, v1027, v10270, v10271,
    v10274, v10275, v10276, v10277, v10278, v10279, v1028, v10280, v10281, v10283, v10285, v10287, v10288, v10289, v1029, v10292, v10293, v10294, v10297,
    v10298, v1030, v10301, v10302, v10303, v10304, v10307, v10308, v1031, v10311, v10314, v10315, v10316, v10317, v10318, v10319, v1032, v10320, v10321,
    v10322, v10323, v10324, v10327, v10328, v1033, v10331, v10334, v10335, v10336, v10337, v10338, v10339, v1034, v10340, v10341, v10342, v10343, v10344,
    v10347, v10348, v1035, v10351, v10354, v10355, v10356, v10357, v10358, v10359, v1036, v10360, v10361, v10362, v10363, v10364, v10367, v10368, v1037,
    v10371, v10374, v10375, v10376, v10377, v10378, v10379, v1038, v10380, v10381, v10382, v10383, v10384, v10387, v10388, v1039, v10391, v10394, v10395,
    v10396, v10397, v10398, v10399, v1040, v10400, v10401, v10402, v10403, v10404, v10407, v10408, v1041, v10411, v10414, v10415, v10416, v10417, v10418,
    v10419, v10420, v10421, v10422, v10423, v10424, v10427, v10428, v10431, v10434, v10435, v10436, v10437, v10438, v10439, v1044, v10440, v10441, v10442,
    v10443, v10444, v10447, v10448, v10451, v10454, v10455, v10456, v10457, v10458, v10459, v10460, v10461, v10463, v10466, v10468, v10469, v1047, v10470,
    v10473, v10474, v10475, v10476, v10477, v10478, v1048, v10481, v10482, v10483, v10484, v10485, v10488, v10489, v1049, v10490, v10491, v10492, v10495,
    v10496, v10497, v10498, v10499, v1050, v10500, v10503, v10504, v10505, v10508, v10509, v1051, v10510, v10511, v10512, v10513, v10516, v10517, v10518,
    v1052, v10521, v10522, v10523, v10524, v10525, v10526, v10529, v1053, v10530, v10531, v10534, v10535, v10536, v10537, v10538, v10539, v1054, v10542,
    v10543, v10544, v10547, v10548, v10549, v1055, v10550, v10551, v10552, v10553, v10554, v10557, v10558, v10559, v1056, v10562, v10563, v10564, v10565,
    v10566, v10567, v1057, v10570, v10571, v10572, v10575, v10576, v10577, v10578, v10579, v1058, v10580, v10583, v10584, v10585, v10588, v10589, v1059,
    v10590, v10591, v10592, v10593, v10596, v10597, v10598, v1060, v10601, v10602, v10603, v10604, v10605, v10606, v10607, v10608, v1061, v10610, v10612,
    v10614, v10615, v10616, v10619, v10620, v10621, v10624, v10625, v10628, v10629, v10630, v10631, v10634, v10635, v10638, v1064, v10641, v10642, v10643,
    v10644, v10645, v10646, v10647, v10648, v10649, v10650, v10651, v10652, v10653, v10654, v10655, v10658, v10661, v10662, v10663, v10664, v10665,
    v10666, v10667, v10668, v10669, v1067, v10670, v10671, v10672, v10673, v10674, v10675, v10678, v1068, v10681, v10682, v10683, v10684, v10685, v10686,
    v10687, v10688, v10689, v1069, v10690, v10691, v10692, v10693, v10694, v10695, v10698, v1070, v10701, v10702, v10703, v10704, v10705, v10706, v10707,
    v10708, v10709, v1071, v10710, v10711, v10712, v10713, v10714, v10715, v10718, v1072, v10721, v10722, v10723, v10724, v10725, v10726, v10727, v10728,
    v10729, v1073, v10730, v10731, v10734, v10735, v10738, v1074, v10741, v10742, v10743, v10744, v10745, v10746, v10747, v10748, v10749, v1075, v10750,
    v10751, v10754, v10755, v10758, v1076, v10761, v10762, v10763, v10764, v10765, v10766, v10767, v10768, v10769, v1077, v10770, v10771, v10774, v10775,
    v10778, v1078, v10781, v10782, v10783, v10784, v10785, v10786, v10787, v10788, v10789, v1079, v10790, v10791, v10792, v10793, v10794, v10795, v10796,
    v10797, v10798, v10799, v1080, v10800, v10801, v10802, v10803, v10804, v10805, v10806, v10807, v10808, v10809, v1081, v10810, v10811, v10812, v10813,
    v10814, v10815, v10816, v10817, v10818, v10819, v10820, v10821, v10822, v10823, v10824, v10825, v10826, v10827, v10828, v10829, v10830, v10831,
    v10832, v10833, v10834, v10835, v10836, v10837, v10838, v10839, v1084, v10840, v10841, v10842, v10843, v10844, v10847, v10848, v10849, v10852, v10853,
    v10854, v10855, v10856, v10857, v10860, v10861, v10862, v10865, v10866, v10867, v10868, v10869, v1087, v10870, v10873, v10874, v10875, v10878, v10879,
    v1088, v10880, v10881, v10882, v10883, v10886, v10887, v10888, v1089, v10891, v10892, v10893, v10894, v10895, v10896, v10897, v10898, v10899, v1090,
    v10900, v10901, v10902, v10903, v10904, v10905, v10906, v10909, v1091, v10910, v10911, v10914, v10915, v10917, v10918, v10919, v1092, v10920, v10921,
    v10924, v10925, v10928, v1093, v10931, v10932, v10933, v10934, v10935, v10936, v10937, v10938, v10939, v1094, v10940, v10941, v10944, v10945, v10948,
    v1095, v10951, v10952, v10953, v10954, v10955, v10956, v10957, v10958, v10959, v1096, v10960, v10961, v10964, v10965, v10968, v1097, v10971, v10972,
    v10973, v10974, v10975, v10976, v10977, v10978, v10979, v10980, v10981, v10984, v10985, v10988, v10991, v10992, v10993, v10994, v10995, v10996,
    v10997, v10998, v10999, v1100, v11000, v11001, v11004, v11005, v11008, v1101, v11011, v11012, v11013, v11014, v11015, v11016, v11017, v11018, v11019,
    v11020, v11021, v11024, v11025, v11028, v11031, v11032, v11033, v11034, v11035, v11036, v11037, v11038, v11039, v1104, v11040, v11041, v11044, v11045,
    v11048, v11051, v11052, v11053, v11054, v11055, v11056, v11057, v11058, v11059, v11060, v11061, v11064, v11065, v11068, v1107, v11071, v11072, v11073,
    v11074, v11075, v11076, v11077, v11078, v1108, v11080, v11082, v11083, v11085, v11086, v11087, v1109, v11090, v11091, v11092, v11093, v11094, v11095,
    v11098, v11099, v1110, v11100, v11101, v11102, v11105, v11106, v11107, v11108, v11109, v1111, v11110, v11113, v11114, v11115, v11118, v11119, v1112,
    v11120, v11121, v11122, v11123, v11126, v11127, v11128, v1113, v11131, v11132, v11133, v11134, v11135, v11136, v11139, v1114, v11140, v11141, v11144,
    v11145, v11146, v11147, v11148, v11149, v1115, v11152, v11153, v11154, v11157, v11158, v11159, v1116, v11160, v11161, v11162, v11163, v11164, v11167,
    v11168, v11169, v1117, v11172, v11173, v11174, v11175, v11176, v11177, v11180, v11181, v11182, v11185, v11186, v11187, v11188, v11189, v11190, v11193,
    v11194, v11195, v11198, v11199, v1120, v11200, v11201, v11202, v11203, v11206, v11207, v11208, v1121, v11211, v11212, v11213, v11214, v11215, v11216,
    v11217, v11218, v11220, v11222, v11223, v11224, v11225, v11226, v11229, v11230, v11231, v11234, v11235, v11237, v11239, v1124, v11240, v11241, v11242,
    v11243, v11246, v11247, v11250, v11253, v11254, v11255, v11256, v11257, v11258, v11259, v11260, v11261, v11262, v11263, v11266, v11267, v1127, v11270,
    v11273, v11274, v11275, v11276, v11277, v11278, v11279, v1128, v11280, v11281, v11282, v11283, v11286, v11287, v1129, v11290, v11293, v11294, v11295,
    v11296, v11297, v11298, v11299, v1130, v11300, v11301, v11302, v11303, v11306, v11307, v1131, v11310, v11313, v11314, v11315, v11316, v11317, v11318,
    v11319, v1132, v11320, v11322, v11324, v11325, v11327, v11328, v11329, v1133, v11332, v11333, v11334, v11335, v11336, v11337, v1134, v11340, v11341,
    v11342, v11343, v11344, v11345, v11348, v11349, v1135, v11350, v11353, v11354, v11355, v11356, v11357, v11358, v1136, v11361, v11362, v11363, v11366,
    v11367, v11368, v11369, v1137, v11370, v11371, v11374, v11375, v11376, v11379, v11380, v11381, v11382, v11383, v11384, v11387, v11388, v11389, v11392,
    v11393, v11394, v11395, v11396, v11397, v11398, v11399, v1140, v11402, v11403, v11404, v11407, v11408, v1141, v11414, v11415, v11416, v11417, v11420,
    v11421, v11422, v11425, v11426, v11427, v11428, v11429, v11430, v11433, v11434, v11435, v11438, v11439, v1144, v11440, v11441, v11442, v11443, v11446,
    v11447, v11448, v11451, v11452, v11453, v11454, v11455, v11456, v11457, v11458, v11460, v11462, v11463, v11464, v11465, v11466, v11469, v1147, v11470,
    v11471, v11474, v11475, v11477, v11479, v1148, v11480, v11481, v11482, v11483, v11486, v11487, v1149, v11490, v11493, v11494, v11495, v11496, v11497,
    v11498, v11499, v1150, v11500, v11501, v11502, v11503, v11506, v11507, v1151, v11510, v11513, v11514, v11515, v11516, v11517, v11518, v11519, v1152,
    v11520, v11521, v11522, v11523, v11526, v11527, v1153, v11530, v11533, v11534, v11535, v11536, v11537, v11538, v11539, v1154, v11540, v11541, v11542,
    v11545, v11546, v11547, v1155, v11550, v11551, v11557, v11558, v11559, v1156, v11560, v11563, v11564, v11565, v11568, v11569, v1157, v11575, v11576,
    v11577, v11578, v11581, v11582, v11583, v11586, v11587, v11588, v11589, v11590, v11591, v11594, v11595, v11596, v11599, v1160, v11600, v11601, v11602,
    v11603, v11604, v11606, v11607, v1161, v11610, v11611, v11612, v11615, v11616, v11622, v11623, v11624, v11625, v11628, v11629, v11630, v11633, v11634,
    v1164, v11640, v11641, v11642, v11643, v11646, v11647, v11648, v11651, v11652, v11653, v11654, v11655, v11656, v11657, v11658, v11660, v11662, v11663,
    v11664, v11665, v11666, v11669, v1167, v11670, v11671, v11674, v11675, v11677, v11679, v1168, v11680, v11681, v11682, v11683, v11686, v11687, v1169,
    v11690, v11693, v11694, v11695, v11696, v11697, v11698, v11699, v1170, v11700, v11701, v11702, v11703, v11706, v11707, v1171, v11710, v11713, v11714,
    v11715, v11716, v11717, v11718, v11719, v1172, v11720, v11722, v11724, v11725, v11727, v11728, v1173, v11731, v11732, v11733, v11734, v11735, v11736,
    v11739, v1174, v11740, v11741, v11744, v11745, v11751, v11752, v11753, v11754, v11757, v11758, v11759, v11762, v11763, v11769, v1177, v11770, v11771,
    v11772, v11774, v11775, v11778, v11779, v11780, v11783, v11784, v1179, v11790, v11791, v11792, v11793, v11794, v11795, v11796, v11797, v11798, v11799,
    v1180, v11800, v11801, v11802, v11803, v11806, v11807, v11808, v11811, v11813, v11814, v11816, v11818, v11819, v11820, v11821, v11824, v11825, v11828,
    v1183, v11831, v11832, v11833, v11834, v11835, v11836, v11837, v11838, v11839, v1184, v11840, v11841, v11847, v11848, v11849, v1185, v11852, v11853,
    v11855, v11856, v11857, v1186, v11860, v11861, v11863, v11864, v11865, v11868, v11869, v11870, v11871, v11872, v11873, v11874, v11876, v11877, v11889,
    v1189, v11898, v11899, v1190, v11900, v11901, v11902, v11903, v11904, v11905, v11906, v11907, v11908, v11909, v1191, v11910, v11911, v11912, v11913,
    v11914, v11915, v11916, v11917, v11918, v11919, v1192, v11920, v11921, v11922, v11923, v11924, v11925, v11926, v11927, v11928, v11929, v11930, v11931,
    v11932, v11933, v11934, v11935, v11936, v11937, v11938, v11939, v11940, v11941, v11942, v11943, v11944, v11945, v11946, v11947, v11948, v11949, v1195,
    v11950, v11951, v11952, v11953, v11956, v11957, v11958, v1196, v11961, v11962, v11963, v11964, v11965, v11966, v11969, v1197, v11970, v11971, v11974,
    v11975, v11976, v11977, v11978, v11979, v1198, v11982, v11983, v11984, v11987, v11988, v11989, v11990, v11991, v11992, v11995, v11996, v11997, v12000,
    v12001, v12002, v12003, v12004, v12005, v12006, v12007, v12008, v12009, v1201, v12010, v12011, v12012, v12013, v12014, v12015, v12018, v12019, v1202,
    v12020, v12023, v12025, v12026, v12027, v12028, v12029, v1203, v12030, v12031, v12032, v12033, v12036, v12039, v1204, v12040, v12041, v12042, v12043,
    v12044, v12045, v12046, v12047, v12048, v12049, v12050, v12051, v12052, v12053, v12056, v12059, v12060, v12061, v12062, v12063, v12064, v12065,
    v12066, v12067, v12068, v12069, v1207, v12070, v12071, v12072, v12073, v12076, v12079, v1208, v12080, v12081, v12082, v12083, v12084, v12085, v12086,
    v12087, v12088, v12089, v1209, v12090, v12091, v12092, v12093, v12096, v12099, v1210, v12100, v12101, v12102, v12103, v12104, v12105, v12106, v12107,
    v12108, v12109, v1211, v12112, v12113, v12116, v12119, v12120, v12121, v12122, v12123, v12124, v12125, v12126, v12127, v12128, v12129, v12132, v12133,
    v12136, v12139, v1214, v12140, v12141, v12142, v12143, v12144, v12145, v12146, v12147, v12148, v12149, v1215, v12152, v12153, v12156, v12159, v1216,
    v12160, v12161, v12162, v12163, v12164, v12165, v12166, v12167, v12168, v12169, v1217, v12172, v12173, v12176, v12179, v1218, v12180, v12181, v12182,
    v12183, v12184, v12185, v12186, v12188, v12190, v12191, v12193, v12194, v12195, v12198, v12199, v12200, v12201, v12202, v12205, v12206, v12207,
    v12208, v1221, v12211, v12212, v12213, v12214, v12217, v12218, v12219, v1222, v12220, v12221, v12224, v12225, v12226, v12229, v1223, v12230, v12231,
    v12232, v12233, v12234, v12237, v12238, v12239, v1224, v12242, v12243, v12244, v12245, v12246, v12247, v1225, v12250, v12251, v12252, v12255, v12256,
    v12257, v12258, v12259, v12260, v12263, v12264, v12265, v12268, v12269, v12270, v12271, v12272, v12273, v12274, v12275, v12278, v12279, v1228, v12280,
    v12283, v12284, v12285, v12286, v12287, v12288, v1229, v12291, v12292, v12293, v12296, v12297, v12298, v12299, v1230, v12300, v12301, v12304, v12305,
    v12306, v12309, v1231, v12310, v12311, v12312, v12313, v12314, v12317, v12318, v12319, v1232, v12322, v12323, v12324, v12325, v12326, v12327, v12328,
    v12329, v12331, v12333, v12334, v12335, v12336, v12337, v12340, v12341, v12342, v12345, v12346, v12348, v12349, v1235, v12350, v12351, v12352, v12355,
    v12356, v12359, v1236, v12362, v12363, v12364, v12365, v12366, v12367, v12368, v12369, v1237, v12370, v12371, v12372, v12375, v12376, v12379, v1238,
    v12382, v12383, v12384, v12385, v12386, v12387, v12388, v12389, v1239, v12390, v12391, v12392, v12395, v12396, v12399, v12402, v12403, v12404, v12405,
    v12406, v12407, v12408, v12409, v12410, v12411, v12412, v12415, v12416, v12419, v1242, v12422, v12423, v12424, v12425, v12426, v12427, v12428, v12429,
    v1243, v12430, v12431, v12432, v12435, v12436, v12439, v1244, v12442, v12443, v12444, v12445, v12446, v12447, v12448, v12449, v1245, v12450, v12451,
    v12452, v12455, v12456, v12459, v1246, v12462, v12463, v12464, v12465, v12466, v12467, v12468, v12469, v12470, v12471, v12472, v12475, v12476, v12479,
    v12482, v12483, v12484, v12485, v12486, v12487, v12488, v12489, v1249, v12490, v12491, v12492, v12495, v12496, v12499, v1250, v12502, v12503, v12504,
    v12505, v12506, v12507, v12508, v12509, v1251, v12511, v12513, v12514, v12516, v12517, v12518, v1252, v12521, v12522, v12523, v12524, v12525, v12526,
    v12529, v1253, v12530, v12531, v12532, v12533, v12536, v12537, v12538, v12539, v12540, v12541, v12544, v12545, v12546, v12549, v12550, v12551, v12552,
    v12553, v12554, v12557, v12558, v12559, v1256, v12562, v12563, v12564, v12565, v12566, v12567, v1257, v12570, v12571, v12572, v12575, v12576, v12577,
    v12578, v12579, v1258, v12580, v12583, v12584, v12585, v12588, v12589, v1259, v12590, v12591, v12592, v12593, v12594, v12595, v12598, v12599, v1260,
    v12600, v12603, v12604, v12605, v12606, v12607, v12608, v12611, v12612, v12613, v12616, v12617, v12618, v12619, v12620, v12621, v12624, v12625,
    v12626, v12629, v1263, v12630, v12631, v12632, v12633, v12634, v12637, v12638, v12639, v1264, v12642, v12643, v12644, v12645, v12646, v12647, v12648,
    v12649, v1265, v12651, v12653, v12654, v12655, v12656, v12657, v1266, v12660, v12661, v12662, v12665, v12666, v12668, v1267, v12671, v12672, v12673,
    v12674, v12677, v12678, v12681, v12684, v12685, v12686, v12687, v12688, v12689, v12690, v12691, v12692, v12693, v12694, v12697, v12698, v1270, v12701,
    v12704, v12705, v12706, v12707, v12708, v12709, v1271, v12710, v12711, v12712, v12713, v12714, v12717, v12718, v1272, v12721, v12724, v12725, v12726,
    v12727, v12728, v12729, v1273, v12730, v12731, v12732, v12733, v12734, v12737, v12738, v1274, v12741, v12744, v12745, v12746, v12747, v12748, v12749,
    v12750, v12751, v12752, v12753, v12756, v12757, v12758, v12761, v12762, v12763, v12764, v12765, v12766, v12769, v1277, v12770, v12771, v12774, v12775,
    v12776, v12777, v12778, v12779, v1278, v12782, v12783, v12784, v12787, v12788, v12789, v1279, v12790, v12791, v12792, v12795, v12796, v12797, v1280,
    v12800, v12801, v12802, v12803, v12804, v12805, v12806, v12807, v1281, v12810, v12811, v12812, v12815, v12816, v12822, v12823, v12824, v12825, v12828,
    v12829, v12830, v12833, v12834, v12835, v12836, v12837, v12838, v1284, v12841, v12842, v12843, v12846, v12847, v12848, v12849, v1285, v12850, v12851,
    v12854, v12855, v12856, v12859, v1286, v12860, v12861, v12862, v12863, v12864, v12865, v12866, v12868, v1287, v12870, v12872, v12873, v12874, v12877,
    v12878, v12879, v12882, v12883, v12885, v12887, v12888, v12889, v1289, v12890, v12891, v12894, v12895, v12898, v1290, v12901, v12902, v12903, v12904,
    v12905, v12906, v12907, v12908, v12909, v1291, v12910, v12911, v12914, v12915, v12918, v1292, v12921, v12922, v12923, v12924, v12925, v12926, v12927,
    v12928, v12929, v1293, v12930, v12931, v12934, v12935, v12938, v12941, v12942, v12943, v12944, v12945, v12946, v12947, v12948, v12950, v12952, v12953,
    v12955, v12956, v12957, v1296, v12960, v12961, v12962, v12963, v12964, v12965, v12968, v12969, v1297, v12970, v12971, v12972, v12973, v12976, v12977,
    v12978, v12981, v12982, v12988, v12989, v12990, v12991, v12994, v12995, v12996, v12999, v1300, v13000, v13006, v13007, v13008, v13009, v13012, v13013,
    v13014, v13017, v13018, v13019, v13020, v13021, v13022, v13025, v13026, v13027, v1303, v13030, v13031, v13032, v13033, v13034, v13035, v13037, v13038,
    v1304, v13041, v13042, v13043, v13046, v13047, v1305, v13053, v13054, v13055, v13056, v13059, v1306, v13060, v13061, v13064, v13065, v1307, v13071,
    v13072, v13073, v13074, v13077, v13078, v13079, v1308, v13082, v13083, v13084, v13085, v13086, v13087, v13088, v13089, v1309, v13091, v13093, v13095,
    v13096, v13097, v1310, v13100, v13101, v13102, v13105, v13106, v13108, v1311, v13110, v13111, v13112, v13113, v13114, v13117, v13118, v1312, v13121,
    v13124, v13125, v13126, v13127, v13128, v13129, v1313, v13130, v13131, v13132, v13133, v13134, v13137, v13138, v13141, v13144, v13145, v13146, v13147,
    v13148, v13149, v13150, v13151, v13153, v13155, v13156, v13158, v13159, v1316, v13162, v13163, v13164, v13165, v13166, v13167, v1317, v13170, v13171,
    v13172, v13175, v13176, v13182, v13183, v13184, v13185, v13188, v13189, v13190, v13193, v13194, v1320, v13200, v13201, v13202, v13203, v13205, v13206,
    v13209, v13210, v13211, v13214, v13215, v13221, v13222, v13223, v13224, v13225, v13226, v13227, v13228, v13229, v1323, v13230, v13232, v13233, v13234,
    v13237, v13238, v13239, v1324, v13242, v13244, v13245, v13247, v13249, v1325, v13250, v13251, v13252, v13255, v13256, v13259, v1326, v13262, v13263,
    v13264, v13265, v13266, v13267, v13268, v13269, v1327, v13270, v13271, v13272, v13278, v13279, v1328, v13280, v13283, v13284, v13286, v13287, v13288,
    v1329, v13291, v13292, v13294, v13295, v13296, v13299, v1330, v13300, v13301, v13302, v13303, v13304, v13305, v13307, v13308, v1331, v1332, v13327,
    v13328, v13329, v1333, v13330, v13331, v13332, v13333, v13334, v13335, v13336, v13337, v13338, v13339, v13340, v13341, v13342, v13343, v13344, v13345,
    v13346, v13347, v13348, v13349, v13350, v13351, v13352, v13353, v13354, v13355, v13356, v13357, v13358, v13359, v1336, v13360, v13361, v13362, v13363,
    v13364, v13365, v13366, v13367, v13368, v13369, v1337, v13370, v13371, v13372, v13373, v13374, v13375, v13376, v13377, v13378, v13379, v13380, v13381,
    v13382, v13385, v13386, v13387, v13390, v13391, v13392, v13393, v13394, v13395, v13398, v13399, v1340, v13400, v13403, v13404, v13405, v13406, v13407,
    v13408, v13411, v13412, v13413, v13416, v13417, v13418, v13419, v13420, v13421, v13424, v13425, v13426, v13429, v1343, v13430, v13431, v13432, v13433,
    v13434, v13435, v13436, v13437, v13438, v13439, v1344, v13440, v13442, v13443, v13444, v13447, v13448, v13449, v1345, v13452, v13454, v13456, v13457,
    v13458, v13459, v1346, v13460, v13461, v13462, v13463, v13464, v13467, v1347, v13470, v13471, v13472, v13473, v13474, v13475, v13476, v13477, v13478,
    v13479, v1348, v13480, v13481, v13482, v13483, v13484, v13487, v1349, v13490, v13491, v13492, v13493, v13494, v13495, v13496, v13497, v13498, v13499,
    v1350, v13500, v13501, v13502, v13503, v13504, v13507, v1351, v13510, v13511, v13512, v13513, v13514, v13515, v13516, v13517, v13518, v13519, v1352,
    v13520, v13521, v13522, v13523, v13524, v13527, v1353, v13530, v13531, v13532, v13533, v13534, v13535, v13536, v13537, v13538, v13539, v13542, v13543,
    v13544, v13547, v13548, v13549, v13550, v13551, v13552, v13555, v13556, v13557, v1356, v13560, v13561, v13562, v13563, v13564, v13565, v13568, v13569,
    v1357, v13570, v13573, v13574, v13575, v13576, v13577, v13578, v13581, v13582, v13583, v13586, v13587, v13588, v13589, v13590, v13591, v13592, v13593,
    v13596, v13597, v13598, v1360, v13601, v13602, v13608, v13609, v13610, v13611, v13614, v13615, v13616, v13619, v13620, v13621, v13622, v13623, v13624,
    v13627, v13628, v13629, v1363, v13632, v13633, v13634, v13635, v13636, v13637, v1364, v13640, v13641, v13642, v13645, v13646, v13647, v13648, v13649,
    v1365, v13650, v13651, v13652, v13654, v13656, v13658, v13659, v1366, v13660, v13663, v13664, v13665, v13668, v13669, v1367, v13671, v13673, v13674,
    v13675, v13676, v13677, v1368, v13680, v13681, v13684, v13687, v13688, v13689, v1369, v13690, v13691, v13692, v13693, v13694, v13695, v13696, v13697,
    v1370, v13700, v13701, v13704, v13707, v13708, v13709, v1371, v13710, v13711, v13712, v13713, v13714, v13715, v13716, v13717, v1372, v13720, v13721,
    v13724, v13727, v13728, v13729, v1373, v13730, v13731, v13732, v13733, v13734, v13735, v13736, v13739, v13740, v13741, v13744, v13745, v13751, v13752,
    v13753, v13754, v13757, v13758, v13759, v1376, v13762, v13763, v13769, v1377, v13770, v13771, v13772, v13775, v13776, v13777, v13780, v13781, v13782,
    v13783, v13784, v13785, v13788, v13789, v13790, v13793, v13794, v13795, v13796, v13797, v13798, v1380, v13800, v13801, v13804, v13805, v13806, v13809,
    v13810, v13816, v13817, v13818, v13819, v13822, v13823, v13824, v13827, v13828, v1383, v13834, v13835, v13836, v13837, v1384, v13840, v13841, v13842,
    v13845, v13846, v13847, v13848, v13849, v1385, v13850, v13851, v13852, v13854, v13856, v13858, v13859, v1386, v13860, v13863, v13864, v13865, v13868,
    v13869, v1387, v13871, v13873, v13874, v13875, v13876, v13877, v1388, v13880, v13881, v13884, v13887, v13888, v13889, v1389, v13890, v13891, v13892,
    v13893, v13894, v13895, v13896, v13897, v1390, v13900, v13901, v13904, v13907, v13908, v13909, v1391, v13910, v13911, v13912, v13913, v13914, v13915,
    v13916, v13919, v1392, v13920, v13921, v13924, v13925, v1393, v13931, v13932, v13933, v13934, v13937, v13938, v13939, v13942, v13943, v13949, v13950,
    v13951, v13952, v13954, v13955, v13958, v13959, v1396, v13960, v13963, v13964, v1397, v13970, v13971, v13972, v13973, v13974, v13975, v13976, v13977,
    v13978, v13979, v13981, v13982, v13983, v13986, v13987, v13988, v13991, v13993, v13994, v13996, v13998, v13999, v1400, v14000, v14001, v14004, v14005,
    v14008, v14011, v14012, v14013, v14014, v14015, v14016, v14017, v14018, v14024, v14025, v14026, v14029, v1403, v14030, v14032, v14033, v14034, v14037,
    v14038, v1404, v14040, v14041, v14042, v14045, v14046, v14047, v14048, v14049, v1405, v14050, v14051, v14053, v14054, v1406, v14066, v14067, v14068,
    v14069, v1407, v14070, v14071, v14072, v14073, v14074, v14075, v14076, v1408, v14082, v14083, v14084, v14085, v14086, v14087, v14088, v14089, v1409,
    v14090, v14091, v14092, v14093, v14094, v1410, v14100, v14101, v14102, v14103, v14104, v14105, v14106, v14107, v14108, v14109, v1411, v14110, v14111,
    v14112, v14113, v14114, v14115, v14116, v14117, v14118, v14119, v1412, v14120, v14121, v14122, v14123, v14124, v14125, v14126, v14127, v14128, v14129,
    v1413, v14131, v14132, v14135, v14136, v14137, v14140, v14141, v14147, v14148, v14149, v14150, v14153, v14154, v14155, v14158, v14159, v1416, v14165,
    v14166, v14167, v14168, v1417, v14171, v14172, v14173, v14176, v14177, v14178, v14179, v14180, v14181, v14182, v14183, v14184, v14185, v14186, v14187,
    v14189, v14190, v14191, v14194, v14195, v14196, v14199, v1420, v14200, v14201, v14204, v14205, v14206, v14209, v14210, v14216, v14217, v14218, v14219,
    v14222, v14223, v14224, v14227, v14228, v1423, v14234, v14235, v14236, v14237, v14239, v1424, v14240, v14243, v14244, v14245, v14248, v14249, v1425,
    v14255, v14256, v14257, v14258, v14259, v1426, v14260, v14261, v14262, v14263, v14264, v14266, v14267, v14268, v1427, v14271, v14272, v14273, v14276,
    v14278, v14279, v1428, v14285, v14286, v14287, v1429, v14290, v14291, v14293, v14294, v14295, v14298, v14299, v1430, v14301, v14302, v14303, v14306,
    v1431, v1432, v1433, v1436, v1437, v1440, v1443, v1444, v1445, v1446, v1447, v1448, v1449, v1450, v1452, v1453, v1454, v1455, v1456, v1459, v1460,
    v1463, v1466, v1467, v1468, v1469, v1470, v1471, v1472, v1473, v1474, v1475, v1476, v1479, v1480, v1483, v1486, v1487, v1488, v1489, v1490, v1491,
    v1492, v1493, v1494, v1495, v1496, v1499, v1500, v1503, v1506, v1507, v1508, v1509, v1510, v1511, v1512, v1513, v1514, v1515, v1516, v1519, v1520,
    v1523, v1526, v1527, v1528, v1529, v1530, v1531, v1532, v1533, v1534, v1535, v1536, v1539, v1540, v1543, v1546, v1547, v1548, v1549, v1550, v1551,
    v1552, v1553, v1554, v1555, v1556, v1559, v1560, v1563, v1566, v1567, v1568, v1569, v1570, v1571, v1572, v1573, v1574, v1575, v1576, v1579, v1580,
    v1583, v1586, v1587, v1588, v1589, v1590, v1591, v1592, v1593, v1594, v1595, v1596, v1599, v1600, v1603, v1606, v1607, v1608, v1609, v1610, v1611,
    v1612, v1613, v1616, v1618, v1619, v1622, v1623, v1624, v1625, v1626, v1629, v1630, v1631, v1632, v1633, v1636, v1637, v1638, v1639, v1640, v1643,
    v1644, v1645, v1646, v1647, v1650, v1651, v1652, v1653, v1654, v1657, v1658, v1659, v1660, v1661, v1664, v1665, v1666, v1667, v1668, v1671, v1672,
    v1673, v1674, v1675, v1678, v1679, v1680, v1681, v1682, v1685, v1686, v1687, v1688, v1689, v1692, v1693, v1694, v1695, v1696, v1699, v1700, v1701,
    v1702, v1703, v1706, v1707, v1708, v1709, v1710, v1713, v1714, v1715, v1716, v1717, v1720, v1721, v1722, v1723, v1724, v1727, v1728, v1729, v1730,
    v1732, v1733, v1734, v1735, v1736, v1739, v1740, v1743, v1746, v1747, v1748, v1749, v1750, v1751, v1752, v1753, v1754, v1755, v1756, v1759, v1760,
    v1763, v1766, v1767, v1768, v1769, v1770, v1771, v1772, v1773, v1774, v1775, v1776, v1779, v1780, v1783, v1786, v1787, v1788, v1789, v1790, v1791,
    v1792, v1793, v1794, v1795, v1796, v1799, v1800, v1803, v1806, v1807, v1808, v1809, v1810, v1811, v1812, v1813, v1814, v1815, v1816, v1819, v1820,
    v1823, v1826, v1827, v1828, v1829, v1830, v1831, v1832, v1833, v1834, v1835, v1836, v1839, v1840, v1843, v1846, v1847, v1848, v1849, v1850, v1851,
    v1852, v1853, v1854, v1855, v1856, v1859, v1860, v1863, v1866, v1867, v1868, v1869, v1870, v1871, v1872, v1873, v1874, v1875, v1876, v1879, v1880,
    v1883, v1886, v1887, v1888, v1889, v1890, v1891, v1892, v1893, v1896, v1898, v1899, v1902, v1903, v1904, v1905, v1906, v1909, v1910, v1911, v1912,
    v1913, v1916, v1917, v1918, v1919, v1920, v1923, v1924, v1925, v1926, v1927, v1930, v1931, v1932, v1933, v1934, v1937, v1938, v1939, v1940, v1941,
    v1944, v1945, v1946, v1947, v1948, v1951, v1952, v1953, v1954, v1955, v1958, v1959, v1960, v1961, v1962, v1965, v1966, v1967, v1968, v1969, v1972,
    v1973, v1974, v1975, v1976, v1979, v1980, v1981, v1982, v1983, v1986, v1987, v1988, v1989, v1990, v1993, v1994, v1995, v1996, v1997, v2000, v2001,
    v2002, v2003, v2004, v2007, v2008, v2009, v2010, v2012, v2013, v2014, v2015, v2016, v2019, v2020, v2023, v2026, v2027, v2028, v2029, v2030, v2031,
    v2032, v2033, v2034, v2035, v2036, v2039, v2040, v2043, v2046, v2047, v2048, v2049, v2050, v2051, v2052, v2053, v2054, v2055, v2056, v2059, v2060,
    v2063, v2066, v2067, v2068, v2069, v2070, v2071, v2072, v2073, v2074, v2075, v2076, v2079, v2080, v2083, v2086, v2087, v2088, v2089, v2090, v2091,
    v2092, v2093, v2094, v2095, v2096, v2099, v2100, v2103, v2106, v2107, v2108, v2109, v2110, v2111, v2112, v2113, v2114, v2115, v2116, v2119, v2120,
    v2123, v2126, v2127, v2128, v2129, v2130, v2131, v2132, v2133, v2134, v2135, v2136, v2139, v2140, v2143, v2146, v2147, v2148, v2149, v2150, v2151,
    v2152, v2153, v2154, v2155, v2156, v2159, v2160, v2163, v2166, v2167, v2168, v2169, v2170, v2171, v2172, v2173, v2175, v2176, v2177, v2178, v2179,
    v2182, v2183, v2186, v2189, v2190, v2191, v2192, v2193, v2194, v2195, v2196, v2197, v2198, v2199, v2202, v2203, v2206, v2209, v2210, v2211, v2212,
    v2213, v2214, v2215, v2216, v2217, v2218, v2219, v2222, v2223, v2226, v2229, v2230, v2231, v2232, v2233, v2234, v2235, v2236, v2237, v2238, v2239,
    v2242, v2243, v2246, v2249, v2250, v2251, v2252, v2253, v2254, v2255, v2256, v2257, v2258, v2259, v2262, v2263, v2266, v2269, v2270, v2271, v2272,
    v2273, v2274, v2275, v2276, v2277, v2278, v2279, v2282, v2283, v2286, v2289, v2290, v2291, v2292, v2293, v2294, v2295, v2296, v2297, v2298, v2299,
    v2302, v2303, v2306, v2309, v2310, v2311, v2312, v2313, v2314, v2315, v2316, v2317, v2318, v2319, v2322, v2323, v2326, v2329, v2330, v2331, v2332,
    v2333, v2334, v2335, v2336, v2339, v2341, v2342, v2345, v2346, v2347, v2348, v2349, v2352, v2353, v2354, v2355, v2356, v2359, v2360, v2361, v2362,
    v2363, v2366, v2367, v2368, v2369, v2370, v2373, v2374, v2375, v2376, v2377, v2380, v2381, v2382, v2383, v2384, v2387, v2388, v2389, v2390, v2391,
    v2394, v2395, v2396, v2397, v2398, v2401, v2402, v2403, v2404, v2405, v2408, v2409, v2410, v2411, v2412, v2415, v2416, v2417, v2418, v2419, v2422,
    v2423, v2424, v2425, v2426, v2427, v2430, v2431, v2432, v2433, v2434, v2437, v2438, v2439, v2440, v2441, v2444, v2445, v2446, v2447, v2448, v2451,
    v2452, v2453, v2454, v2456, v2457, v2458, v2459, v2460, v2463, v2464, v2467, v2470, v2471, v2472, v2473, v2474, v2475, v2476, v2477, v2478, v2479,
    v2480, v2483, v2484, v2487, v2490, v2491, v2492, v2493, v2494, v2495, v2496, v2497, v2498, v2499, v2500, v2503, v2504, v2507, v2510, v2511, v2512,
    v2513, v2514, v2515, v2516, v2517, v2518, v2519, v2520, v2523, v2524, v2527, v2530, v2531, v2532, v2533, v2534, v2535, v2536, v2537, v2538, v2539,
    v2540, v2543, v2544, v2547, v2550, v2551, v2552, v2553, v2554, v2555, v2556, v2557, v2558, v2559, v2560, v2563, v2564, v2567, v2570, v2571, v2572,
    v2573, v2574, v2575, v2576, v2577, v2578, v2579, v2580, v2583, v2584, v2587, v2590, v2591, v2592, v2593, v2594, v2595, v2596, v2597, v2598, v2599,
    v2600, v2603, v2604, v2607, v2610, v2611, v2612, v2613, v2614, v2615, v2616, v2617, v2619, v2620, v2621, v2622, v2623, v2626, v2627, v2630, v2633,
    v2634, v2635, v2636, v2637, v2638, v2639, v2640, v2641, v2642, v2643, v2646, v2647, v2650, v2653, v2654, v2655, v2656, v2657, v2658, v2659, v2660,
    v2661, v2662, v2663, v2666, v2667, v2670, v2673, v2674, v2675, v2676, v2677, v2678, v2679, v2680, v2681, v2682, v2683, v2686, v2687, v2690, v2693,
    v2694, v2695, v2696, v2697, v2698, v2699, v2700, v2701, v2702, v2703, v2706, v2707, v2710, v2713, v2714, v2715, v2716, v2717, v2718, v2719, v2720,
    v2721, v2722, v2723, v2726, v2727, v2730, v2733, v2734, v2735, v2736, v2737, v2738, v2739, v2740, v2741, v2742, v2743, v2746, v2747, v2750, v2753,
    v2754, v2755, v2756, v2757, v2758, v2759, v2760, v2761, v2762, v2763, v2766, v2767, v2770, v2773, v2774, v2775, v2776, v2777, v2778, v2779, v2780,
    v2782, v2785, v2787, v2788, v2789, v2792, v2793, v2794, v2795, v2796, v2797, v2800, v2801, v2802, v2803, v2804, v2807, v2808, v2809, v2810, v2811,
    v2814, v2815, v2816, v2817, v2819, v2820, v2821, v2822, v2823, v2826, v2827, v2830, v2833, v2834, v2835, v2836, v2837, v2838, v2839, v2840, v2841,
    v2842, v2843, v2846, v2847, v2850, v2853, v2854, v2855, v2856, v2857, v2858, v2859, v2860, v2861, v2862, v2863, v2866, v2867, v2870, v2873, v2874,
    v2875, v2876, v2877, v2878, v2879, v2880, v2881, v2882, v2883, v2886, v2887, v2890, v2893, v2894, v2895, v2896, v2897, v2898, v2899, v2900, v2901,
    v2902, v2903, v2906, v2907, v2910, v2913, v2914, v2915, v2916, v2917, v2918, v2919, v2920, v2921, v2922, v2923, v2926, v2927, v2930, v2933, v2934,
    v2935, v2936, v2937, v2938, v2939, v2940, v2941, v2942, v2943, v2946, v2947, v2950, v2953, v2954, v2955, v2956, v2957, v2958, v2959, v2960, v2961,
    v2962, v2963, v2966, v2967, v2970, v2973, v2974, v2975, v2976, v2977, v2978, v2979, v2980, v2982, v2984, v2985, v2987, v2988, v2989, v2992, v2993,
    v2994, v2995, v2996, v2997, v300, v3000, v3001, v3002, v3003, v3004, v3007, v3008, v3009, v3010, v3012, v3013, v3014, v3015, v3016, v3019, v3020,
    v3023, v3026, v3027, v3028, v3029, v303, v3030, v3031, v3032, v3033, v3034, v3035, v3036, v3039, v3040, v3043, v3046, v3047, v3048, v3049, v3050,
    v3051, v3052, v3053, v3054, v3055, v3056, v3059, v3060, v3063, v3066, v3067, v3068, v3069, v3070, v3071, v3072, v3073, v3074, v3075, v3076, v3079,
    v3080, v3083, v3086, v3087, v3088, v3089, v3090, v3091, v3092, v3093, v3094, v3095, v3096, v3099, v310, v3100, v3103, v3106, v3107, v3108, v3109,
    v3110, v3111, v3112, v3113, v3114, v3115, v3116, v3119, v312, v3120, v3123, v3126, v3127, v3128, v3129, v313, v3130, v3131, v3132, v3133, v3134,
    v3135, v3136, v3139, v314, v3140, v3143, v3146, v3147, v3148, v3149, v315, v3150, v3151, v3152, v3153, v3154, v3155, v3156, v3159, v316, v3160, v3163,
    v3166, v3167, v3168, v3169, v3170, v3171, v3172, v3173, v3175, v3178, v3179, v3180, v3181, v3184, v3185, v3188, v319, v3191, v3192, v3193, v3194,
    v3195, v3196, v3197, v3198, v3199, v320, v3200, v3201, v3204, v3205, v3208, v321, v3211, v3212, v3213, v3214, v3215, v3216, v3217, v3218, v3219, v322,
    v3220, v3221, v3224, v3225, v3228, v3231, v3232, v3233, v3234, v3235, v3236, v3237, v3238, v3239, v3240, v3241, v3244, v3245, v3248, v325, v3251,
    v3252, v3253, v3254, v3255, v3256, v3257, v3258, v326, v3260, v3262, v3263, v3265, v3266, v3267, v327, v3270, v3271, v3272, v3273, v3274, v3275,
    v3278, v3279, v328, v3280, v3281, v3283, v3285, v3286, v3287, v3288, v3289, v3292, v3293, v3296, v3299, v3300, v3301, v3302, v3303, v3304, v3305,
    v3306, v3307, v3308, v3309, v331, v3312, v3313, v3316, v3319, v332, v3320, v3321, v3322, v3323, v3324, v3325, v3326, v3327, v3328, v3329, v333, v3332,
    v3333, v3336, v3339, v334, v3340, v3341, v3342, v3343, v3344, v3345, v3346, v3348, v3350, v3351, v3352, v3353, v3354, v3357, v3358, v3361, v3364,
    v3365, v3366, v3367, v3368, v3369, v337, v3370, v3371, v3372, v3373, v3374, v3377, v3378, v338, v3381, v3384, v3385, v3386, v3387, v3388, v3389, v339,
    v3390, v3391, v3393, v3395, v3396, v3398, v3399, v340, v3402, v3403, v3404, v3405, v3407, v3409, v3410, v3411, v3412, v3415, v3416, v3419, v3422,
    v3423, v3424, v3425, v3426, v3427, v3428, v3429, v343, v3430, v3431, v3432, v3433, v3434, v3435, v3436, v3437, v3438, v3439, v344, v3440, v3441, v345,
    v3453, v346, v3463, v3464, v3465, v3466, v3467, v3468, v3469, v347, v3470, v3471, v3472, v3473, v3474, v3475, v3476, v3477, v3478, v3479, v3480,
    v3481, v3482, v3483, v3484, v3485, v3486, v3487, v3488, v3489, v3490, v3491, v3492, v3493, v3494, v3495, v3496, v3497, v3498, v3499, v350, v3500,
    v3501, v3502, v3503, v3504, v3505, v3506, v3507, v3508, v3509, v351, v3510, v3511, v3512, v3513, v3514, v3515, v3516, v3517, v3518, v3519, v352,
    v3522, v3523, v3524, v3527, v3528, v3529, v353, v3530, v3531, v3532, v3535, v3536, v3537, v354, v3540, v3541, v3542, v3543, v3544, v3545, v3548,
    v3549, v3550, v3553, v3554, v3555, v3556, v3557, v3558, v3561, v3562, v3563, v3566, v3567, v3568, v3569, v357, v3570, v3571, v3572, v3573, v3574,
    v3575, v3576, v3577, v3578, v3579, v358, v3582, v3585, v3588, v3589, v359, v3590, v3591, v3592, v3593, v3594, v3595, v3598, v360, v3601, v3602, v3603,
    v3604, v3605, v3606, v3607, v3608, v3609, v361, v3610, v3611, v3612, v3613, v3614, v3615, v3618, v3621, v3622, v3623, v3624, v3625, v3626, v3627,
    v3628, v3629, v3630, v3631, v3632, v3633, v3634, v3635, v3638, v364, v3641, v3642, v3643, v3644, v3645, v3646, v3647, v3648, v3649, v365, v3650,
    v3651, v3652, v3653, v3654, v3655, v3658, v366, v3661, v3662, v3663, v3664, v3665, v3666, v3667, v3668, v3669, v367, v3670, v3671, v3674, v3675,
    v3678, v368, v3681, v3682, v3683, v3684, v3685, v3686, v3687, v3688, v3689, v3690, v3691, v3694, v3695, v3698, v3701, v3702, v3703, v3704, v3705,
    v3706, v3707, v3708, v3709, v371, v3710, v3711, v3714, v3715, v3718, v372, v3721, v3722, v3723, v3724, v3725, v3726, v3727, v3728, v3729, v373, v3730,
    v3731, v3734, v3735, v3738, v374, v3741, v3742, v3743, v3744, v3745, v3746, v3747, v3748, v375, v3751, v3753, v3754, v3757, v3758, v3759, v3760,
    v3763, v3764, v3765, v3766, v3769, v3770, v3771, v3772, v3775, v3776, v3777, v3778, v378, v3781, v3782, v3783, v3784, v3785, v3788, v3789, v379,
    v3790, v3791, v3792, v3795, v3796, v3797, v3798, v3799, v380, v3802, v3803, v3804, v3805, v3806, v3809, v381, v3810, v3811, v3812, v3813, v3816,
    v3817, v3818, v3819, v382, v3820, v3823, v3824, v3825, v3826, v3827, v3830, v3831, v3832, v3833, v3834, v3837, v3838, v3839, v3840, v3841, v3844,
    v3845, v3846, v3847, v3848, v385, v3851, v3852, v3853, v3854, v3855, v3858, v3859, v386, v3860, v3861, v3862, v3863, v3866, v3867, v3868, v387, v3871,
    v3872, v3873, v3874, v3875, v3876, v3879, v388, v3880, v3881, v3884, v3885, v3886, v3887, v3888, v3889, v389, v3892, v3893, v3894, v3897, v3898,
    v3899, v3900, v3901, v3902, v3905, v3906, v3907, v3910, v3911, v3912, v3913, v3914, v3915, v3916, v3917, v392, v3920, v3921, v3922, v3925, v3926,
    v3927, v3928, v3929, v393, v3930, v3933, v3934, v3935, v3938, v3939, v394, v3940, v3941, v3942, v3943, v3946, v3947, v3948, v395, v3951, v3952, v3953,
    v3954, v3955, v3956, v3959, v396, v3960, v3961, v3964, v3965, v3966, v3967, v3968, v3969, v3970, v3971, v3973, v3975, v3976, v3977, v3980, v3983,
    v3984, v3987, v3988, v3989, v399, v3990, v3993, v3994, v3997, v400, v4000, v4001, v4002, v4003, v4004, v4005, v4006, v4007, v4008, v4009, v401, v4010,
    v4013, v4014, v4017, v402, v4020, v4021, v4022, v4023, v4024, v4025, v4026, v4027, v4028, v4029, v403, v4030, v4033, v4034, v4037, v4040, v4041,
    v4042, v4043, v4044, v4045, v4046, v4047, v4048, v4049, v4050, v4053, v4054, v4057, v406, v4060, v4061, v4062, v4063, v4064, v4065, v4066, v4067,
    v4068, v4069, v407, v4070, v4073, v4074, v4077, v408, v4080, v4081, v4082, v4083, v4084, v4085, v4086, v4087, v4088, v4089, v409, v4090, v4093, v4094,
    v4097, v410, v4100, v4101, v4102, v4103, v4104, v4105, v4106, v4107, v4108, v4109, v4110, v4113, v4114, v4117, v4120, v4121, v4122, v4123, v4124,
    v4125, v4126, v4127, v4128, v4129, v413, v4130, v4133, v4134, v4137, v414, v4140, v4141, v4142, v4143, v4144, v4145, v4146, v4147, v415, v4150, v4152,
    v4153, v4156, v4157, v4158, v4159, v416, v4160, v4163, v4164, v4165, v4166, v4167, v417, v4170, v4171, v4172, v4173, v4174, v4177, v4178, v4179,
    v4180, v4181, v4184, v4185, v4186, v4187, v4188, v4191, v4192, v4193, v4194, v4195, v4198, v4199, v420, v4200, v4201, v4202, v4205, v4206, v4207,
    v4208, v4209, v421, v4212, v4213, v4214, v4215, v4216, v4219, v422, v4220, v4221, v4222, v4223, v4226, v4227, v4228, v4229, v423, v4230, v4233, v4234,
    v4235, v4236, v4237, v4240, v4241, v4242, v4243, v4244, v4247, v4248, v4249, v425, v4250, v4251, v4254, v4255, v4256, v4257, v4258, v426, v4261,
    v4262, v4263, v4264, v4265, v4266, v4269, v4270, v4271, v4274, v4275, v4276, v4277, v4278, v4279, v428, v4282, v4283, v4284, v4287, v4288, v4289,
    v429, v4290, v4291, v4292, v4295, v4296, v4297, v4300, v4301, v4302, v4303, v4304, v4305, v4308, v4309, v4310, v4313, v4314, v4315, v4316, v4317,
    v4318, v4319, v432, v4320, v4323, v4324, v4325, v4328, v4329, v433, v4330, v4331, v4332, v4333, v4336, v4337, v4338, v434, v4341, v4342, v4343, v4344,
    v4345, v4346, v4349, v435, v4350, v4351, v4354, v4355, v4356, v4357, v4358, v4359, v436, v4362, v4363, v4364, v4367, v4368, v4369, v4370, v4371,
    v4372, v4373, v4374, v4376, v4378, v4379, v4380, v4383, v4386, v4387, v439, v4390, v4391, v4392, v4393, v4396, v4397, v440, v4400, v4403, v4404,
    v4405, v4406, v4407, v4408, v4409, v441, v4410, v4411, v4412, v4413, v4416, v4417, v442, v4420, v4423, v4424, v4425, v4426, v4427, v4428, v4429, v443,
    v4430, v4431, v4432, v4433, v4436, v4437, v4440, v4443, v4444, v4445, v4446, v4447, v4448, v4449, v4450, v4451, v4452, v4453, v4456, v4457, v446,
    v4460, v4463, v4464, v4465, v4466, v4467, v4468, v4469, v447, v4470, v4471, v4472, v4473, v4476, v4477, v448, v4480, v4483, v4484, v4485, v4486,
    v4487, v4488, v4489, v449, v4490, v4491, v4492, v4493, v4496, v4497, v450, v4500, v4503, v4504, v4505, v4506, v4507, v4508, v4509, v4510, v4511,
    v4512, v4513, v4516, v4517, v4520, v4523, v4524, v4525, v4526, v4527, v4528, v4529, v453, v4530, v4531, v4532, v4533, v4536, v4537, v454, v4540,
    v4543, v4544, v4545, v4546, v4547, v4548, v4549, v455, v4550, v4551, v4552, v4555, v4556, v4557, v456, v4560, v4561, v4562, v4563, v4564, v4565,
    v4568, v4569, v457, v4570, v4573, v4574, v4575, v4576, v4577, v4578, v4581, v4582, v4583, v4586, v4587, v4588, v4589, v4590, v4591, v4594, v4595,
    v4596, v4599, v460, v4600, v4601, v4602, v4603, v4604, v4605, v4606, v4609, v461, v4610, v4611, v4614, v4615, v4616, v4617, v4618, v4619, v462, v4622,
    v4623, v4624, v4627, v4628, v4629, v463, v4630, v4631, v4632, v4635, v4636, v4637, v464, v4640, v4641, v4642, v4643, v4644, v4645, v4648, v4649,
    v4650, v4653, v4654, v4655, v4656, v4657, v4658, v4659, v4660, v4662, v4664, v4665, v4666, v4669, v467, v4672, v4673, v4676, v4677, v4678, v4679,
    v468, v4682, v4683, v4686, v4689, v469, v4690, v4691, v4692, v4693, v4694, v4695, v4696, v4697, v4698, v4699, v470, v4702, v4703, v4706, v4709, v471,
    v4710, v4711, v4712, v4713, v4714, v4715, v4716, v4717, v4718, v4719, v4722, v4723, v4726, v4729, v4730, v4731, v4732, v4733, v4734, v4735, v4736,
    v4737, v4738, v4739, v474, v4742, v4743, v4746, v4749, v475, v4750, v4751, v4752, v4753, v4754, v4755, v4756, v4757, v4758, v4759, v476, v4762, v4763,
    v4766, v4769, v477, v4770, v4771, v4772, v4773, v4774, v4775, v4776, v4777, v4778, v4779, v478, v4782, v4783, v4786, v4789, v4790, v4791, v4792,
    v4793, v4794, v4795, v4796, v4797, v4798, v4799, v4802, v4803, v4806, v4809, v481, v4810, v4811, v4812, v4813, v4814, v4815, v4816, v4817, v4818,
    v4819, v482, v4822, v4823, v4826, v4829, v483, v4830, v4831, v4832, v4833, v4834, v4835, v4836, v4839, v484, v4841, v4842, v4845, v4846, v4847, v4848,
    v4849, v485, v4852, v4853, v4854, v4855, v4856, v4859, v4860, v4861, v4862, v4863, v4866, v4867, v4868, v4869, v4870, v4873, v4874, v4875, v4876,
    v4877, v488, v4880, v4881, v4882, v4883, v4884, v4887, v4888, v4889, v489, v4890, v4891, v4894, v4895, v4896, v4897, v4898, v490, v4901, v4902, v4903,
    v4904, v4905, v4908, v4909, v491, v4910, v4911, v4912, v4915, v4916, v4917, v4918, v4919, v492, v4922, v4923, v4924, v4925, v4926, v4927, v4930,
    v4931, v4932, v4933, v4934, v4937, v4938, v4939, v4940, v4941, v4944, v4945, v4946, v4947, v4948, v495, v4951, v4952, v4953, v4954, v4955, v4956,
    v4959, v496, v4960, v4961, v4964, v4965, v4966, v4967, v4968, v4969, v497, v4972, v4973, v4974, v4977, v4978, v4979, v498, v4980, v4981, v4982, v4985,
    v4986, v4987, v499, v4990, v4991, v4992, v4993, v4994, v4995, v4998, v4999, v5000, v5003, v5004, v5005, v5006, v5007, v5008, v5009, v5010, v5013,
    v5014, v5015, v5018, v5019, v502, v5020, v5021, v5022, v5023, v5026, v5027, v5028, v503, v5031, v5032, v5033, v5034, v5035, v5036, v5039, v504, v5040,
    v5041, v5044, v5045, v5046, v5047, v5048, v5049, v505, v5050, v5051, v5052, v5053, v5054, v5055, v5056, v5057, v5058, v5059, v506, v5060, v5061,
    v5062, v5063, v5064, v5065, v5066, v5067, v5068, v5069, v5070, v5073, v5076, v5077, v5079, v5080, v5081, v5082, v5083, v5084, v5085, v5086, v5087,
    v509, v5090, v5093, v5094, v5095, v5096, v5097, v5098, v5099, v510, v5100, v5101, v5102, v5103, v5104, v5105, v5106, v5107, v511, v5110, v5113, v5114,
    v5115, v5116, v5117, v5118, v5119, v512, v5120, v5121, v5122, v5123, v5124, v5125, v5126, v5127, v513, v5130, v5133, v5134, v5135, v5136, v5137,
    v5138, v5139, v5140, v5141, v5142, v5143, v5144, v5145, v5146, v5147, v5150, v5153, v5154, v5155, v5156, v5157, v5158, v5159, v516, v5160, v5161,
    v5162, v5163, v5166, v5167, v517, v5170, v5173, v5174, v5175, v5176, v5177, v5178, v5179, v518, v5180, v5181, v5182, v5183, v5186, v5187, v519, v5190,
    v5193, v5194, v5195, v5196, v5197, v5198, v5199, v520, v5200, v5201, v5202, v5203, v5206, v5207, v5210, v5213, v5214, v5215, v5216, v5217, v5218,
    v5219, v5220, v5221, v5222, v5223, v5226, v5227, v523, v5230, v5233, v5234, v5235, v5236, v5237, v5238, v5239, v524, v5240, v5241, v5242, v5243,
    v5244, v5245, v5246, v5247, v5248, v5249, v525, v5250, v5251, v5252, v5253, v5254, v5255, v5256, v5257, v5258, v5259, v526, v5260, v5261, v5262,
    v5263, v5264, v5265, v5266, v5267, v5268, v5269, v527, v5270, v5271, v5272, v5273, v5274, v5275, v5276, v5277, v5278, v5279, v5280, v5281, v5284,
    v5285, v5286, v5289, v5290, v5291, v5292, v5293, v5294, v5295, v5296, v5299, v530, v5300, v5301, v5304, v5305, v5306, v5307, v5308, v5309, v531,
    v5312, v5313, v5314, v5317, v5318, v5319, v532, v5320, v5321, v5322, v5325, v5326, v5327, v533, v5330, v5331, v5332, v5333, v5334, v5335, v5338,
    v5339, v534, v5340, v5343, v5344, v5345, v5346, v5347, v5348, v5349, v5350, v5352, v5354, v5355, v5356, v5359, v5362, v5363, v5365, v5366, v5367,
    v5368, v5369, v537, v5372, v5373, v5376, v5379, v538, v5380, v5381, v5382, v5383, v5384, v5385, v5386, v5387, v5388, v5389, v539, v5392, v5393, v5396,
    v5399, v540, v5400, v5401, v5402, v5403, v5404, v5405, v5406, v5407, v5408, v5409, v5412, v5413, v5416, v5419, v542, v5420, v5421, v5422, v5423,
    v5424, v5425, v5426, v5427, v5428, v5429, v543, v5432, v5433, v5436, v5439, v5440, v5441, v5442, v5443, v5444, v5445, v5446, v5447, v5448, v5449,
    v545, v5452, v5453, v5456, v5459, v546, v5460, v5461, v5462, v5463, v5464, v5465, v5466, v5467, v5468, v5469, v5472, v5473, v5476, v5479, v5480,
    v5481, v5482, v5483, v5484, v5485, v5486, v5487, v5488, v5489, v549, v5492, v5493, v5496, v5499, v550, v5500, v5501, v5502, v5503, v5504, v5505,
    v5506, v5507, v5508, v5509, v551, v5512, v5513, v5516, v5519, v552, v5520, v5521, v5522, v5523, v5524, v5525, v5526, v5528, v553, v5530, v5531, v5533,
    v5534, v5535, v5538, v5539, v5540, v5541, v5542, v5543, v5546, v5547, v5548, v5549, v5550, v5553, v5554, v5555, v5556, v5557, v556, v5560, v5561,
    v5562, v5563, v5564, v5565, v5568, v5569, v557, v5570, v5573, v5574, v5575, v5576, v5577, v5578, v558, v5581, v5582, v5583, v5586, v5587, v5588,
    v5589, v559, v5590, v5591, v5594, v5595, v5596, v5599, v560, v5600, v5601, v5602, v5603, v5604, v5607, v5608, v5609, v5612, v5613, v5614, v5615,
    v5616, v5617, v5618, v5619, v5622, v5623, v5624, v5627, v5628, v5629, v563, v5630, v5631, v5632, v5635, v5636, v5637, v564, v5640, v5641, v5642,
    v5643, v5644, v5645, v5648, v5649, v565, v5650, v5653, v5654, v5655, v5656, v5657, v5658, v566, v5661, v5662, v5663, v5666, v5667, v5668, v5669, v567,
    v5670, v5671, v5672, v5673, v5675, v5677, v5678, v5679, v5682, v5685, v5686, v5688, v5689, v5690, v5691, v5692, v5695, v5696, v5699, v570, v5702,
    v5703, v5704, v5705, v5706, v5707, v5708, v5709, v571, v5710, v5711, v5712, v5715, v5716, v5719, v572, v5722, v5723, v5724, v5725, v5726, v5727,
    v5728, v5729, v573, v5730, v5731, v5732, v5735, v5736, v5739, v574, v5742, v5743, v5744, v5745, v5746, v5747, v5748, v5749, v5750, v5751, v5752,
    v5755, v5756, v5759, v5762, v5763, v5764, v5765, v5766, v5767, v5768, v5769, v577, v5770, v5771, v5772, v5775, v5776, v5779, v578, v5782, v5783,
    v5784, v5785, v5786, v5787, v5788, v5789, v579, v5790, v5791, v5792, v5795, v5796, v5799, v580, v5802, v5803, v5804, v5805, v5806, v5807, v5808,
    v5809, v581, v5810, v5811, v5812, v5815, v5816, v5819, v5822, v5823, v5824, v5825, v5826, v5827, v5828, v5829, v5830, v5831, v5832, v5835, v5836,
    v5839, v584, v5842, v5843, v5844, v5845, v5846, v5847, v5848, v5849, v585, v5851, v5853, v5854, v5856, v5857, v5858, v586, v5861, v5862, v5863, v5864,
    v5865, v5866, v5869, v587, v5870, v5871, v5872, v5873, v5876, v5877, v5878, v5879, v588, v5880, v5881, v5884, v5885, v5886, v5889, v5890, v5891,
    v5892, v5893, v5894, v5897, v5898, v5899, v5902, v5903, v5904, v5905, v5906, v5907, v591, v5910, v5911, v5912, v5915, v5916, v5917, v5918, v5919,
    v592, v5920, v5923, v5924, v5925, v5928, v5929, v593, v5930, v5931, v5932, v5933, v5934, v5935, v5938, v5939, v594, v5940, v5943, v5944, v5945, v5946,
    v5947, v5948, v595, v5951, v5952, v5953, v5956, v5957, v5958, v5959, v5960, v5961, v5964, v5965, v5966, v5969, v5970, v5971, v5972, v5973, v5974,
    v5977, v5978, v5979, v598, v5982, v5983, v5984, v5985, v5986, v5987, v5988, v5989, v599, v5991, v5993, v5994, v5995, v5998, v600, v6001, v6002, v6004,
    v6005, v6006, v6007, v6008, v601, v6011, v6012, v6015, v6018, v6019, v602, v6020, v6021, v6022, v6023, v6024, v6025, v6026, v6027, v6028, v6031,
    v6032, v6035, v6038, v6039, v6040, v6041, v6042, v6043, v6044, v6045, v6046, v6047, v6048, v605, v6051, v6052, v6055, v6058, v6059, v606, v6060,
    v6061, v6062, v6063, v6064, v6065, v6066, v6067, v6068, v607, v6071, v6072, v6075, v6078, v6079, v608, v6080, v6081, v6082, v6083, v6084, v6085,
    v6086, v6087, v6088, v609, v6091, v6092, v6095, v6098, v6099, v6100, v6101, v6102, v6103, v6104, v6105, v6106, v6107, v6108, v6111, v6112, v6115,
    v6118, v6119, v612, v6120, v6121, v6122, v6123, v6124, v6125, v6126, v6127, v6128, v613, v6131, v6132, v6135, v6138, v6139, v614, v6140, v6141, v6142,
    v6143, v6144, v6145, v6146, v6147, v6148, v615, v6151, v6152, v6155, v6158, v6159, v616, v6160, v6161, v6162, v6163, v6164, v6165, v6166, v6167,
    v6170, v6171, v6172, v6175, v6176, v6177, v6178, v6179, v6180, v6183, v6184, v6185, v6188, v6189, v619, v6190, v6191, v6192, v6193, v6196, v6197,
    v6198, v620, v6201, v6202, v6203, v6204, v6205, v6206, v6209, v621, v6210, v6211, v6214, v6215, v6216, v6217, v6218, v6219, v622, v6220, v6221, v6224,
    v6225, v6226, v6229, v623, v6230, v6231, v6232, v6233, v6234, v6237, v6238, v6239, v6242, v6243, v6244, v6245, v6246, v6247, v6250, v6251, v6252,
    v6255, v6256, v6257, v6258, v6259, v626, v6260, v6263, v6264, v6265, v6268, v6269, v627, v6270, v6271, v6272, v6273, v6274, v6275, v6277, v6279, v628,
    v6280, v6281, v6284, v6287, v6288, v629, v6290, v6292, v6293, v6294, v6295, v6296, v6299, v630, v6300, v6303, v6306, v6307, v6308, v6309, v6310,
    v6311, v6312, v6313, v6314, v6315, v6316, v6319, v6320, v6323, v6326, v6327, v6328, v6329, v633, v6330, v6331, v6332, v6333, v6334, v6335, v6336,
    v6339, v634, v6340, v6343, v6346, v6347, v6348, v6349, v635, v6350, v6351, v6352, v6353, v6354, v6355, v6356, v6359, v636, v6360, v6363, v6366, v6367,
    v6368, v6369, v637, v6370, v6371, v6372, v6373, v6375, v6377, v6378, v6380, v6381, v6382, v6385, v6386, v6387, v6388, v6389, v6390, v6393, v6394,
    v6395, v6396, v6397, v6398, v640, v6401, v6402, v6403, v6406, v6407, v6408, v6409, v641, v6410, v6411, v6414, v6415, v6416, v6419, v642, v6420, v6421,
    v6422, v6423, v6424, v6427, v6428, v6429, v643, v6432, v6433, v6434, v6435, v6436, v6437, v644, v6440, v6441, v6442, v6445, v6446, v6447, v6448,
    v6449, v6450, v6451, v6452, v6455, v6456, v6457, v6460, v6461, v6467, v6468, v6469, v647, v6470, v6473, v6474, v6475, v6478, v6479, v648, v6480,
    v6481, v6482, v6483, v6486, v6487, v6488, v649, v6491, v6492, v6493, v6494, v6495, v6496, v6499, v650, v6500, v6501, v6504, v6505, v6506, v6507,
    v6508, v6509, v651, v6510, v6511, v6513, v6515, v6516, v6517, v6520, v6523, v6524, v6526, v6528, v6529, v6530, v6531, v6532, v6535, v6536, v6539,
    v654, v6542, v6543, v6544, v6545, v6546, v6547, v6548, v6549, v655, v6550, v6551, v6552, v6555, v6556, v6559, v656, v6562, v6563, v6564, v6565, v6566,
    v6567, v6568, v6569, v657, v6570, v6571, v6572, v6575, v6576, v6579, v6582, v6583, v6584, v6585, v6586, v6587, v6588, v6589, v659, v6590, v6591,
    v6594, v6595, v6596, v6599, v660, v6600, v6606, v6607, v6608, v6609, v6612, v6613, v6614, v6617, v6618, v662, v6624, v6625, v6626, v6627, v663, v6630,
    v6631, v6632, v6635, v6636, v6637, v6638, v6639, v6640, v6643, v6644, v6645, v6648, v6649, v6650, v6651, v6652, v6653, v6654, v6655, v6656, v6659,
    v666, v6660, v6661, v6664, v6665, v667, v6671, v6672, v6673, v6674, v6677, v6678, v6679, v668, v6682, v6683, v6689, v669, v6690, v6691, v6692, v6695,
    v6696, v6697, v670, v6700, v6701, v6702, v6703, v6704, v6705, v6706, v6707, v6709, v6711, v6712, v6713, v6716, v6719, v6720, v6722, v6724, v6725,
    v6726, v6727, v6728, v673, v6731, v6732, v6735, v6738, v6739, v674, v6740, v6741, v6742, v6743, v6744, v6745, v6746, v6747, v6748, v675, v6751, v6752,
    v6755, v6758, v6759, v676, v6760, v6761, v6762, v6763, v6764, v6765, v6767, v6769, v677, v6770, v6772, v6773, v6776, v6777, v6778, v6779, v6780,
    v6781, v6784, v6785, v6786, v6789, v6790, v6796, v6797, v6798, v6799, v680, v6802, v6803, v6804, v6807, v6808, v681, v6814, v6815, v6816, v6817,
    v6819, v682, v6820, v6823, v6824, v6825, v6828, v6829, v683, v6835, v6836, v6837, v6838, v6839, v684, v6840, v6841, v6842, v6843, v6844, v6845, v6846,
    v6849, v6852, v6853, v6854, v6855, v6857, v6859, v6860, v6861, v6862, v6865, v6866, v6869, v687, v6872, v6873, v6874, v6875, v6876, v6877, v6878,
    v6879, v688, v6880, v6881, v6882, v6887, v6888, v6889, v689, v6890, v6893, v6894, v6895, v6896, v6897, v6898, v690, v6901, v6902, v6903, v6904, v6905,
    v6906, v6909, v691, v6910, v6911, v6912, v6913, v6914, v6915, v6917, v6918, v6930, v694, v6940, v6941, v6942, v6943, v6944, v6945, v6946, v6947,
    v6948, v6949, v695, v6950, v6951, v6952, v6953, v6954, v6955, v6956, v6957, v6958, v6959, v696, v6960, v6961, v6962, v6963, v6964, v6965, v6966,
    v6967, v6968, v6969, v697, v6970, v6971, v6972, v6973, v6974, v6975, v6976, v6977, v6978, v6979, v698, v6980, v6981, v6982, v6983, v6984, v6985,
    v6986, v6987, v6988, v6989, v6990, v6991, v6992, v6993, v6994, v6995, v6996, v6999, v7000, v7001, v7004, v7005, v7006, v7007, v7008, v7009, v701,
    v7012, v7013, v7014, v7017, v7018, v7019, v702, v7020, v7021, v7022, v7025, v7026, v7027, v703, v7030, v7031, v7032, v7033, v7034, v7035, v7038,
    v7039, v704, v7040, v7043, v7044, v7045, v7046, v7047, v7048, v7049, v705, v7050, v7051, v7052, v7053, v7054, v7055, v7056, v7057, v7058, v7061,
    v7062, v7063, v7066, v7068, v7069, v7070, v7071, v7072, v7073, v7074, v7075, v7076, v7079, v708, v7082, v7083, v7084, v7085, v7086, v7087, v7088,
    v7089, v709, v7090, v7091, v7092, v7093, v7094, v7095, v7096, v7099, v710, v7102, v7103, v7104, v7105, v7106, v7107, v7108, v7109, v711, v7110, v7111,
    v7112, v7113, v7114, v7115, v7116, v7119, v712, v7122, v7123, v7124, v7125, v7126, v7127, v7128, v7129, v7130, v7131, v7132, v7133, v7134, v7135,
    v7136, v7139, v7142, v7143, v7144, v7145, v7146, v7147, v7148, v7149, v715, v7150, v7151, v7152, v7155, v7156, v7159, v716, v7162, v7163, v7164,
    v7165, v7166, v7167, v7168, v7169, v717, v7170, v7171, v7172, v7175, v7176, v7179, v718, v7182, v7183, v7184, v7185, v7186, v7187, v7188, v7189, v719,
    v7190, v7191, v7192, v7195, v7196, v7199, v7202, v7203, v7204, v7205, v7206, v7207, v7208, v7209, v7210, v7211, v7212, v7215, v7216, v7219, v722,
    v7222, v7223, v7224, v7225, v7226, v7227, v7228, v7229, v723, v7231, v7232, v7234, v7235, v7238, v7239, v724, v7240, v7241, v7244, v7245, v7246,
    v7247, v725, v7250, v7251, v7252, v7253, v7256, v7257, v7258, v7259, v726, v7262, v7263, v7264, v7265, v7266, v7269, v7270, v7271, v7272, v7273,
    v7276, v7277, v7278, v7279, v7280, v7283, v7284, v7285, v7286, v7287, v729, v7290, v7291, v7292, v7293, v7294, v7297, v7298, v7299, v730, v7300,
    v7301, v7304, v7305, v7306, v7307, v7308, v731, v7311, v7312, v7313, v7314, v7315, v7318, v7319, v732, v7320, v7321, v7322, v7325, v7326, v7327,
    v7328, v7329, v733, v7332, v7333, v7334, v7335, v7336, v7339, v7340, v7341, v7342, v7343, v7344, v7347, v7348, v7349, v7352, v7353, v7354, v7355,
    v7356, v7357, v736, v7360, v7361, v7362, v7365, v7366, v7367, v7368, v7369, v737, v7370, v7373, v7374, v7375, v7378, v7379, v738, v7380, v7381, v7382,
    v7383, v7386, v7387, v7388, v739, v7391, v7392, v7393, v7394, v7395, v7396, v7397, v7398, v740, v7401, v7402, v7403, v7406, v7407, v7408, v7409,
    v7410, v7411, v7414, v7415, v7416, v7419, v7420, v7421, v7422, v7423, v7424, v7427, v7428, v7429, v743, v7432, v7433, v7434, v7435, v7436, v7437,
    v744, v7440, v7441, v7442, v7445, v7446, v7447, v7448, v7449, v745, v7450, v7451, v7452, v7454, v7456, v7457, v7458, v7459, v746, v7460, v7463, v7464,
    v7465, v7468, v7469, v747, v7471, v7472, v7473, v7474, v7475, v7478, v7479, v7482, v7485, v7486, v7487, v7488, v7489, v7490, v7491, v7492, v7493,
    v7494, v7495, v7498, v7499, v750, v7502, v7505, v7506, v7507, v7508, v7509, v751, v7510, v7511, v7512, v7513, v7514, v7515, v7518, v7519, v752, v7522,
    v7525, v7526, v7527, v7528, v7529, v753, v7530, v7531, v7532, v7533, v7534, v7535, v7538, v7539, v754, v7542, v7545, v7546, v7547, v7548, v7549,
    v7550, v7551, v7552, v7553, v7554, v7555, v7558, v7559, v7562, v7565, v7566, v7567, v7568, v7569, v757, v7570, v7571, v7572, v7573, v7574, v7575,
    v7578, v7579, v758, v7582, v7585, v7586, v7587, v7588, v7589, v759, v7590, v7591, v7592, v7593, v7594, v7595, v7598, v7599, v760, v7602, v7605, v7606,
    v7607, v7608, v7609, v761, v7610, v7611, v7612, v7613, v7614, v7615, v7618, v7619, v7622, v7625, v7626, v7627, v7628, v7629, v7630, v7631, v7632,
    v7634, v7635, v7637, v7638, v764, v7641, v7642, v7643, v7644, v7645, v7648, v7649, v765, v7650, v7651, v7652, v7655, v7656, v7657, v7658, v7659, v766,
    v7662, v7663, v7664, v7665, v7666, v7669, v767, v7670, v7671, v7672, v7673, v7676, v7677, v7678, v7679, v768, v7680, v7683, v7684, v7685, v7686,
    v7687, v7690, v7691, v7692, v7693, v7694, v7697, v7698, v7699, v7700, v7701, v7704, v7705, v7706, v7707, v7708, v771, v7711, v7712, v7713, v7714,
    v7715, v7718, v7719, v772, v7720, v7721, v7722, v7723, v7726, v7727, v7728, v7729, v773, v7730, v7733, v7734, v7735, v7736, v7737, v774, v7740, v7741,
    v7742, v7743, v7744, v7747, v7748, v7749, v7750, v7751, v7752, v7755, v7756, v7757, v776, v7760, v7761, v7762, v7763, v7764, v7765, v7768, v7769,
    v777, v7770, v7773, v7774, v7775, v7776, v7777, v7778, v7781, v7782, v7783, v7786, v7787, v7788, v7789, v779, v7790, v7791, v7794, v7795, v7796,
    v7799, v780, v7800, v7801, v7802, v7803, v7804, v7805, v7806, v7809, v7810, v7811, v7814, v7815, v7816, v7817, v7818, v7819, v7822, v7823, v7824,
    v7827, v7828, v7829, v783, v7830, v7831, v7832, v7835, v7836, v7837, v784, v7840, v7841, v7842, v7843, v7844, v7845, v7848, v7849, v785, v7850, v7853,
    v7854, v7855, v7856, v7857, v7858, v7859, v786, v7860, v7862, v7864, v7865, v7866, v7867, v7868, v787, v7871, v7872, v7873, v7876, v7877, v7879,
    v7880, v7881, v7882, v7883, v7886, v7887, v7890, v7893, v7894, v7895, v7896, v7897, v7898, v7899, v790, v7900, v7901, v7902, v7903, v7906, v7907,
    v791, v7910, v7913, v7914, v7915, v7916, v7917, v7918, v7919, v792, v7920, v7921, v7922, v7923, v7926, v7927, v793, v7930, v7933, v7934, v7935, v7936,
    v7937, v7938, v7939, v794, v7940, v7941, v7942, v7943, v7946, v7947, v7950, v7953, v7954, v7955, v7956, v7957, v7958, v7959, v7960, v7961, v7962,
    v7963, v7966, v7967, v797, v7970, v7973, v7974, v7975, v7976, v7977, v7978, v7979, v798, v7980, v7981, v7982, v7983, v7986, v7987, v799, v7990, v7993,
    v7994, v7995, v7996, v7997, v7998, v7999, v800, v8000, v8001, v8002, v8003, v8006, v8007, v801, v8010, v8013, v8014, v8015, v8016, v8017, v8018,
    v8019, v8020, v8021, v8022, v8023, v8026, v8027, v8030, v8033, v8034, v8035, v8036, v8037, v8038, v8039, v804, v8040, v8041, v8042, v8045, v8046,
    v8047, v805, v8050, v8051, v8052, v8053, v8054, v8055, v8058, v8059, v806, v8060, v8063, v8064, v8065, v8066, v8067, v8068, v807, v8071, v8072, v8073,
    v8076, v8077, v8078, v8079, v808, v8080, v8081, v8084, v8085, v8086, v8089, v8090, v8091, v8092, v8093, v8094, v8095, v8096, v8099, v8100, v8101,
    v8104, v8105, v8106, v8107, v8108, v8109, v811, v8112, v8113, v8114, v8117, v8118, v8119, v812, v8120, v8121, v8122, v8125, v8126, v8127, v813, v8130,
    v8131, v8132, v8133, v8134, v8135, v8138, v8139, v814, v8140, v8143, v8144, v8145, v8146, v8147, v8148, v8149, v815, v8150, v8152, v8154, v8155,
    v8156, v8157, v8158, v8161, v8162, v8163, v8166, v8167, v8169, v8170, v8171, v8172, v8173, v8176, v8177, v818, v8180, v8183, v8184, v8185, v8186,
    v8187, v8188, v8189, v819, v8190, v8191, v8192, v8193, v8196, v8197, v820, v8200, v8203, v8204, v8205, v8206, v8207, v8208, v8209, v821, v8210, v8211,
    v8212, v8213, v8216, v8217, v822, v8220, v8223, v8224, v8225, v8226, v8227, v8228, v8229, v8230, v8231, v8232, v8233, v8236, v8237, v8240, v8243,
    v8244, v8245, v8246, v8247, v8248, v8249, v825, v8250, v8251, v8252, v8253, v8256, v8257, v826, v8260, v8263, v8264, v8265, v8266, v8267, v8268,
    v8269, v827, v8270, v8271, v8272, v8273, v8276, v8277, v828, v8280, v8283, v8284, v8285, v8286, v8287, v8288, v8289, v829, v8290, v8291, v8292, v8293,
    v8296, v8297, v8300, v8303, v8304, v8305, v8306, v8307, v8308, v8309, v8310, v8311, v8312, v8313, v8316, v8317, v832, v8320, v8323, v8324, v8325,
    v8326, v8327, v8328, v8329, v833, v8330, v8332, v8335, v8337, v8338, v8339, v834, v8342, v8343, v8344, v8345, v8346, v8347, v835, v8350, v8351, v8352,
    v8353, v8354, v8357, v8358, v8359, v836, v8360, v8361, v8364, v8365, v8366, v8367, v8368, v8369, v8372, v8373, v8374, v8377, v8378, v8379, v8380,
    v8381, v8382, v8385, v8386, v8387, v839, v8390, v8391, v8392, v8393, v8394, v8395, v8398, v8399, v840, v8400, v8403, v8404, v8405, v8406, v8407,
    v8408, v841, v8411, v8412, v8413, v8416, v8417, v8418, v8419, v842, v8420, v8421, v8422, v8423, v8426, v8427, v8428, v843, v8431, v8432, v8433, v8434,
    v8435, v8436, v8439, v8440, v8441, v8444, v8445, v8446, v8447, v8448, v8449, v8452, v8453, v8454, v8457, v8458, v8459, v846, v8460, v8461, v8462,
    v8465, v8466, v8467, v847, v8470, v8471, v8472, v8473, v8474, v8475, v8476, v8477, v8479, v848, v8481, v8483, v8484, v8485, v8488, v8489, v849, v8490,
    v8493, v8494, v8497, v8498, v8499, v850, v8500, v8503, v8504, v8507, v8510, v8511, v8512, v8513, v8514, v8515, v8516, v8517, v8518, v8519, v8520,
    v8523, v8524, v8527, v853, v8530, v8531, v8532, v8533, v8534, v8535, v8536, v8537, v8538, v8539, v854, v8540, v8543, v8544, v8547, v855, v8550, v8551,
    v8552, v8553, v8554, v8555, v8556, v8557, v8558, v8559, v856, v8560, v8563, v8564, v8567, v857, v8570, v8571, v8572, v8573, v8574, v8575, v8576,
    v8577, v8578, v8579, v8580, v8583, v8584, v8587, v8590, v8591, v8592, v8593, v8594, v8595, v8596, v8597, v8598, v8599, v860, v8600, v8603, v8604,
    v8607, v861, v8610, v8611, v8612, v8613, v8614, v8615, v8616, v8617, v8618, v8619, v862, v8620, v8623, v8624, v8627, v863, v8630, v8631, v8632, v8633,
    v8634, v8635, v8636, v8637, v8638, v8639, v864, v8640, v8643, v8644, v8647, v865, v8650, v8651, v8652, v8653, v8654, v8655, v8656, v8657, v8658,
    v8659, v8662, v8663, v8664, v8667, v8668, v8669, v8670, v8671, v8672, v8675, v8676, v8677, v868, v8680, v8681, v8682, v8683, v8684, v8685, v8688,
    v8689, v869, v8690, v8693, v8694, v8695, v8696, v8697, v8698, v870, v8701, v8702, v8703, v8706, v8707, v8708, v8709, v871, v8710, v8711, v8712, v8713,
    v8716, v8717, v8718, v872, v8721, v8722, v8723, v8724, v8725, v8726, v8729, v8730, v8731, v8734, v8735, v8736, v8737, v8738, v8739, v8742, v8743,
    v8744, v8747, v8748, v8749, v875, v8750, v8751, v8752, v8755, v8756, v8757, v876, v8760, v8761, v8762, v8763, v8764, v8765, v8766, v8767, v8769, v877,
    v8771, v8773, v8774, v8775, v8778, v8779, v878, v8780, v8783, v8784, v8787, v8788, v8789, v879, v8790, v8793, v8794, v8797, v8800, v8801, v8802,
    v8803, v8804, v8805, v8806, v8807, v8808, v8809, v8810, v8813, v8814, v8817, v882, v8820, v8821, v8822, v8823, v8824, v8825, v8826, v8827, v8828,
    v8829, v883, v8830, v8833, v8834, v8837, v884, v8840, v8841, v8842, v8843, v8844, v8845, v8846, v8847, v8848, v8849, v885, v8850, v8853, v8854, v8857,
    v886, v8860, v8861, v8862, v8863, v8864, v8865, v8866, v8867, v8868, v8869, v8870, v8873, v8874, v8877, v8880, v8881, v8882, v8883, v8884, v8885,
    v8886, v8887, v8888, v8889, v889, v8890, v8893, v8894, v8897, v890, v8900, v8901, v8902, v8903, v8904, v8905, v8906, v8907, v8908, v8909, v891, v8910,
    v8913, v8914, v8917, v892, v8920, v8921, v8922, v8923, v8924, v8925, v8926, v8927, v8928, v8929, v8930, v8933, v8934, v8937, v894, v8940, v8941,
    v8942, v8943, v8944, v8945, v8946, v8947, v8949, v8951, v8952, v8954, v8955, v8956, v8959, v8960, v8961, v8962, v8963, v8964, v8967, v8968, v8969,
    v897, v8970, v8971, v8974, v8975, v8976, v8977, v8978, v8979, v898, v8982, v8983, v8984, v8987, v8988, v8989, v899, v8990, v8991, v8992, v8995, v8996,
    v8997, v900, v9000, v9001, v9002, v9003, v9004, v9005, v9008, v9009, v901, v9010, v9013, v9014, v9015, v9016, v9017, v9018, v9021, v9022, v9023,
    v9026, v9027, v9028, v9029, v9030, v9031, v9032, v9033, v9036, v9037, v9038, v904, v9041, v9042, v9043, v9044, v9045, v9046, v9049, v905, v9050,
    v9051, v9054, v9055, v9056, v9057, v9058, v9059, v906, v9062, v9063, v9064, v9067, v9068, v9069, v907, v9070, v9071, v9072, v9075, v9076, v9077, v908,
    v9080, v9081, v9082, v9083, v9084, v9085, v9086, v9087, v9089, v909, v9091, v9093, v9094, v9095, v9098, v9099, v9100, v9103, v9104, v9106, v9109,
    v9110, v9111, v9112, v9115, v9116, v9119, v912, v9122, v9123, v9124, v9125, v9126, v9127, v9128, v9129, v913, v9130, v9131, v9132, v9135, v9136,
    v9139, v914, v9142, v9143, v9144, v9145, v9146, v9147, v9148, v9149, v915, v9150, v9151, v9152, v9155, v9156, v9159, v916, v9162, v9163, v9164, v9165,
    v9166, v9167, v9168, v9169, v9170, v9171, v9172, v9175, v9176, v9179, v9182, v9183, v9184, v9185, v9186, v9187, v9188, v9189, v919, v9191, v9193,
    v9194, v9196, v9197, v9198, v920, v9201, v9202, v9203, v9204, v9205, v9206, v9209, v921, v9210, v9211, v9212, v9213, v9214, v9217, v9218, v9219, v922,
    v9222, v9223, v9224, v9225, v9226, v9227, v923, v9230, v9231, v9232, v9235, v9236, v9237, v9238, v9239, v9240, v9243, v9244, v9245, v9248, v9249,
    v9250, v9251, v9252, v9253, v9256, v9257, v9258, v926, v9261, v9262, v9263, v9264, v9265, v9266, v9267, v9268, v927, v9271, v9272, v9273, v9276,
    v9277, v928, v9283, v9284, v9285, v9286, v9289, v929, v9290, v9291, v9294, v9295, v9296, v9297, v9298, v9299, v9302, v9303, v9304, v9307, v9308,
    v9309, v931, v9310, v9311, v9312, v9315, v9316, v9317, v9320, v9321, v9322, v9323, v9324, v9325, v9326, v9327, v9329, v933, v9331, v9333, v9334,
    v9335, v9338, v9339, v934, v9340, v9343, v9344, v9346, v9348, v9349, v935, v9350, v9351, v9352, v9355, v9356, v9359, v936, v9362, v9363, v9364, v9365,
    v9366, v9367, v9368, v9369, v937, v9370, v9371, v9372, v9375, v9376, v9379, v938, v9382, v9383, v9384, v9385, v9386, v9387, v9388, v9389, v9390,
    v9391, v9392, v9395, v9396, v9399, v9402, v9403, v9404, v9405, v9406, v9407, v9408, v9409, v941, v9410, v9411, v9414, v9415, v9416, v9419, v942,
    v9420, v9426, v9427, v9428, v9429, v943, v9432, v9433, v9434, v9437, v9438, v944, v9444, v9445, v9446, v9447, v945, v9450, v9451, v9452, v9455, v9456,
    v9457, v9458, v9459, v946, v9460, v9463, v9464, v9465, v9468, v9469, v9470, v9471, v9472, v9473, v9475, v9476, v9479, v9480, v9481, v9484, v9485,
    v949, v9491, v9492, v9493, v9494, v9497, v9498, v9499, v950, v9502, v9503, v9509, v951, v9510, v9511, v9512, v9515, v9516, v9517, v952, v9520, v9521,
    v9522, v9523, v9524, v9525, v9526, v9527, v9529, v953, v9531, v9533, v9534, v9535, v9538, v9539, v9540, v9543, v9544, v9546, v9548, v9549, v9550,
    v9551, v9552, v9555, v9556, v9559, v956, v9562, v9563, v9564, v9565, v9566, v9567, v9568, v9569, v957, v9570, v9571, v9572, v9575, v9576, v9579, v958,
    v9582, v9583, v9584, v9585, v9586, v9587, v9588, v9589, v959, v9591, v9593, v9594, v9596, v9597, v9600, v9601, v9602, v9603, v9604, v9605, v9608,
    v9609, v961, v9610, v9613, v9614, v9620, v9621, v9622, v9623, v9626, v9627, v9628, v963, v9631, v9632, v9638, v9639, v964, v9640, v9641, v9643, v9644,
    v9647, v9648, v9649, v965, v9652, v9653, v9659, v966, v9660, v9661, v9662, v9663, v9664, v9665, v9666, v9667, v9668, v967, v9670, v9671, v9672, v9675,
    v9676, v9677, v968, v9680, v9682, v9683, v9685, v9687, v9688, v9689, v9690, v9693, v9694, v9697, v9700, v9701, v9702, v9703, v9704, v9705, v9706,
    v9707, v9708, v9709, v971, v9710, v9716, v9717, v9718, v972, v9721, v9722, v9724, v9725, v9726, v9729, v973, v9730, v9732, v9733, v9734, v9737, v9738,
    v9739, v974, v9740, v9741, v9742, v9743, v9745, v9746, v975, v9758, v976, v9768, v9769, v9770, v9771, v9772, v9773, v9774, v9775, v9776, v9777, v9778,
    v9779, v9780, v9781, v9782, v9783, v9784, v9785, v9786, v9787, v9788, v9789, v979, v9790, v9791, v9792, v9793, v9794, v9795, v9796, v9797, v9798,
    v9799, v980, v9800, v9801, v9802, v9803, v9804, v9805, v9806, v9807, v9808, v9809, v981, v9810, v9811, v9812, v9813, v9814, v9815, v9816, v9817,
    v9818, v9819, v982, v9820, v9821, v9822, v9823, v9824, v9827, v9828, v9829, v9832, v9833, v9834, v9835, v9836, v9837, v984, v9840, v9841, v9842,
    v9845, v9846, v9847, v9848, v9849, v9850, v9853, v9854, v9855, v9858, v9859, v986, v9860, v9861, v9862, v9863, v9866, v9867, v9868, v987, v9871,
    v9872, v9873, v9874, v9875, v9876, v9877, v9878, v9879, v988, v9880, v9881, v9882, v9884, v9885, v9886, v9889, v989, v9890, v9891, v9894, v9897,
    v9898, v9899, v990, v9900, v9901, v9902, v9903, v9904, v9907, v9910, v9911, v9912, v9913, v9914, v9915, v9916, v9917, v9918, v9919, v9920, v9921,
    v9922, v9923, v9924, v9927, v993, v9930, v9931, v9932, v9933, v9934, v9935, v9936, v9937, v9938, v9939, v994, v9940, v9941, v9942, v9943, v9944,
    v9947, v995, v9950, v9951, v9952, v9953, v9954, v9955, v9956, v9957, v9958, v9959, v996, v9960, v9961, v9962, v9963, v9964, v9967, v997, v9970, v9971,
    v9972, v9973, v9974, v9975, v9976, v9977, v9978, v9979, v998, v9980, v9983, v9984, v9987, v999, v9990, v9991, v9992, v9993, v9994, v9995, v9996,
    v9997, v9998, v9999, cast_ab_1ab, cast_1ab_ab, cast_11ab_ab, cast_ab_11ab, cast_a_1a, cast_same, slice_tl, transpose_tl, truncf_tl, extf_tl,
    readAt_e4m3, readAt_e5m2, readCov_whole, readCov_hit, readCov_skip3, readCov_skip2, readCov_pair, mul_ts, add_bias, far_tile, maxs_step, sums_step,
    nt_step, nn_step, zero_add_tile, zero_add_bcast, sums_all, maxs_all, nt_all, nn_all, red_sum, red_max, red_colSum, red_colMax, mm_nt_512x96_512x96,
    mm_nt_128x96_512x96, mm_nt_128x96_384x96, mm_nt_128x96_256x96, mm_nt_128x96_128x96, mm_nt_256x96_512x96, mm_nt_96x512_256x512, mm_nt_96x256_256x256,
    mm_nn_96x256_256x512, mm_nn_96x256_256x256, ↓sum16_eq, ↓max16_eq, ↓sum8_eq, ↓max8_eq, ↓c4_8_eq, ↓c4_128_eq, ↓c2_128_eq, ↓c2_512_eq, ↓c2_256_eq,
    ↓c2_96_eq, row_all, cat4_8, cat4_128, cat4_zero, cat2_128, cat2_zero, stack_512, stack_256, pad_512, exp_sub, p_dp, p_inv, dp_row, p_ds, inv_row,
    drow_row, mul_scalar, Env.P_van, Env.PDP_van, Env.PN_van, Env.DS_van, hts, hd, hs, hdq, hdk, hdv, pay_q, pay_o, pay_k, Nat.reduceAdd, Nat.reduceMul,
    Nat.reduceSub, Nat.reduceDiv, Nat.reduceMod, Nat.reduceLeDiff, Nat.reduceLT, Nat.reduceEqDiff, Nat.zero_add, Nat.add_zero, eq_self, and_self,
    and_true, true_and, ne_eq, not_true, not_false_iff, true_or, or_true, or_false, false_or, or_self]
end Cert.Attn
-- ==== Proof.OutB.lean ====
module
public import proofs.«01_k».proof.Proof.Pay
public import proofs.«01_k».proof.Proof.Gen.KernelIdeal.Frame.RunB
@[expose] public section
set_option maxRecDepth 100000
noncomputable section
namespace Cert.Attn
open Idealize.ShloMosaic Cert.KernelIdeal Cert.KernelIdeal.Gen Idealize.ShloMosaic.TcCoe Idealize.ShloMosaic.Tactic
open Cert.KernelIdeal.Gen.kernelRun0_B.sl
variable [Facts₀]
/-! # What the kernel body stores, at the later batch entry of a head

Every value of the body is a tile of one of the matrices of `Env`: the score scale, the two bias tiles, the output scales
and the four slabs are given as such, and each operation takes tiles to a tile. -/

set_option maxHeartbeats 0 in
/-- The six row strips stored to each of `dq`, `dk` and `dv` are tiles of the gradients' closed forms. -/
theorem outB (E : Env) (c : Dev nD) (i : grid0.Coords) (arg2 : Memref sig .tc .smem S3x24 .f32) (harg2 : arg2.IsWhole) (arg3 : Memref sig .tc .smem S3x24 .f32) (harg3 :
  arg3.IsWhole) (arg4 : Memref sig .tc .smem S3x24 .f32) (harg4 : arg4.IsWhole) (arg5 : Memref sig .tc .smem S3x24 .f32) (harg5 : arg5.IsWhole) (arg6 :
  Memref sig .tc .smem S24x32 .f32) (harg6 : arg6.IsWhole) (arg7 : Memref sig .tc .vmem S1x1x3072x96 .fp8e4m3) (harg7 : arg7.IsWhole) (arg8 : Memref sig
  .tc .vmem S1x1x3072x96 .fp8e4m3) (harg8 : arg8.IsWhole) (arg9 : Memref sig .tc .vmem S1x1x3072x96 .fp8e4m3) (harg9 : arg9.IsWhole) (arg10 : Memref sig
  .tc .vmem S1x1x3072x96 .fp8e5m2) (harg10 : arg10.IsWhole) (arg11 : Memref sig .tc .vmem S1x1x3072x96 .bf16) (harg11 : arg11.IsWhole) (arg12 : Memref
  sig .tc .vmem S1x1x3072x96 .bf16) (harg12 : arg12.IsWhole) (arg13 : Memref sig .tc .vmem S1x1x3072x96 .bf16) (harg13 : arg13.IsWhole) (arg14 : Memref
  sig .tc .vmem S1x32x128 .f32) (harg14 : arg14.IsWhole) (arg15 : Memref sig .tc .vmem S3x3072x512 .f32) (harg15 : arg15.IsWhole) (arg16 : Memref sig
  .tc .vmem S2x3072x512 .f32) (harg16 : arg16.IsWhole) (arg17 : Memref sig .tc .vmem S96x3072 .f32) (harg17 : arg17.IsWhole) (arg18 : Memref sig .tc
  .vmem S96x3072 .f32) (harg18 : arg18.IsWhole) (arg19 : Memref sig .tc .vmem S96x3072 .bf16) (harg19 : arg19.IsWhole) (arg20 : Memref sig .tc .vmem
  S96x3072 .bf16) (harg20 : arg20.IsWhole) (arg21 : Memref sig .tc .vmem S96x3072 .bf16) (harg21 : arg21.IsWhole) (arg22 : Memref sig .tc .vmem S128x256
  .f32) (harg22 : arg22.IsWhole) (hc0 : ¬cond0_0 i) (hc1 : cond0_1 i)
  (x0 : Vec Ideal S3x24 .f32) (x1 : Vec Ideal S3x24 .f32) (x2 : Vec Ideal S3x24 .f32) (x3 : Vec Ideal S3x24 .f32) (x4 : Vec Ideal S24x32 .f32) (x5 : Vec Ideal S1x1x3072x96 .fp8e4m3) (x6 : Vec Ideal S1x1x3072x96 .fp8e4m3) (x7 : Vec Ideal S1x1x3072x96 .fp8e4m3) (x8 : Vec Ideal S1x1x3072x96 .fp8e5m2)
  (hts : r_9 (F := Ideal) c i arg2 harg2 arg3 harg3 x0 x1 = E.ts) (hd : r_46 (F := Ideal) c i arg6 harg6 x4 = tl S128x128 E.BD 0 0) (hs : r_47 (F := Ideal) c i arg6 harg6 x4 = tl S128x128 E.BD 0 128)
  (hdq : v6884 (F := Ideal) c i arg3 harg3 arg4 harg4 arg5 harg5 x1 x2 x3 = E.dqs) (hdk : v6886 (F := Ideal) c i arg2 harg2 arg4 harg4 arg5 harg5 x0 x2 x3 = E.dks) (hdv : r_3 (F := Ideal) c i arg5 harg5 x3 = E.dvs)
  (h5 : x5 = tl S1x1x3072x96 E.Q 0 0) (h6 : x6 = tl S1x1x3072x96 E.K 0 0) (h7 : x7 = tl S1x1x3072x96 E.V 0 0) (h8 : x8 = tl S1x1x3072x96 E.O 0 0) :
  v14290 (F := Ideal) c i arg2 harg2 arg3 harg3 arg4 harg4 arg5 harg5 arg6 harg6 arg7 harg7 arg8 harg8 arg9 harg9 arg10 harg10 arg15 arg16 arg21 x0 x1 x2 x3 x4 x5 x6 x7 x8 = tl S1x1x512x96 (tr (sc (nnF (tr E.K) E.DS) E.dqs)) 0 0 ∧
  v14029 (F := Ideal) c i arg2 harg2 arg3 harg3 arg4 harg4 arg5 harg5 arg6 harg6 arg7 harg7 arg8 harg8 arg9 harg9 arg10 harg10 arg15 arg16 arg21 x0 x1 x2 x3 x4 x5 x6 x7 x8 = tl S1x1x512x96 (tr (sc (nnF (tr E.K) E.DS) E.dqs)) 512 0 ∧
  v13283 (F := Ideal) c i arg2 harg2 arg3 harg3 arg4 harg4 arg5 harg5 arg6 harg6 arg7 harg7 arg8 harg8 arg9 harg9 arg10 harg10 arg15 arg16 arg21 x0 x1 x2 x3 x4 x5 x6 x7 x8 = tl S1x1x512x96 (tr (sc (nnF (tr E.K) E.DS) E.dqs)) 1024 0 ∧
  v11852 (F := Ideal) c i arg2 harg2 arg3 harg3 arg4 harg4 arg5 harg5 arg6 harg6 arg7 harg7 arg8 harg8 arg9 harg9 arg10 harg10 arg15 arg16 arg21 x0 x1 x2 x3 x4 x5 x6 x7 x8 = tl S1x1x512x96 (tr (sc (nnF (tr E.K) E.DS) E.dqs)) 1536 0 ∧
  v9721 (F := Ideal) c i arg2 harg2 arg3 harg3 arg4 harg4 arg5 harg5 arg6 harg6 arg7 harg7 arg8 harg8 arg9 harg9 arg10 harg10 arg15 arg16 arg21 x0 x1 x2 x3 x4 x5 x6 x7 x8 = tl S1x1x512x96 (tr (sc (nnF (tr E.K) E.DS) E.dqs)) 2048 0 ∧
  v6893 (F := Ideal) c i arg2 harg2 arg3 harg3 arg4 harg4 arg5 harg5 arg6 harg6 arg7 harg7 arg8 harg8 arg9 harg9 arg10 harg10 arg15 arg16 arg21 x0 x1 x2 x3 x4 x5 x6 x7 x8 = tl S1x1x512x96 (tr (sc (nnF (tr E.K) E.DS) E.dqs)) 2560 0 ∧
  v14298 (F := Ideal) c i arg2 harg2 arg3 harg3 arg4 harg4 arg5 harg5 arg6 harg6 arg7 harg7 arg8 harg8 arg9 harg9 arg10 harg10 arg15 arg16 arg17 arg19 x0 x1 x2 x3 x4 x5 x6 x7 x8 = tl S1x1x512x96 (tr (sc (ntF (tr E.Q) E.DS) E.dks)) 0 0 ∧
  v14037 (F := Ideal) c i arg2 harg2 arg3 harg3 arg4 harg4 arg5 harg5 arg6 harg6 arg7 harg7 arg8 harg8 arg9 harg9 arg10 harg10 arg15 arg16 arg17 arg19 x0 x1 x2 x3 x4 x5 x6 x7 x8 = tl S1x1x512x96 (tr (sc (ntF (tr E.Q) E.DS) E.dks)) 512 0 ∧
  v13291 (F := Ideal) c i arg2 harg2 arg3 harg3 arg4 harg4 arg5 harg5 arg6 harg6 arg7 harg7 arg8 harg8 arg9 harg9 arg10 harg10 arg15 arg16 arg17 arg19 x0 x1 x2 x3 x4 x5 x6 x7 x8 = tl S1x1x512x96 (tr (sc (ntF (tr E.Q) E.DS) E.dks)) 1024 0 ∧
  v11860 (F := Ideal) c i arg2 harg2 arg3 harg3 arg4 harg4 arg5 harg5 arg6 harg6 arg7 harg7 arg8 harg8 arg9 harg9 arg10 harg10 arg15 arg16 arg17 arg19 x0 x1 x2 x3 x4 x5 x6 x7 x8 = tl S1x1x512x96 (tr (sc (ntF (tr E.Q) E.DS) E.dks)) 1536 0 ∧
  v9729 (F := Ideal) c i arg2 harg2 arg3 harg3 arg4 harg4 arg5 harg5 arg6 harg6 arg7 harg7 arg8 harg8 arg9 harg9 arg10 harg10 arg15 arg16 arg17 arg19 x0 x1 x2 x3 x4 x5 x6 x7 x8 = tl S1x1x512x96 (tr (sc (ntF (tr E.Q) E.DS) E.dks)) 2048 0 ∧
  v6901 (F := Ideal) c i arg2 harg2 arg3 harg3 arg4 harg4 arg5 harg5 arg6 harg6 arg7 harg7 arg8 harg8 arg9 harg9 arg10 harg10 arg15 arg16 arg17 arg19 x0 x1 x2 x3 x4 x5 x6 x7 x8 = tl S1x1x512x96 (tr (sc (ntF (tr E.Q) E.DS) E.dks)) 2560 0 ∧
  v14306 (F := Ideal) c i arg2 harg2 arg3 harg3 arg5 harg5 arg6 harg6 arg7 harg7 arg8 harg8 arg10 harg10 arg15 arg18 arg20 x0 x1 x3 x4 x5 x6 x8 = tl S1x1x512x96 (tr (sc (ntF (tr E.O) E.PN) E.dvs)) 0 0 ∧
  v14045 (F := Ideal) c i arg2 harg2 arg3 harg3 arg5 harg5 arg6 harg6 arg7 harg7 arg8 harg8 arg10 harg10 arg15 arg18 arg20 x0 x1 x3 x4 x5 x6 x8 = tl S1x1x512x96 (tr (sc (ntF (tr E.O) E.PN) E.dvs)) 512 0 ∧
  v13299 (F := Ideal) c i arg2 harg2 arg3 harg3 arg5 harg5 arg6 harg6 arg7 harg7 arg8 harg8 arg10 harg10 arg15 arg18 arg20 x0 x1 x3 x4 x5 x6 x8 = tl S1x1x512x96 (tr (sc (ntF (tr E.O) E.PN) E.dvs)) 1024 0 ∧
  v11868 (F := Ideal) c i arg2 harg2 arg3 harg3 arg5 harg5 arg6 harg6 arg7 harg7 arg8 harg8 arg10 harg10 arg15 arg18 arg20 x0 x1 x3 x4 x5 x6 x8 = tl S1x1x512x96 (tr (sc (ntF (tr E.O) E.PN) E.dvs)) 1536 0 ∧
  v9737 (F := Ideal) c i arg2 harg2 arg3 harg3 arg5 harg5 arg6 harg6 arg7 harg7 arg8 harg8 arg10 harg10 arg15 arg18 arg20 x0 x1 x3 x4 x5 x6 x8 = tl S1x1x512x96 (tr (sc (ntF (tr E.O) E.PN) E.dvs)) 2048 0 ∧
  v6909 (F := Ideal) c i arg2 harg2 arg3 harg3 arg5 harg5 arg6 harg6 arg7 harg7 arg8 harg8 arg10 harg10 arg15 arg18 arg20 x0 x1 x3 x4 x5 x6 x8 = tl S1x1x512x96 (tr (sc (ntF (tr E.O) E.PN) E.dvs)) 2560 0 := by
  subst h5 h6 h7 h8
  simp (config := {maxSteps := 1000000000}) only [
    HS0_114, HS0_115, HS0_116, HS0_117, HS0_118, HS0_119, HS0_120, HS0_121, HS0_122, HS0_123, HS0_124, HS0_125, HS0_126, HS0_127, HS0_128, HS0_129,
    HS0_146, HS0_147, HS0_148, HS0_149, HS0_150, HS0_151, HS0_152, HS0_153, HS0_170, HS0_171, HS0_172, HS0_173, HS0_174, HS0_175, HS0_176, HS0_177,
    HS0_178, HS0_179, HS0_180, HS0_181, HS0_182, HS0_183, HS0_184, HS0_185, HS0_202, HS0_203, HS0_204, HS0_205, HS0_206, HS0_207, HS0_208, HS0_209,
    HS0_210, HS0_211, HS0_212, HS0_213, HS0_214, HS0_215, HS0_216, HS0_217, HS0_222, HS0_223, HS0_224, HS0_225, HS0_226, HS0_227, HS0_228, HS0_229,
    HS0_233, HS0_234, HS0_235, HS0_236, HS0_237, HS0_238, HS0_239, HS0_240, HS0_241, HS0_242, HS0_243, HS0_244, HS0_247, HS0_248, HS0_249, HS0_250,
    HS0_251, HS0_253, HS0_254, HS0_255, HS0_256, HS0_257, HS0_258, HS0_259, HS0_260, HS0_261, HS0_278, HS0_279, HS0_280, HS0_281, HS0_282, HS0_283,
    HS0_284, HS0_285, HS0_302, HS0_303, HS0_304, HS0_305, HS0_306, HS0_307, HS0_308, HS0_309, HS0_310, HS0_311, HS0_312, HS0_313, HS0_314, HS0_315,
    HS0_316, HS0_317, HS0_334, HS0_335, HS0_336, HS0_337, HS0_338, HS0_339, HS0_340, HS0_341, HS0_342, HS0_343, HS0_344, HS0_345, HS0_346, HS0_347,
    HS0_348, HS0_349, HS0_354, HS0_355, HS0_356, HS0_357, HS0_358, HS0_359, HS0_360, HS0_361, HS0_365, HS0_366, HS0_367, HS0_368, HS0_369, HS0_370,
    HS0_371, HS0_372, HS0_373, HS0_374, HS0_375, HS0_376, HS0_379, HS0_380, HS0_381, HS0_382, HS0_383, HS0_385, HS0_386, HS0_387, HS0_388, HS0_389,
    HS0_390, HS0_391, HS0_392, HS0_393, HS0_394, HS0_395, HS0_396, HS0_397, HS0_398, HS0_399, HS0_400, HS0_401, HS0_402, HS0_403, HS0_404, HS0_405,
    HS0_406, HS0_407, HS0_408, HS0_409, HS0_410, HS0_411, HS0_412, HS0_413, HS0_414, HS0_415, HS0_416, HS0_417, HS0_418, HS0_419, HS0_420, HS0_421,
    HS0_422, HS0_423, HS0_424, HS0_425, HS0_426, HS0_427, HS0_428, HS0_429, HS0_430, HS0_431, HS0_432, HS0_433, HS0_434, HS0_435, HS0_436, HS0_437,
    HS0_438, HS0_439, HS0_440, HS0_441, HS0_442, HS0_443, HS0_444, HS0_445, HS0_446, HS0_447, HS0_448, HS0_449, HS0_450, HS0_451, HS0_452, HS0_453,
    HS0_454, HS0_455, HS0_456, HS0_457, HS0_458, HS0_459, HS0_460, HS0_461, HS0_462, HS0_463, HS0_464, HS0_465, HS0_466, HS0_467, HS0_468, HS0_469,
    HS0_470, HS0_471, HS0_472, HS0_473, HS0_474, HS0_475, HS0_476, HS0_477, HS0_478, HS0_479, HS0_480, HS0_481, HS0_482, HS0_483, HS0_484, HS0_485,
    HS0_486, HS0_487, HS0_488, HS0_489, HS0_490, HS0_491, HS0_492, HS0_493, HS0_494, HS0_495, HS0_496, HS0_497, HS0_498, HS0_499, HS0_500, HS0_501,
    HS0_502, HS0_503, HS0_504, HS0_505, HS0_506, HS0_507, HS0_508, HS0_509, HS0_510, HS0_511, HS0_512, HS0_513, HS0_514, HS0_515, HS0_516, HS0_517,
    HS0_518, HS0_519, HS0_520, HS0_521, HS0_522, HS0_523, HS0_524, HS0_525, HS0_526, HS0_527, HS0_528, HS0_529, HS0_530, HS0_531, HS0_532, HS0_533,
    HS0_534, HS0_535, HS0_536, HS0_537, HS0_538, HS0_539, HS0_540, HS0_541, HS0_542, HS0_543, HS0_544, HS0_545, HS0_546, HS0_547, HS0_548, HS0_549,
    HS0_550, HS0_551, HS0_552, HS0_553, HS0_554, HS0_555, HS0_556, HS0_557, HS0_558, HS0_559, HS0_560, HS0_561, HS0_562, HS0_563, HS0_564, HS0_565,
    HS0_566, HS0_567, HS0_568, HS0_569, HS0_570, HS0_571, HS0_572, HS0_573, HS0_574, HS0_575, HS0_576, HS0_577, HS0_578, HS0_579, HS0_580, HS0_581,
    HS0_582, HS0_583, HS0_584, HS0_585, HS0_586, HS0_587, HS0_588, HS0_589, HS0_590, HS0_591, HS0_592, HS0_593, HS0_594, HS0_595, HS0_596, HS0_597,
    HS0_598, HS0_599, HS0_600, HS0_90, HS0_91, HS0_92, HS0_93, HS0_94, HS0_95, HS0_96, HS0_97, HS1_106, HS1_114, HS1_122, HS1_130, HS1_138, HS1_146,
    HS1_154, HS1_158, HS1_161, HS1_163, HS1_164, HS1_165, HS1_166, HS1_167, HS1_168, HS1_169, HS1_170, HS1_171, HS1_172, HS1_173, HS1_174, HS1_175,
    HS1_176, HS1_177, HS1_178, HS1_179, HS1_180, HS1_181, HS1_182, HS1_183, HS1_184, HS1_185, HS1_186, HS1_187, HS1_188, HS1_189, HS1_190, HS1_191,
    HS1_192, HS1_193, HS1_194, HS1_195, HS1_196, HS1_197, HS1_198, HS1_199, HS1_200, HS1_201, HS1_202, HS1_203, HS1_204, HS1_205, HS1_206, HS1_207,
    HS1_208, HS1_209, HS1_210, HS1_211, HS1_212, HS1_213, HS1_214, HS1_215, HS1_216, HS1_217, HS1_218, HS1_219, HS1_220, HS1_221, HS1_222, HS1_223,
    HS1_224, HS1_225, HS1_226, HS1_227, HS1_228, HS1_229, HS1_230, HS1_231, HS1_232, HS1_233, HS1_234, HS1_235, HS1_236, HS1_237, HS1_238, HS1_239,
    HS1_240, HS1_241, HS1_242, HS1_243, HS1_244, HS1_245, HS1_246, HS1_247, HS1_248, HS1_249, HS1_250, HS1_251, HS1_252, HS1_253, HS1_254, HS1_255,
    HS1_256, HS1_257, HS1_258, HS1_259, HS1_260, HS1_261, HS1_262, HS1_263, HS1_264, HS1_265, HS1_266, HS1_267, HS1_268, HS1_269, HS1_270, HS1_271,
    HS1_272, HS1_273, HS1_274, HS1_275, HS1_276, HS1_277, HS1_278, HS1_279, HS1_280, HS1_281, HS1_282, HS1_283, HS1_284, HS1_285, HS1_286, HS1_287,
    HS1_288, HS1_289, HS1_290, HS1_291, HS1_292, HS1_293, HS1_294, HS1_295, HS1_296, HS1_297, HS1_298, HS1_299, HS1_300, HS1_90, HS1_98, HS2_12, HS2_13,
    HS2_14, HS2_15, HS2_16, HS2_17, HS2_18, HS2_19, HS2_20, HS2_21, HS2_22, HS2_23, HS2_24, HS2_25, HS2_26, HS2_27, HS2_28, HS2_29, HS2_30, HS2_31,
    HS2_32, HS2_33, HS2_34, HS2_35, HS2_36, HS2_37, HS2_38, HS2_39, HS2_40, HS2_41, HS2_42, HS3_12, HS3_13, HS3_14, HS3_15, HS3_16, HS3_17, HS3_18,
    HS3_19, HS3_20, HS3_21, HS3_22, HS3_23, HS3_24, HS3_25, HS3_26, HS3_27, HS3_28, HS3_29, HS3_30, HS3_31, HS3_32, HS3_33, HS3_34, HS3_35, HS3_36,
    HS3_37, HS3_38, HS3_39, HS3_40, HS3_41, HS3_42, HS4_1, HS5_1, HS6_1, cst_1907, cst_1976, cst_1982, cst_3681, cst_394, cst_418, cst_438, cst_454,
    cst_480, cst_53, cst_64, r_48, v10000, v10003, v10004, v10007, v1001, v10010, v10011, v10012, v10013, v10014, v10015, v10016, v10017, v10018, v10019,
    v1002, v10020, v10023, v10024, v10027, v10030, v10031, v10032, v10033, v10034, v10035, v10036, v10037, v10038, v10039, v10040, v10043, v10044, v10047,
    v10050, v10051, v10052, v10053, v10054, v10055, v10056, v10057, v10060, v10062, v10063, v10066, v10067, v10068, v10069, v10072, v10073, v10074,
    v10075, v10078, v10079, v10080, v10081, v10084, v10085, v10086, v10087, v10090, v10091, v10092, v10093, v10094, v10097, v10098, v10099, v10100,
    v10101, v10104, v10105, v10106, v10107, v10108, v1011, v10111, v10112, v10113, v10114, v10115, v10118, v10119, v10120, v10121, v10122, v10125, v10126,
    v10127, v10128, v10129, v1013, v10132, v10133, v10134, v10135, v10136, v10139, v1014, v10140, v10141, v10142, v10143, v10144, v10147, v10148, v10149,
    v1015, v10150, v10151, v10154, v10155, v10156, v10157, v10158, v1016, v10161, v10162, v10163, v10164, v10165, v10168, v10169, v1017, v10170, v10171,
    v10172, v10173, v10176, v10177, v10178, v1018, v10181, v10182, v10183, v10184, v10185, v10186, v10189, v1019, v10190, v10191, v10194, v10195, v10196,
    v10197, v10198, v10199, v1020, v10202, v10203, v10204, v10207, v10208, v10209, v1021, v10210, v10211, v10212, v10215, v10216, v10217, v10220, v10221,
    v10222, v10223, v10224, v10225, v10226, v10227, v10230, v10231, v10232, v10235, v10236, v10237, v10238, v10239, v1024, v10240, v10243, v10244, v10245,
    v10248, v10249, v10250, v10251, v10252, v10253, v10256, v10257, v10258, v10261, v10262, v10263, v10264, v10265, v10266, v10269, v1027, v10270, v10271,
    v10274, v10275, v10276, v10277, v10278, v10279, v1028, v10280, v10281, v10283, v10285, v10287, v10288, v10289, v1029, v10292, v10293, v10294, v10297,
    v10298, v1030, v10301, v10302, v10303, v10304, v10307, v10308, v1031, v10311, v10314, v10315, v10316, v10317, v10318, v10319, v1032, v10320, v10321,
    v10322, v10323, v10324, v10327, v10328, v1033, v10331, v10334, v10335, v10336, v10337, v10338, v10339, v1034, v10340, v10341, v10342, v10343, v10344,
    v10347, v10348, v1035, v10351, v10354, v10355, v10356, v10357, v10358, v10359, v1036, v10360, v10361, v10362, v10363, v10364, v10367, v10368, v1037,
    v10371, v10374, v10375, v10376, v10377, v10378, v10379, v1038, v10380, v10381, v10382, v10383, v10384, v10387, v10388, v1039, v10391, v10394, v10395,
    v10396, v10397, v10398, v10399, v1040, v10400, v10401, v10402, v10403, v10404, v10407, v10408, v1041, v10411, v10414, v10415, v10416, v10417, v10418,
    v10419, v10420, v10421, v10422, v10423, v10424, v10427, v10428, v10431, v10434, v10435, v10436, v10437, v10438, v10439, v1044, v10440, v10441, v10442,
    v10443, v10444, v10447, v10448, v10451, v10454, v10455, v10456, v10457, v10458, v10459, v10460, v10461, v10463, v10466, v10468, v10469, v1047, v10470,
    v10473, v10474, v10475, v10476, v10477, v10478, v1048, v10481, v10482, v10483, v10484, v10485, v10488, v10489, v1049, v10490, v10491, v10492, v10495,
    v10496, v10497, v10498, v10499, v1050, v10500, v10503, v10504, v10505, v10508, v10509, v1051, v10510, v10511, v10512, v10513, v10516, v10517, v10518,
    v1052, v10521, v10522, v10523, v10524, v10525, v10526, v10529, v1053, v10530, v10531, v10534, v10535, v10536, v10537, v10538, v10539, v1054, v10542,
    v10543, v10544, v10547, v10548, v10549, v1055, v10550, v10551, v10552, v10553, v10554, v10557, v10558, v10559, v1056, v10562, v10563, v10564, v10565,
    v10566, v10567, v1057, v10570, v10571, v10572, v10575, v10576, v10577, v10578, v10579, v1058, v10580, v10583, v10584, v10585, v10588, v10589, v1059,
    v10590, v10591, v10592, v10593, v10596, v10597, v10598, v1060, v10601, v10602, v10603, v10604, v10605, v10606, v10607, v10608, v1061, v10610, v10612,
    v10614, v10615, v10616, v10619, v10620, v10621, v10624, v10625, v10628, v10629, v10630, v10631, v10634, v10635, v10638, v1064, v10641, v10642, v10643,
    v10644, v10645, v10646, v10647, v10648, v10649, v10650, v10651, v10652, v10653, v10654, v10655, v10658, v10661, v10662, v10663, v10664, v10665,
    v10666, v10667, v10668, v10669, v1067, v10670, v10671, v10672, v10673, v10674, v10675, v10678, v1068, v10681, v10682, v10683, v10684, v10685, v10686,
    v10687, v10688, v10689, v1069, v10690, v10691, v10692, v10693, v10694, v10695, v10698, v1070, v10701, v10702, v10703, v10704, v10705, v10706, v10707,
    v10708, v10709, v1071, v10710, v10711, v10712, v10713, v10714, v10715, v10718, v1072, v10721, v10722, v10723, v10724, v10725, v10726, v10727, v10728,
    v10729, v1073, v10730, v10731, v10734, v10735, v10738, v1074, v10741, v10742, v10743, v10744, v10745, v10746, v10747, v10748, v10749, v1075, v10750,
    v10751, v10754, v10755, v10758, v1076, v10761, v10762, v10763, v10764, v10765, v10766, v10767, v10768, v10769, v1077, v10770, v10771, v10774, v10775,
    v10778, v1078, v10781, v10782, v10783, v10784, v10785, v10786, v10787, v10788, v10789, v1079, v10790, v10791, v10792, v10793, v10794, v10795, v10796,
    v10797, v10798, v10799, v1080, v10800, v10801, v10802, v10803, v10804, v10805, v10806, v10807, v10808, v10809, v1081, v10810, v10811, v10812, v10813,
    v10814, v10815, v10816, v10817, v10818, v10819, v10820, v10821, v10822, v10823, v10824, v10825, v10826, v10827, v10828, v10829, v10830, v10831,
    v10832, v10833, v10834, v10835, v10836, v10837, v10838, v10839, v1084, v10840, v10841, v10842, v10843, v10844, v10847, v10848, v10849, v10852, v10853,
    v10854, v10855, v10856, v10857, v10860, v10861, v10862, v10865, v10866, v10867, v10868, v10869, v1087, v10870, v10873, v10874, v10875, v10878, v10879,
    v1088, v10880, v10881, v10882, v10883, v10886, v10887, v10888, v1089, v10891, v10892, v10893, v10894, v10895, v10896, v10897, v10898, v10899, v1090,
    v10900, v10901, v10902, v10903, v10904, v10905, v10906, v10909, v1091, v10910, v10911, v10914, v10915, v10917, v10918, v10919, v1092, v10920, v10921,
    v10924, v10925, v10928, v1093, v10931, v10932, v10933, v10934, v10935, v10936, v10937, v10938, v10939, v1094, v10940, v10941, v10944, v10945, v10948,
    v1095, v10951, v10952, v10953, v10954, v10955, v10956, v10957, v10958, v10959, v1096, v10960, v10961, v10964, v10965, v10968, v1097, v10971, v10972,
    v10973, v10974, v10975, v10976, v10977, v10978, v10979, v10980, v10981, v10984, v10985, v10988, v10991, v10992, v10993, v10994, v10995, v10996,
    v10997, v10998, v10999, v1100, v11000, v11001, v11004, v11005, v11008, v1101, v11011, v11012, v11013, v11014, v11015, v11016, v11017, v11018, v11019,
    v11020, v11021, v11024, v11025, v11028, v11031, v11032, v11033, v11034, v11035, v11036, v11037, v11038, v11039, v1104, v11040, v11041, v11044, v11045,
    v11048, v11051, v11052, v11053, v11054, v11055, v11056, v11057, v11058, v11059, v11060, v11061, v11064, v11065, v11068, v1107, v11071, v11072, v11073,
    v11074, v11075, v11076, v11077, v11078, v1108, v11080, v11082, v11083, v11085, v11086, v11087, v1109, v11090, v11091, v11092, v11093, v11094, v11095,
    v11098, v11099, v1110, v11100, v11101, v11102, v11105, v11106, v11107, v11108, v11109, v1111, v11110, v11113, v11114, v11115, v11118, v11119, v1112,
    v11120, v11121, v11122, v11123, v11126, v11127, v11128, v1113, v11131, v11132, v11133, v11134, v11135, v11136, v11139, v1114, v11140, v11141, v11144,
    v11145, v11146, v11147, v11148, v11149, v1115, v11152, v11153, v11154, v11157, v11158, v11159, v1116, v11160, v11161, v11162, v11163, v11164, v11167,
    v11168, v11169, v1117, v11172, v11173, v11174, v11175, v11176, v11177, v11180, v11181, v11182, v11185, v11186, v11187, v11188, v11189, v11190, v11193,
    v11194, v11195, v11198, v11199, v1120, v11200, v11201, v11202, v11203, v11206, v11207, v11208, v1121, v11211, v11212, v11213, v11214, v11215, v11216,
    v11217, v11218, v11220, v11222, v11223, v11224, v11225, v11226, v11229, v11230, v11231, v11234, v11235, v11237, v11239, v1124, v11240, v11241, v11242,
    v11243, v11246, v11247, v11250, v11253, v11254, v11255, v11256, v11257, v11258, v11259, v11260, v11261, v11262, v11263, v11266, v11267, v1127, v11270,
    v11273, v11274, v11275, v11276, v11277, v11278, v11279, v1128, v11280, v11281, v11282, v11283, v11286, v11287, v1129, v11290, v11293, v11294, v11295,
    v11296, v11297, v11298, v11299, v1130, v11300, v11301, v11302, v11303, v11306, v11307, v1131, v11310, v11313, v11314, v11315, v11316, v11317, v11318,
    v11319, v1132, v11320, v11322, v11324, v11325, v11327, v11328, v11329, v1133, v11332, v11333, v11334, v11335, v11336, v11337, v1134, v11340, v11341,
    v11342, v11343, v11344, v11345, v11348, v11349, v1135, v11350, v11353, v11354, v11355, v11356, v11357, v11358, v1136, v11361, v11362, v11363, v11366,
    v11367, v11368, v11369, v1137, v11370, v11371, v11374, v11375, v11376, v11379, v11380, v11381, v11382, v11383, v11384, v11387, v11388, v11389, v11392,
    v11393, v11394, v11395, v11396, v11397, v11398, v11399, v1140, v11402, v11403, v11404, v11407, v11408, v1141, v11414, v11415, v11416, v11417, v11420,
    v11421, v11422, v11425, v11426, v11427, v11428, v11429, v11430, v11433, v11434, v11435, v11438, v11439, v1144, v11440, v11441, v11442, v11443, v11446,
    v11447, v11448, v11451, v11452, v11453, v11454, v11455, v11456, v11457, v11458, v11460, v11462, v11463, v11464, v11465, v11466, v11469, v1147, v11470,
    v11471, v11474, v11475, v11477, v11479, v1148, v11480, v11481, v11482, v11483, v11486, v11487, v1149, v11490, v11493, v11494, v11495, v11496, v11497,
    v11498, v11499, v1150, v11500, v11501, v11502, v11503, v11506, v11507, v1151, v11510, v11513, v11514, v11515, v11516, v11517, v11518, v11519, v1152,
    v11520, v11521, v11522, v11523, v11526, v11527, v1153, v11530, v11533, v11534, v11535, v11536, v11537, v11538, v11539, v1154, v11540, v11541, v11542,
    v11545, v11546, v11547, v1155, v11550, v11551, v11557, v11558, v11559, v1156, v11560, v11563, v11564, v11565, v11568, v11569, v1157, v11575, v11576,
    v11577, v11578, v11581, v11582, v11583, v11586, v11587, v11588, v11589, v11590, v11591, v11594, v11595, v11596, v11599, v1160, v11600, v11601, v11602,
    v11603, v11604, v11606, v11607, v1161, v11610, v11611, v11612, v11615, v11616, v11622, v11623, v11624, v11625, v11628, v11629, v11630, v11633, v11634,
    v1164, v11640, v11641, v11642, v11643, v11646, v11647, v11648, v11651, v11652, v11653, v11654, v11655, v11656, v11657, v11658, v11660, v11662, v11663,
    v11664, v11665, v11666, v11669, v1167, v11670, v11671, v11674, v11675, v11677, v11679, v1168, v11680, v11681, v11682, v11683, v11686, v11687, v1169,
    v11690, v11693, v11694, v11695, v11696, v11697, v11698, v11699, v1170, v11700, v11701, v11702, v11703, v11706, v11707, v1171, v11710, v11713, v11714,
    v11715, v11716, v11717, v11718, v11719, v1172, v11720, v11722, v11724, v11725, v11727, v11728, v1173, v11731, v11732, v11733, v11734, v11735, v11736,
    v11739, v1174, v11740, v11741, v11744, v11745, v11751, v11752, v11753, v11754, v11757, v11758, v11759, v11762, v11763, v11769, v1177, v11770, v11771,
    v11772, v11774, v11775, v11778, v11779, v11780, v11783, v11784, v1179, v11790, v11791, v11792, v11793, v11794, v11795, v11796, v11797, v11798, v11799,
    v1180, v11800, v11801, v11802, v11803, v11806, v11807, v11808, v11811, v11813, v11814, v11816, v11818, v11819, v11820, v11821, v11824, v11825, v11828,
    v1183, v11831, v11832, v11833, v11834, v11835, v11836, v11837, v11838, v11839, v1184, v11840, v11841, v11847, v11848, v11849, v1185, v11852, v11853,
    v11855, v11856, v11857, v1186, v11860, v11861, v11863, v11864, v11865, v11868, v11869, v11870, v11871, v11872, v11873, v11874, v11876, v11877, v11889,
    v1189, v11898, v11899, v1190, v11900, v11901, v11902, v11903, v11904, v11905, v11906, v11907, v11908, v11909, v1191, v11910, v11911, v11912, v11913,
    v11914, v11915, v11916, v11917, v11918, v11919, v1192, v11920, v11921, v11922, v11923, v11924, v11925, v11926, v11927, v11928, v11929, v11930, v11931,
    v11932, v11933, v11934, v11935, v11936, v11937, v11938, v11939, v11940, v11941, v11942, v11943, v11944, v11945, v11946, v11947, v11948, v11949, v1195,
    v11950, v11951, v11952, v11953, v11956, v11957, v11958, v1196, v11961, v11962, v11963, v11964, v11965, v11966, v11969, v1197, v11970, v11971, v11974,
    v11975, v11976, v11977, v11978, v11979, v1198, v11982, v11983, v11984, v11987, v11988, v11989, v11990, v11991, v11992, v11995, v11996, v11997, v12000,
    v12001, v12002, v12003, v12004, v12005, v12006, v12007, v12008, v12009, v1201, v12010, v12011, v12012, v12013, v12014, v12015, v12018, v12019, v1202,
    v12020, v12023, v12025, v12026, v12027, v12028, v12029, v1203, v12030, v12031, v12032, v12033, v12036, v12039, v1204, v12040, v12041, v12042, v12043,
    v12044, v12045, v12046, v12047, v12048, v12049, v12050, v12051, v12052, v12053, v12056, v12059, v12060, v12061, v12062, v12063, v12064, v12065,
    v12066, v12067, v12068, v12069, v1207, v12070, v12071, v12072, v12073, v12076, v12079, v1208, v12080, v12081, v12082, v12083, v12084, v12085, v12086,
    v12087, v12088, v12089, v1209, v12090, v12091, v12092, v12093, v12096, v12099, v1210, v12100, v12101, v12102, v12103, v12104, v12105, v12106, v12107,
    v12108, v12109, v1211, v12112, v12113, v12116, v12119, v12120, v12121, v12122, v12123, v12124, v12125, v12126, v12127, v12128, v12129, v12132, v12133,
    v12136, v12139, v1214, v12140, v12141, v12142, v12143, v12144, v12145, v12146, v12147, v12148, v12149, v1215, v12152, v12153, v12156, v12159, v1216,
    v12160, v12161, v12162, v12163, v12164, v12165, v12166, v12167, v12168, v12169, v1217, v12172, v12173, v12176, v12179, v1218, v12180, v12181, v12182,
    v12183, v12184, v12185, v12186, v12188, v12190, v12191, v12193, v12194, v12195, v12198, v12199, v12200, v12201, v12202, v12205, v12206, v12207,
    v12208, v1221, v12211, v12212, v12213, v12214, v12217, v12218, v12219, v1222, v12220, v12221, v12224, v12225, v12226, v12229, v1223, v12230, v12231,
    v12232, v12233, v12234, v12237, v12238, v12239, v1224, v12242, v12243, v12244, v12245, v12246, v12247, v1225, v12250, v12251, v12252, v12255, v12256,
    v12257, v12258, v12259, v12260, v12263, v12264, v12265, v12268, v12269, v12270, v12271, v12272, v12273, v12274, v12275, v12278, v12279, v1228, v12280,
    v12283, v12284, v12285, v12286, v12287, v12288, v1229, v12291, v12292, v12293, v12296, v12297, v12298, v12299, v1230, v12300, v12301, v12304, v12305,
    v12306, v12309, v1231, v12310, v12311, v12312, v12313, v12314, v12317, v12318, v12319, v1232, v12322, v12323, v12324, v12325, v12326, v12327, v12328,
    v12329, v12331, v12333, v12334, v12335, v12336, v12337, v12340, v12341, v12342, v12345, v12346, v12348, v12349, v1235, v12350, v12351, v12352, v12355,
    v12356, v12359, v1236, v12362, v12363, v12364, v12365, v12366, v12367, v12368, v12369, v1237, v12370, v12371, v12372, v12375, v12376, v12379, v1238,
    v12382, v12383, v12384, v12385, v12386, v12387, v12388, v12389, v1239, v12390, v12391, v12392, v12395, v12396, v12399, v12402, v12403, v12404, v12405,
    v12406, v12407, v12408, v12409, v12410, v12411, v12412, v12415, v12416, v12419, v1242, v12422, v12423, v12424, v12425, v12426, v12427, v12428, v12429,
    v1243, v12430, v12431, v12432, v12435, v12436, v12439, v1244, v12442, v12443, v12444, v12445, v12446, v12447, v12448, v12449, v1245, v12450, v12451,
    v12452, v12455, v12456, v12459, v1246, v12462, v12463, v12464, v12465, v12466, v12467, v12468, v12469, v12470, v12471, v12472, v12475, v12476, v12479,
    v12482, v12483, v12484, v12485, v12486, v12487, v12488, v12489, v1249, v12490, v12491, v12492, v12495, v12496, v12499, v1250, v12502, v12503, v12504,
    v12505, v12506, v12507, v12508, v12509, v1251, v12511, v12513, v12514, v12516, v12517, v12518, v1252, v12521, v12522, v12523, v12524, v12525, v12526,
    v12529, v1253, v12530, v12531, v12532, v12533, v12536, v12537, v12538, v12539, v12540, v12541, v12544, v12545, v12546, v12549, v12550, v12551, v12552,
    v12553, v12554, v12557, v12558, v12559, v1256, v12562, v12563, v12564, v12565, v12566, v12567, v1257, v12570, v12571, v12572, v12575, v12576, v12577,
    v12578, v12579, v1258, v12580, v12583, v12584, v12585, v12588, v12589, v1259, v12590, v12591, v12592, v12593, v12594, v12595, v12598, v12599, v1260,
    v12600, v12603, v12604, v12605, v12606, v12607, v12608, v12611, v12612, v12613, v12616, v12617, v12618, v12619, v12620, v12621, v12624, v12625,
    v12626, v12629, v1263, v12630, v12631, v12632, v12633, v12634, v12637, v12638, v12639, v1264, v12642, v12643, v12644, v12645, v12646, v12647, v12648,
    v12649, v1265, v12651, v12653, v12654, v12655, v12656, v12657, v1266, v12660, v12661, v12662, v12665, v12666, v12668, v1267, v12671, v12672, v12673,
    v12674, v12677, v12678, v12681, v12684, v12685, v12686, v12687, v12688, v12689, v12690, v12691, v12692, v12693, v12694, v12697, v12698, v1270, v12701,
    v12704, v12705, v12706, v12707, v12708, v12709, v1271, v12710, v12711, v12712, v12713, v12714, v12717, v12718, v1272, v12721, v12724, v12725, v12726,
    v12727, v12728, v12729, v1273, v12730, v12731, v12732, v12733, v12734, v12737, v12738, v1274, v12741, v12744, v12745, v12746, v12747, v12748, v12749,
    v12750, v12751, v12752, v12753, v12756, v12757, v12758, v12761, v12762, v12763, v12764, v12765, v12766, v12769, v1277, v12770, v12771, v12774, v12775,
    v12776, v12777, v12778, v12779, v1278, v12782, v12783, v12784, v12787, v12788, v12789, v1279, v12790, v12791, v12792, v12795, v12796, v12797, v1280,
    v12800, v12801, v12802, v12803, v12804, v12805, v12806, v12807, v1281, v12810, v12811, v12812, v12815, v12816, v12822, v12823, v12824, v12825, v12828,
    v12829, v12830, v12833, v12834, v12835, v12836, v12837, v12838, v1284, v12841, v12842, v12843, v12846, v12847, v12848, v12849, v1285, v12850, v12851,
    v12854, v12855, v12856, v12859, v1286, v12860, v12861, v12862, v12863, v12864, v12865, v12866, v12868, v1287, v12870, v12872, v12873, v12874, v12877,
    v12878, v12879, v12882, v12883, v12885, v12887, v12888, v12889, v1289, v12890, v12891, v12894, v12895, v12898, v1290, v12901, v12902, v12903, v12904,
    v12905, v12906, v12907, v12908, v12909, v1291, v12910, v12911, v12914, v12915, v12918, v1292, v12921, v12922, v12923, v12924, v12925, v12926, v12927,
    v12928, v12929, v1293, v12930, v12931, v12934, v12935, v12938, v12941, v12942, v12943, v12944, v12945, v12946, v12947, v12948, v12950, v12952, v12953,
    v12955, v12956, v12957, v1296, v12960, v12961, v12962, v12963, v12964, v12965, v12968, v12969, v1297, v12970, v12971, v12972, v12973, v12976, v12977,
    v12978, v12981, v12982, v12988, v12989, v12990, v12991, v12994, v12995, v12996, v12999, v1300, v13000, v13006, v13007, v13008, v13009, v13012, v13013,
    v13014, v13017, v13018, v13019, v13020, v13021, v13022, v13025, v13026, v13027, v1303, v13030, v13031, v13032, v13033, v13034, v13035, v13037, v13038,
    v1304, v13041, v13042, v13043, v13046, v13047, v1305, v13053, v13054, v13055, v13056, v13059, v1306, v13060, v13061, v13064, v13065, v1307, v13071,
    v13072, v13073, v13074, v13077, v13078, v13079, v1308, v13082, v13083, v13084, v13085, v13086, v13087, v13088, v13089, v1309, v13091, v13093, v13095,
    v13096, v13097, v1310, v13100, v13101, v13102, v13105, v13106, v13108, v1311, v13110, v13111, v13112, v13113, v13114, v13117, v13118, v1312, v13121,
    v13124, v13125, v13126, v13127, v13128, v13129, v1313, v13130, v13131, v13132, v13133, v13134, v13137, v13138, v13141, v13144, v13145, v13146, v13147,
    v13148, v13149, v13150, v13151, v13153, v13155, v13156, v13158, v13159, v1316, v13162, v13163, v13164, v13165, v13166, v13167, v1317, v13170, v13171,
    v13172, v13175, v13176, v13182, v13183, v13184, v13185, v13188, v13189, v13190, v13193, v13194, v1320, v13200, v13201, v13202, v13203, v13205, v13206,
    v13209, v13210, v13211, v13214, v13215, v13221, v13222, v13223, v13224, v13225, v13226, v13227, v13228, v13229, v1323, v13230, v13232, v13233, v13234,
    v13237, v13238, v13239, v1324, v13242, v13244, v13245, v13247, v13249, v1325, v13250, v13251, v13252, v13255, v13256, v13259, v1326, v13262, v13263,
    v13264, v13265, v13266, v13267, v13268, v13269, v1327, v13270, v13271, v13272, v13278, v13279, v1328, v13280, v13283, v13284, v13286, v13287, v13288,
    v1329, v13291, v13292, v13294, v13295, v13296, v13299, v1330, v13300, v13301, v13302, v13303, v13304, v13305, v13307, v13308, v1331, v1332, v13327,
    v13328, v13329, v1333, v13330, v13331, v13332, v13333, v13334, v13335, v13336, v13337, v13338, v13339, v13340, v13341, v13342, v13343, v13344, v13345,
    v13346, v13347, v13348, v13349, v13350, v13351, v13352, v13353, v13354, v13355, v13356, v13357, v13358, v13359, v1336, v13360, v13361, v13362, v13363,
    v13364, v13365, v13366, v13367, v13368, v13369, v1337, v13370, v13371, v13372, v13373, v13374, v13375, v13376, v13377, v13378, v13379, v13380, v13381,
    v13382, v13385, v13386, v13387, v13390, v13391, v13392, v13393, v13394, v13395, v13398, v13399, v1340, v13400, v13403, v13404, v13405, v13406, v13407,
    v13408, v13411, v13412, v13413, v13416, v13417, v13418, v13419, v13420, v13421, v13424, v13425, v13426, v13429, v1343, v13430, v13431, v13432, v13433,
    v13434, v13435, v13436, v13437, v13438, v13439, v1344, v13440, v13442, v13443, v13444, v13447, v13448, v13449, v1345, v13452, v13454, v13456, v13457,
    v13458, v13459, v1346, v13460, v13461, v13462, v13463, v13464, v13467, v1347, v13470, v13471, v13472, v13473, v13474, v13475, v13476, v13477, v13478,
    v13479, v1348, v13480, v13481, v13482, v13483, v13484, v13487, v1349, v13490, v13491, v13492, v13493, v13494, v13495, v13496, v13497, v13498, v13499,
    v1350, v13500, v13501, v13502, v13503, v13504, v13507, v1351, v13510, v13511, v13512, v13513, v13514, v13515, v13516, v13517, v13518, v13519, v1352,
    v13520, v13521, v13522, v13523, v13524, v13527, v1353, v13530, v13531, v13532, v13533, v13534, v13535, v13536, v13537, v13538, v13539, v13542, v13543,
    v13544, v13547, v13548, v13549, v13550, v13551, v13552, v13555, v13556, v13557, v1356, v13560, v13561, v13562, v13563, v13564, v13565, v13568, v13569,
    v1357, v13570, v13573, v13574, v13575, v13576, v13577, v13578, v13581, v13582, v13583, v13586, v13587, v13588, v13589, v13590, v13591, v13592, v13593,
    v13596, v13597, v13598, v1360, v13601, v13602, v13608, v13609, v13610, v13611, v13614, v13615, v13616, v13619, v13620, v13621, v13622, v13623, v13624,
    v13627, v13628, v13629, v1363, v13632, v13633, v13634, v13635, v13636, v13637, v1364, v13640, v13641, v13642, v13645, v13646, v13647, v13648, v13649,
    v1365, v13650, v13651, v13652, v13654, v13656, v13658, v13659, v1366, v13660, v13663, v13664, v13665, v13668, v13669, v1367, v13671, v13673, v13674,
    v13675, v13676, v13677, v1368, v13680, v13681, v13684, v13687, v13688, v13689, v1369, v13690, v13691, v13692, v13693, v13694, v13695, v13696, v13697,
    v1370, v13700, v13701, v13704, v13707, v13708, v13709, v1371, v13710, v13711, v13712, v13713, v13714, v13715, v13716, v13717, v1372, v13720, v13721,
    v13724, v13727, v13728, v13729, v1373, v13730, v13731, v13732, v13733, v13734, v13735, v13736, v13739, v13740, v13741, v13744, v13745, v13751, v13752,
    v13753, v13754, v13757, v13758, v13759, v1376, v13762, v13763, v13769, v1377, v13770, v13771, v13772, v13775, v13776, v13777, v13780, v13781, v13782,
    v13783, v13784, v13785, v13788, v13789, v13790, v13793, v13794, v13795, v13796, v13797, v13798, v1380, v13800, v13801, v13804, v13805, v13806, v13809,
    v13810, v13816, v13817, v13818, v13819, v13822, v13823, v13824, v13827, v13828, v1383, v13834, v13835, v13836, v13837, v1384, v13840, v13841, v13842,
    v13845, v13846, v13847, v13848, v13849, v1385, v13850, v13851, v13852, v13854, v13856, v13858, v13859, v1386, v13860, v13863, v13864, v13865, v13868,
    v13869, v1387, v13871, v13873, v13874, v13875, v13876, v13877, v1388, v13880, v13881, v13884, v13887, v13888, v13889, v1389, v13890, v13891, v13892,
    v13893, v13894, v13895, v13896, v13897, v1390, v13900, v13901, v13904, v13907, v13908, v13909, v1391, v13910, v13911, v13912, v13913, v13914, v13915,
    v13916, v13919, v1392, v13920, v13921, v13924, v13925, v1393, v13931, v13932, v13933, v13934, v13937, v13938, v13939, v13942, v13943, v13949, v13950,
    v13951, v13952, v13954, v13955, v13958, v13959, v1396, v13960, v13963, v13964, v1397, v13970, v13971, v13972, v13973, v13974, v13975, v13976, v13977,
    v13978, v13979, v13981, v13982, v13983, v13986, v13987, v13988, v13991, v13993, v13994, v13996, v13998, v13999, v1400, v14000, v14001, v14004, v14005,
    v14008, v14011, v14012, v14013, v14014, v14015, v14016, v14017, v14018, v14024, v14025, v14026, v14029, v1403, v14030, v14032, v14033, v14034, v14037,
    v14038, v1404, v14040, v14041, v14042, v14045, v14046, v14047, v14048, v14049, v1405, v14050, v14051, v14053, v14054, v1406, v14066, v14067, v14068,
    v14069, v1407, v14070, v14071, v14072, v14073, v14074, v14075, v14076, v1408, v14082, v14083, v14084, v14085, v14086, v14087, v14088, v14089, v1409,
    v14090, v14091, v14092, v14093, v14094, v1410, v14100, v14101, v14102, v14103, v14104, v14105, v14106, v14107, v14108, v14109, v1411, v14110, v14111,
    v14112, v14113, v14114, v14115, v14116, v14117, v14118, v14119, v1412, v14120, v14121, v14122, v14123, v14124, v14125, v14126, v14127, v14128, v14129,
    v1413, v14131, v14132, v14135, v14136, v14137, v14140, v14141, v14147, v14148, v14149, v14150, v14153, v14154, v14155, v14158, v14159, v1416, v14165,
    v14166, v14167, v14168, v1417, v14171, v14172, v14173, v14176, v14177, v14178, v14179, v14180, v14181, v14182, v14183, v14184, v14185, v14186, v14187,
    v14189, v14190, v14191, v14194, v14195, v14196, v14199, v1420, v14200, v14201, v14204, v14205, v14206, v14209, v14210, v14216, v14217, v14218, v14219,
    v14222, v14223, v14224, v14227, v14228, v1423, v14234, v14235, v14236, v14237, v14239, v1424, v14240, v14243, v14244, v14245, v14248, v14249, v1425,
    v14255, v14256, v14257, v14258, v14259, v1426, v14260, v14261, v14262, v14263, v14264, v14266, v14267, v14268, v1427, v14271, v14272, v14273, v14276,
    v14278, v14279, v1428, v14285, v14286, v14287, v1429, v14290, v14291, v14293, v14294, v14295, v14298, v14299, v1430, v14301, v14302, v14303, v14306,
    v1431, v1432, v1433, v1436, v1437, v1440, v1443, v1444, v1445, v1446, v1447, v1448, v1449, v1450, v1452, v1453, v1454, v1455, v1456, v1459, v1460,
    v1463, v1466, v1467, v1468, v1469, v1470, v1471, v1472, v1473, v1474, v1475, v1476, v1479, v1480, v1483, v1486, v1487, v1488, v1489, v1490, v1491,
    v1492, v1493, v1494, v1495, v1496, v1499, v1500, v1503, v1506, v1507, v1508, v1509, v1510, v1511, v1512, v1513, v1514, v1515, v1516, v1519, v1520,
    v1523, v1526, v1527, v1528, v1529, v1530, v1531, v1532, v1533, v1534, v1535, v1536, v1539, v1540, v1543, v1546, v1547, v1548, v1549, v1550, v1551,
    v1552, v1553, v1554, v1555, v1556, v1559, v1560, v1563, v1566, v1567, v1568, v1569, v1570, v1571, v1572, v1573, v1574, v1575, v1576, v1579, v1580,
    v1583, v1586, v1587, v1588, v1589, v1590, v1591, v1592, v1593, v1594, v1595, v1596, v1599, v1600, v1603, v1606, v1607, v1608, v1609, v1610, v1611,
    v1612, v1613, v1616, v1618, v1619, v1622, v1623, v1624, v1625, v1626, v1629, v1630, v1631, v1632, v1633, v1636, v1637, v1638, v1639, v1640, v1643,
    v1644, v1645, v1646, v1647, v1650, v1651, v1652, v1653, v1654, v1657, v1658, v1659, v1660, v1661, v1664, v1665, v1666, v1667, v1668, v1671, v1672,
    v1673, v1674, v1675, v1678, v1679, v1680, v1681, v1682, v1685, v1686, v1687, v1688, v1689, v1692, v1693, v1694, v1695, v1696, v1699, v1700, v1701,
    v1702, v1703, v1706, v1707, v1708, v1709, v1710, v1713, v1714, v1715, v1716, v1717, v1720, v1721, v1722, v1723, v1724, v1727, v1728, v1729, v1730,
    v1732, v1733, v1734, v1735, v1736, v1739, v1740, v1743, v1746, v1747, v1748, v1749, v1750, v1751, v1752, v1753, v1754, v1755, v1756, v1759, v1760,
    v1763, v1766, v1767, v1768, v1769, v1770, v1771, v1772, v1773, v1774, v1775, v1776, v1779, v1780, v1783, v1786, v1787, v1788, v1789, v1790, v1791,
    v1792, v1793, v1794, v1795, v1796, v1799, v1800, v1803, v1806, v1807, v1808, v1809, v1810, v1811, v1812, v1813, v1814, v1815, v1816, v1819, v1820,
    v1823, v1826, v1827, v1828, v1829, v1830, v1831, v1832, v1833, v1834, v1835, v1836, v1839, v1840, v1843, v1846, v1847, v1848, v1849, v1850, v1851,
    v1852, v1853, v1854, v1855, v1856, v1859, v1860, v1863, v1866, v1867, v1868, v1869, v1870, v1871, v1872, v1873, v1874, v1875, v1876, v1879, v1880,
    v1883, v1886, v1887, v1888, v1889, v1890, v1891, v1892, v1893, v1896, v1898, v1899, v1902, v1903, v1904, v1905, v1906, v1909, v1910, v1911, v1912,
    v1913, v1916, v1917, v1918, v1919, v1920, v1923, v1924, v1925, v1926, v1927, v1930, v1931, v1932, v1933, v1934, v1937, v1938, v1939, v1940, v1941,
    v1944, v1945, v1946, v1947, v1948, v1951, v1952, v1953, v1954, v1955, v1958, v1959, v1960, v1961, v1962, v1965, v1966, v1967, v1968, v1969, v1972,
    v1973, v1974, v1975, v1976, v1979, v1980, v1981, v1982, v1983, v1986, v1987, v1988, v1989, v1990, v1993, v1994, v1995, v1996, v1997, v2000, v2001,
    v2002, v2003, v2004, v2007, v2008, v2009, v2010, v2012, v2013, v2014, v2015, v2016, v2019, v2020, v2023, v2026, v2027, v2028, v2029, v2030, v2031,
    v2032, v2033, v2034, v2035, v2036, v2039, v2040, v2043, v2046, v2047, v2048, v2049, v2050, v2051, v2052, v2053, v2054, v2055, v2056, v2059, v2060,
    v2063, v2066, v2067, v2068, v2069, v2070, v2071, v2072, v2073, v2074, v2075, v2076, v2079, v2080, v2083, v2086, v2087, v2088, v2089, v2090, v2091,
    v2092, v2093, v2094, v2095, v2096, v2099, v2100, v2103, v2106, v2107, v2108, v2109, v2110, v2111, v2112, v2113, v2114, v2115, v2116, v2119, v2120,
    v2123, v2126, v2127, v2128, v2129, v2130, v2131, v2132, v2133, v2134, v2135, v2136, v2139, v2140, v2143, v2146, v2147, v2148, v2149, v2150, v2151,
    v2152, v2153, v2154, v2155, v2156, v2159, v2160, v2163, v2166, v2167, v2168, v2169, v2170, v2171, v2172, v2173, v2175, v2176, v2177, v2178, v2179,
    v2182, v2183, v2186, v2189, v2190, v2191, v2192, v2193, v2194, v2195, v2196, v2197, v2198, v2199, v2202, v2203, v2206, v2209, v2210, v2211, v2212,
    v2213, v2214, v2215, v2216, v2217, v2218, v2219, v2222, v2223, v2226, v2229, v2230, v2231, v2232, v2233, v2234, v2235, v2236, v2237, v2238, v2239,
    v2242, v2243, v2246, v2249, v2250, v2251, v2252, v2253, v2254, v2255, v2256, v2257, v2258, v2259, v2262, v2263, v2266, v2269, v2270, v2271, v2272,
    v2273, v2274, v2275, v2276, v2277, v2278, v2279, v2282, v2283, v2286, v2289, v2290, v2291, v2292, v2293, v2294, v2295, v2296, v2297, v2298, v2299,
    v2302, v2303, v2306, v2309, v2310, v2311, v2312, v2313, v2314, v2315, v2316, v2317, v2318, v2319, v2322, v2323, v2326, v2329, v2330, v2331, v2332,
    v2333, v2334, v2335, v2336, v2339, v2341, v2342, v2345, v2346, v2347, v2348, v2349, v2352, v2353, v2354, v2355, v2356, v2359, v2360, v2361, v2362,
    v2363, v2366, v2367, v2368, v2369, v2370, v2373, v2374, v2375, v2376, v2377, v2380, v2381, v2382, v2383, v2384, v2387, v2388, v2389, v2390, v2391,
    v2394, v2395, v2396, v2397, v2398, v2401, v2402, v2403, v2404, v2405, v2408, v2409, v2410, v2411, v2412, v2415, v2416, v2417, v2418, v2419, v2422,
    v2423, v2424, v2425, v2426, v2427, v2430, v2431, v2432, v2433, v2434, v2437, v2438, v2439, v2440, v2441, v2444, v2445, v2446, v2447, v2448, v2451,
    v2452, v2453, v2454, v2456, v2457, v2458, v2459, v2460, v2463, v2464, v2467, v2470, v2471, v2472, v2473, v2474, v2475, v2476, v2477, v2478, v2479,
    v2480, v2483, v2484, v2487, v2490, v2491, v2492, v2493, v2494, v2495, v2496, v2497, v2498, v2499, v2500, v2503, v2504, v2507, v2510, v2511, v2512,
    v2513, v2514, v2515, v2516, v2517, v2518, v2519, v2520, v2523, v2524, v2527, v2530, v2531, v2532, v2533, v2534, v2535, v2536, v2537, v2538, v2539,
    v2540, v2543, v2544, v2547, v2550, v2551, v2552, v2553, v2554, v2555, v2556, v2557, v2558, v2559, v2560, v2563, v2564, v2567, v2570, v2571, v2572,
    v2573, v2574, v2575, v2576, v2577, v2578, v2579, v2580, v2583, v2584, v2587, v2590, v2591, v2592, v2593, v2594, v2595, v2596, v2597, v2598, v2599,
    v2600, v2603, v2604, v2607, v2610, v2611, v2612, v2613, v2614, v2615, v2616, v2617, v2619, v2620, v2621, v2622, v2623, v2626, v2627, v2630, v2633,
    v2634, v2635, v2636, v2637, v2638, v2639, v2640, v2641, v2642, v2643, v2646, v2647, v2650, v2653, v2654, v2655, v2656, v2657, v2658, v2659, v2660,
    v2661, v2662, v2663, v2666, v2667, v2670, v2673, v2674, v2675, v2676, v2677, v2678, v2679, v2680, v2681, v2682, v2683, v2686, v2687, v2690, v2693,
    v2694, v2695, v2696, v2697, v2698, v2699, v2700, v2701, v2702, v2703, v2706, v2707, v2710, v2713, v2714, v2715, v2716, v2717, v2718, v2719, v2720,
    v2721, v2722, v2723, v2726, v2727, v2730, v2733, v2734, v2735, v2736, v2737, v2738, v2739, v2740, v2741, v2742, v2743, v2746, v2747, v2750, v2753,
    v2754, v2755, v2756, v2757, v2758, v2759, v2760, v2761, v2762, v2763, v2766, v2767, v2770, v2773, v2774, v2775, v2776, v2777, v2778, v2779, v2780,
    v2782, v2785, v2787, v2788, v2789, v2792, v2793, v2794, v2795, v2796, v2797, v2800, v2801, v2802, v2803, v2804, v2807, v2808, v2809, v2810, v2811,
    v2814, v2815, v2816, v2817, v2819, v2820, v2821, v2822, v2823, v2826, v2827, v2830, v2833, v2834, v2835, v2836, v2837, v2838, v2839, v2840, v2841,
    v2842, v2843, v2846, v2847, v2850, v2853, v2854, v2855, v2856, v2857, v2858, v2859, v2860, v2861, v2862, v2863, v2866, v2867, v2870, v2873, v2874,
    v2875, v2876, v2877, v2878, v2879, v2880, v2881, v2882, v2883, v2886, v2887, v2890, v2893, v2894, v2895, v2896, v2897, v2898, v2899, v2900, v2901,
    v2902, v2903, v2906, v2907, v2910, v2913, v2914, v2915, v2916, v2917, v2918, v2919, v2920, v2921, v2922, v2923, v2926, v2927, v2930, v2933, v2934,
    v2935, v2936, v2937, v2938, v2939, v2940, v2941, v2942, v2943, v2946, v2947, v2950, v2953, v2954, v2955, v2956, v2957, v2958, v2959, v2960, v2961,
    v2962, v2963, v2966, v2967, v2970, v2973, v2974, v2975, v2976, v2977, v2978, v2979, v2980, v2982, v2984, v2985, v2987, v2988, v2989, v2992, v2993,
    v2994, v2995, v2996, v2997, v300, v3000, v3001, v3002, v3003, v3004, v3007, v3008, v3009, v3010, v3012, v3013, v3014, v3015, v3016, v3019, v3020,
    v3023, v3026, v3027, v3028, v3029, v303, v3030, v3031, v3032, v3033, v3034, v3035, v3036, v3039, v3040, v3043, v3046, v3047, v3048, v3049, v3050,
    v3051, v3052, v3053, v3054, v3055, v3056, v3059, v3060, v3063, v3066, v3067, v3068, v3069, v3070, v3071, v3072, v3073, v3074, v3075, v3076, v3079,
    v3080, v3083, v3086, v3087, v3088, v3089, v3090, v3091, v3092, v3093, v3094, v3095, v3096, v3099, v310, v3100, v3103, v3106, v3107, v3108, v3109,
    v3110, v3111, v3112, v3113, v3114, v3115, v3116, v3119, v312, v3120, v3123, v3126, v3127, v3128, v3129, v313, v3130, v3131, v3132, v3133, v3134,
    v3135, v3136, v3139, v314, v3140, v3143, v3146, v3147, v3148, v3149, v315, v3150, v3151, v3152, v3153, v3154, v3155, v3156, v3159, v316, v3160, v3163,
    v3166, v3167, v3168, v3169, v3170, v3171, v3172, v3173, v3175, v3178, v3179, v3180, v3181, v3184, v3185, v3188, v319, v3191, v3192, v3193, v3194,
    v3195, v3196, v3197, v3198, v3199, v320, v3200, v3201, v3204, v3205, v3208, v321, v3211, v3212, v3213, v3214, v3215, v3216, v3217, v3218, v3219, v322,
    v3220, v3221, v3224, v3225, v3228, v3231, v3232, v3233, v3234, v3235, v3236, v3237, v3238, v3239, v3240, v3241, v3244, v3245, v3248, v325, v3251,
    v3252, v3253, v3254, v3255, v3256, v3257, v3258, v326, v3260, v3262, v3263, v3265, v3266, v3267, v327, v3270, v3271, v3272, v3273, v3274, v3275,
    v3278, v3279, v328, v3280, v3281, v3283, v3285, v3286, v3287, v3288, v3289, v3292, v3293, v3296, v3299, v3300, v3301, v3302, v3303, v3304, v3305,
    v3306, v3307, v3308, v3309, v331, v3312, v3313, v3316, v3319, v332, v3320, v3321, v3322, v3323, v3324, v3325, v3326, v3327, v3328, v3329, v333, v3332,
    v3333, v3336, v3339, v334, v3340, v3341, v3342, v3343, v3344, v3345, v3346, v3348, v3350, v3351, v3352, v3353, v3354, v3357, v3358, v3361, v3364,
    v3365, v3366, v3367, v3368, v3369, v337, v3370, v3371, v3372, v3373, v3374, v3377, v3378, v338, v3381, v3384, v3385, v3386, v3387, v3388, v3389, v339,
    v3390, v3391, v3393, v3395, v3396, v3398, v3399, v340, v3402, v3403, v3404, v3405, v3407, v3409, v3410, v3411, v3412, v3415, v3416, v3419, v3422,
    v3423, v3424, v3425, v3426, v3427, v3428, v3429, v343, v3430, v3431, v3432, v3433, v3434, v3435, v3436, v3437, v3438, v3439, v344, v3440, v3441, v345,
    v3453, v346, v3463, v3464, v3465, v3466, v3467, v3468, v3469, v347, v3470, v3471, v3472, v3473, v3474, v3475, v3476, v3477, v3478, v3479, v3480,
    v3481, v3482, v3483, v3484, v3485, v3486, v3487, v3488, v3489, v3490, v3491, v3492, v3493, v3494, v3495, v3496, v3497, v3498, v3499, v350, v3500,
    v3501, v3502, v3503, v3504, v3505, v3506, v3507, v3508, v3509, v351, v3510, v3511, v3512, v3513, v3514, v3515, v3516, v3517, v3518, v3519, v352,
    v3522, v3523, v3524, v3527, v3528, v3529, v353, v3530, v3531, v3532, v3535, v3536, v3537, v354, v3540, v3541, v3542, v3543, v3544, v3545, v3548,
    v3549, v3550, v3553, v3554, v3555, v3556, v3557, v3558, v3561, v3562, v3563, v3566, v3567, v3568, v3569, v357, v3570, v3571, v3572, v3573, v3574,
    v3575, v3576, v3577, v3578, v3579, v358, v3582, v3585, v3588, v3589, v359, v3590, v3591, v3592, v3593, v3594, v3595, v3598, v360, v3601, v3602, v3603,
    v3604, v3605, v3606, v3607, v3608, v3609, v361, v3610, v3611, v3612, v3613, v3614, v3615, v3618, v3621, v3622, v3623, v3624, v3625, v3626, v3627,
    v3628, v3629, v3630, v3631, v3632, v3633, v3634, v3635, v3638, v364, v3641, v3642, v3643, v3644, v3645, v3646, v3647, v3648, v3649, v365, v3650,
    v3651, v3652, v3653, v3654, v3655, v3658, v366, v3661, v3662, v3663, v3664, v3665, v3666, v3667, v3668, v3669, v367, v3670, v3671, v3674, v3675,
    v3678, v368, v3681, v3682, v3683, v3684, v3685, v3686, v3687, v3688, v3689, v3690, v3691, v3694, v3695, v3698, v3701, v3702, v3703, v3704, v3705,
    v3706, v3707, v3708, v3709, v371, v3710, v3711, v3714, v3715, v3718, v372, v3721, v3722, v3723, v3724, v3725, v3726, v3727, v3728, v3729, v373, v3730,
    v3731, v3734, v3735, v3738, v374, v3741, v3742, v3743, v3744, v3745, v3746, v3747, v3748, v375, v3751, v3753, v3754, v3757, v3758, v3759, v3760,
    v3763, v3764, v3765, v3766, v3769, v3770, v3771, v3772, v3775, v3776, v3777, v3778, v378, v3781, v3782, v3783, v3784, v3785, v3788, v3789, v379,
    v3790, v3791, v3792, v3795, v3796, v3797, v3798, v3799, v380, v3802, v3803, v3804, v3805, v3806, v3809, v381, v3810, v3811, v3812, v3813, v3816,
    v3817, v3818, v3819, v382, v3820, v3823, v3824, v3825, v3826, v3827, v3830, v3831, v3832, v3833, v3834, v3837, v3838, v3839, v3840, v3841, v3844,
    v3845, v3846, v3847, v3848, v385, v3851, v3852, v3853, v3854, v3855, v3858, v3859, v386, v3860, v3861, v3862, v3863, v3866, v3867, v3868, v387, v3871,
    v3872, v3873, v3874, v3875, v3876, v3879, v388, v3880, v3881, v3884, v3885, v3886, v3887, v3888, v3889, v389, v3892, v3893, v3894, v3897, v3898,
    v3899, v3900, v3901, v3902, v3905, v3906, v3907, v3910, v3911, v3912, v3913, v3914, v3915, v3916, v3917, v392, v3920, v3921, v3922, v3925, v3926,
    v3927, v3928, v3929, v393, v3930, v3933, v3934, v3935, v3938, v3939, v394, v3940, v3941, v3942, v3943, v3946, v3947, v3948, v395, v3951, v3952, v3953,
    v3954, v3955, v3956, v3959, v396, v3960, v3961, v3964, v3965, v3966, v3967, v3968, v3969, v3970, v3971, v3973, v3975, v3976, v3977, v3980, v3983,
    v3984, v3987, v3988, v3989, v399, v3990, v3993, v3994, v3997, v400, v4000, v4001, v4002, v4003, v4004, v4005, v4006, v4007, v4008, v4009, v401, v4010,
    v4013, v4014, v4017, v402, v4020, v4021, v4022, v4023, v4024, v4025, v4026, v4027, v4028, v4029, v403, v4030, v4033, v4034, v4037, v4040, v4041,
    v4042, v4043, v4044, v4045, v4046, v4047, v4048, v4049, v4050, v4053, v4054, v4057, v406, v4060, v4061, v4062, v4063, v4064, v4065, v4066, v4067,
    v4068, v4069, v407, v4070, v4073, v4074, v4077, v408, v4080, v4081, v4082, v4083, v4084, v4085, v4086, v4087, v4088, v4089, v409, v4090, v4093, v4094,
    v4097, v410, v4100, v4101, v4102, v4103, v4104, v4105, v4106, v4107, v4108, v4109, v4110, v4113, v4114, v4117, v4120, v4121, v4122, v4123, v4124,
    v4125, v4126, v4127, v4128, v4129, v413, v4130, v4133, v4134, v4137, v414, v4140, v4141, v4142, v4143, v4144, v4145, v4146, v4147, v415, v4150, v4152,
    v4153, v4156, v4157, v4158, v4159, v416, v4160, v4163, v4164, v4165, v4166, v4167, v417, v4170, v4171, v4172, v4173, v4174, v4177, v4178, v4179,
    v4180, v4181, v4184, v4185, v4186, v4187, v4188, v4191, v4192, v4193, v4194, v4195, v4198, v4199, v420, v4200, v4201, v4202, v4205, v4206, v4207,
    v4208, v4209, v421, v4212, v4213, v4214, v4215, v4216, v4219, v422, v4220, v4221, v4222, v4223, v4226, v4227, v4228, v4229, v423, v4230, v4233, v4234,
    v4235, v4236, v4237, v4240, v4241, v4242, v4243, v4244, v4247, v4248, v4249, v425, v4250, v4251, v4254, v4255, v4256, v4257, v4258, v426, v4261,
    v4262, v4263, v4264, v4265, v4266, v4269, v4270, v4271, v4274, v4275, v4276, v4277, v4278, v4279, v428, v4282, v4283, v4284, v4287, v4288, v4289,
    v429, v4290, v4291, v4292, v4295, v4296, v4297, v4300, v4301, v4302, v4303, v4304, v4305, v4308, v4309, v4310, v4313, v4314, v4315, v4316, v4317,
    v4318, v4319, v432, v4320, v4323, v4324, v4325, v4328, v4329, v433, v4330, v4331, v4332, v4333, v4336, v4337, v4338, v434, v4341, v4342, v4343, v4344,
    v4345, v4346, v4349, v435, v4350, v4351, v4354, v4355, v4356, v4357, v4358, v4359, v436, v4362, v4363, v4364, v4367, v4368, v4369, v4370, v4371,
    v4372, v4373, v4374, v4376, v4378, v4379, v4380, v4383, v4386, v4387, v439, v4390, v4391, v4392, v4393, v4396, v4397, v440, v4400, v4403, v4404,
    v4405, v4406, v4407, v4408, v4409, v441, v4410, v4411, v4412, v4413, v4416, v4417, v442, v4420, v4423, v4424, v4425, v4426, v4427, v4428, v4429, v443,
    v4430, v4431, v4432, v4433, v4436, v4437, v4440, v4443, v4444, v4445, v4446, v4447, v4448, v4449, v4450, v4451, v4452, v4453, v4456, v4457, v446,
    v4460, v4463, v4464, v4465, v4466, v4467, v4468, v4469, v447, v4470, v4471, v4472, v4473, v4476, v4477, v448, v4480, v4483, v4484, v4485, v4486,
    v4487, v4488, v4489, v449, v4490, v4491, v4492, v4493, v4496, v4497, v450, v4500, v4503, v4504, v4505, v4506, v4507, v4508, v4509, v4510, v4511,
    v4512, v4513, v4516, v4517, v4520, v4523, v4524, v4525, v4526, v4527, v4528, v4529, v453, v4530, v4531, v4532, v4533, v4536, v4537, v454, v4540,
    v4543, v4544, v4545, v4546, v4547, v4548, v4549, v455, v4550, v4551, v4552, v4555, v4556, v4557, v456, v4560, v4561, v4562, v4563, v4564, v4565,
    v4568, v4569, v457, v4570, v4573, v4574, v4575, v4576, v4577, v4578, v4581, v4582, v4583, v4586, v4587, v4588, v4589, v4590, v4591, v4594, v4595,
    v4596, v4599, v460, v4600, v4601, v4602, v4603, v4604, v4605, v4606, v4609, v461, v4610, v4611, v4614, v4615, v4616, v4617, v4618, v4619, v462, v4622,
    v4623, v4624, v4627, v4628, v4629, v463, v4630, v4631, v4632, v4635, v4636, v4637, v464, v4640, v4641, v4642, v4643, v4644, v4645, v4648, v4649,
    v4650, v4653, v4654, v4655, v4656, v4657, v4658, v4659, v4660, v4662, v4664, v4665, v4666, v4669, v467, v4672, v4673, v4676, v4677, v4678, v4679,
    v468, v4682, v4683, v4686, v4689, v469, v4690, v4691, v4692, v4693, v4694, v4695, v4696, v4697, v4698, v4699, v470, v4702, v4703, v4706, v4709, v471,
    v4710, v4711, v4712, v4713, v4714, v4715, v4716, v4717, v4718, v4719, v4722, v4723, v4726, v4729, v4730, v4731, v4732, v4733, v4734, v4735, v4736,
    v4737, v4738, v4739, v474, v4742, v4743, v4746, v4749, v475, v4750, v4751, v4752, v4753, v4754, v4755, v4756, v4757, v4758, v4759, v476, v4762, v4763,
    v4766, v4769, v477, v4770, v4771, v4772, v4773, v4774, v4775, v4776, v4777, v4778, v4779, v478, v4782, v4783, v4786, v4789, v4790, v4791, v4792,
    v4793, v4794, v4795, v4796, v4797, v4798, v4799, v4802, v4803, v4806, v4809, v481, v4810, v4811, v4812, v4813, v4814, v4815, v4816, v4817, v4818,
    v4819, v482, v4822, v4823, v4826, v4829, v483, v4830, v4831, v4832, v4833, v4834, v4835, v4836, v4839, v484, v4841, v4842, v4845, v4846, v4847, v4848,
    v4849, v485, v4852, v4853, v4854, v4855, v4856, v4859, v4860, v4861, v4862, v4863, v4866, v4867, v4868, v4869, v4870, v4873, v4874, v4875, v4876,
    v4877, v488, v4880, v4881, v4882, v4883, v4884, v4887, v4888, v4889, v489, v4890, v4891, v4894, v4895, v4896, v4897, v4898, v490, v4901, v4902, v4903,
    v4904, v4905, v4908, v4909, v491, v4910, v4911, v4912, v4915, v4916, v4917, v4918, v4919, v492, v4922, v4923, v4924, v4925, v4926, v4927, v4930,
    v4931, v4932, v4933, v4934, v4937, v4938, v4939, v4940, v4941, v4944, v4945, v4946, v4947, v4948, v495, v4951, v4952, v4953, v4954, v4955, v4956,
    v4959, v496, v4960, v4961, v4964, v4965, v4966, v4967, v4968, v4969, v497, v4972, v4973, v4974, v4977, v4978, v4979, v498, v4980, v4981, v4982, v4985,
    v4986, v4987, v499, v4990, v4991, v4992, v4993, v4994, v4995, v4998, v4999, v5000, v5003, v5004, v5005, v5006, v5007, v5008, v5009, v5010, v5013,
    v5014, v5015, v5018, v5019, v502, v5020, v5021, v5022, v5023, v5026, v5027, v5028, v503, v5031, v5032, v5033, v5034, v5035, v5036, v5039, v504, v5040,
    v5041, v5044, v5045, v5046, v5047, v5048, v5049, v505, v5050, v5051, v5052, v5053, v5054, v5055, v5056, v5057, v5058, v5059, v506, v5060, v5061,
    v5062, v5063, v5064, v5065, v5066, v5067, v5068, v5069, v5070, v5073, v5076, v5077, v5079, v5080, v5081, v5082, v5083, v5084, v5085, v5086, v5087,
    v509, v5090, v5093, v5094, v5095, v5096, v5097, v5098, v5099, v510, v5100, v5101, v5102, v5103, v5104, v5105, v5106, v5107, v511, v5110, v5113, v5114,
    v5115, v5116, v5117, v5118, v5119, v512, v5120, v5121, v5122, v5123, v5124, v5125, v5126, v5127, v513, v5130, v5133, v5134, v5135, v5136, v5137,
    v5138, v5139, v5140, v5141, v5142, v5143, v5144, v5145, v5146, v5147, v5150, v5153, v5154, v5155, v5156, v5157, v5158, v5159, v516, v5160, v5161,
    v5162, v5163, v5166, v5167, v517, v5170, v5173, v5174, v5175, v5176, v5177, v5178, v5179, v518, v5180, v5181, v5182, v5183, v5186, v5187, v519, v5190,
    v5193, v5194, v5195, v5196, v5197, v5198, v5199, v520, v5200, v5201, v5202, v5203, v5206, v5207, v5210, v5213, v5214, v5215, v5216, v5217, v5218,
    v5219, v5220, v5221, v5222, v5223, v5226, v5227, v523, v5230, v5233, v5234, v5235, v5236, v5237, v5238, v5239, v524, v5240, v5241, v5242, v5243,
    v5244, v5245, v5246, v5247, v5248, v5249, v525, v5250, v5251, v5252, v5253, v5254, v5255, v5256, v5257, v5258, v5259, v526, v5260, v5261, v5262,
    v5263, v5264, v5265, v5266, v5267, v5268, v5269, v527, v5270, v5271, v5272, v5273, v5274, v5275, v5276, v5277, v5278, v5279, v5280, v5281, v5284,
    v5285, v5286, v5289, v5290, v5291, v5292, v5293, v5294, v5295, v5296, v5299, v530, v5300, v5301, v5304, v5305, v5306, v5307, v5308, v5309, v531,
    v5312, v5313, v5314, v5317, v5318, v5319, v532, v5320, v5321, v5322, v5325, v5326, v5327, v533, v5330, v5331, v5332, v5333, v5334, v5335, v5338,
    v5339, v534, v5340, v5343, v5344, v5345, v5346, v5347, v5348, v5349, v5350, v5352, v5354, v5355, v5356, v5359, v5362, v5363, v5365, v5366, v5367,
    v5368, v5369, v537, v5372, v5373, v5376, v5379, v538, v5380, v5381, v5382, v5383, v5384, v5385, v5386, v5387, v5388, v5389, v539, v5392, v5393, v5396,
    v5399, v540, v5400, v5401, v5402, v5403, v5404, v5405, v5406, v5407, v5408, v5409, v5412, v5413, v5416, v5419, v542, v5420, v5421, v5422, v5423,
    v5424, v5425, v5426, v5427, v5428, v5429, v543, v5432, v5433, v5436, v5439, v5440, v5441, v5442, v5443, v5444, v5445, v5446, v5447, v5448, v5449,
    v545, v5452, v5453, v5456, v5459, v546, v5460, v5461, v5462, v5463, v5464, v5465, v5466, v5467, v5468, v5469, v5472, v5473, v5476, v5479, v5480,
    v5481, v5482, v5483, v5484, v5485, v5486, v5487, v5488, v5489, v549, v5492, v5493, v5496, v5499, v550, v5500, v5501, v5502, v5503, v5504, v5505,
    v5506, v5507, v5508, v5509, v551, v5512, v5513, v5516, v5519, v552, v5520, v5521, v5522, v5523, v5524, v5525, v5526, v5528, v553, v5530, v5531, v5533,
    v5534, v5535, v5538, v5539, v5540, v5541, v5542, v5543, v5546, v5547, v5548, v5549, v5550, v5553, v5554, v5555, v5556, v5557, v556, v5560, v5561,
    v5562, v5563, v5564, v5565, v5568, v5569, v557, v5570, v5573, v5574, v5575, v5576, v5577, v5578, v558, v5581, v5582, v5583, v5586, v5587, v5588,
    v5589, v559, v5590, v5591, v5594, v5595, v5596, v5599, v560, v5600, v5601, v5602, v5603, v5604, v5607, v5608, v5609, v5612, v5613, v5614, v5615,
    v5616, v5617, v5618, v5619, v5622, v5623, v5624, v5627, v5628, v5629, v563, v5630, v5631, v5632, v5635, v5636, v5637, v564, v5640, v5641, v5642,
    v5643, v5644, v5645, v5648, v5649, v565, v5650, v5653, v5654, v5655, v5656, v5657, v5658, v566, v5661, v5662, v5663, v5666, v5667, v5668, v5669, v567,
    v5670, v5671, v5672, v5673, v5675, v5677, v5678, v5679, v5682, v5685, v5686, v5688, v5689, v5690, v5691, v5692, v5695, v5696, v5699, v570, v5702,
    v5703, v5704, v5705, v5706, v5707, v5708, v5709, v571, v5710, v5711, v5712, v5715, v5716, v5719, v572, v5722, v5723, v5724, v5725, v5726, v5727,
    v5728, v5729, v573, v5730, v5731, v5732, v5735, v5736, v5739, v574, v5742, v5743, v5744, v5745, v5746, v5747, v5748, v5749, v5750, v5751, v5752,
    v5755, v5756, v5759, v5762, v5763, v5764, v5765, v5766, v5767, v5768, v5769, v577, v5770, v5771, v5772, v5775, v5776, v5779, v578, v5782, v5783,
    v5784, v5785, v5786, v5787, v5788, v5789, v579, v5790, v5791, v5792, v5795, v5796, v5799, v580, v5802, v5803, v5804, v5805, v5806, v5807, v5808,
    v5809, v581, v5810, v5811, v5812, v5815, v5816, v5819, v5822, v5823, v5824, v5825, v5826, v5827, v5828, v5829, v5830, v5831, v5832, v5835, v5836,
    v5839, v584, v5842, v5843, v5844, v5845, v5846, v5847, v5848, v5849, v585, v5851, v5853, v5854, v5856, v5857, v5858, v586, v5861, v5862, v5863, v5864,
    v5865, v5866, v5869, v587, v5870, v5871, v5872, v5873, v5876, v5877, v5878, v5879, v588, v5880, v5881, v5884, v5885, v5886, v5889, v5890, v5891,
    v5892, v5893, v5894, v5897, v5898, v5899, v5902, v5903, v5904, v5905, v5906, v5907, v591, v5910, v5911, v5912, v5915, v5916, v5917, v5918, v5919,
    v592, v5920, v5923, v5924, v5925, v5928, v5929, v593, v5930, v5931, v5932, v5933, v5934, v5935, v5938, v5939, v594, v5940, v5943, v5944, v5945, v5946,
    v5947, v5948, v595, v5951, v5952, v5953, v5956, v5957, v5958, v5959, v5960, v5961, v5964, v5965, v5966, v5969, v5970, v5971, v5972, v5973, v5974,
    v5977, v5978, v5979, v598, v5982, v5983, v5984, v5985, v5986, v5987, v5988, v5989, v599, v5991, v5993, v5994, v5995, v5998, v600, v6001, v6002, v6004,
    v6005, v6006, v6007, v6008, v601, v6011, v6012, v6015, v6018, v6019, v602, v6020, v6021, v6022, v6023, v6024, v6025, v6026, v6027, v6028, v6031,
    v6032, v6035, v6038, v6039, v6040, v6041, v6042, v6043, v6044, v6045, v6046, v6047, v6048, v605, v6051, v6052, v6055, v6058, v6059, v606, v6060,
    v6061, v6062, v6063, v6064, v6065, v6066, v6067, v6068, v607, v6071, v6072, v6075, v6078, v6079, v608, v6080, v6081, v6082, v6083, v6084, v6085,
    v6086, v6087, v6088, v609, v6091, v6092, v6095, v6098, v6099, v6100, v6101, v6102, v6103, v6104, v6105, v6106, v6107, v6108, v6111, v6112, v6115,
    v6118, v6119, v612, v6120, v6121, v6122, v6123, v6124, v6125, v6126, v6127, v6128, v613, v6131, v6132, v6135, v6138, v6139, v614, v6140, v6141, v6142,
    v6143, v6144, v6145, v6146, v6147, v6148, v615, v6151, v6152, v6155, v6158, v6159, v616, v6160, v6161, v6162, v6163, v6164, v6165, v6166, v6167,
    v6170, v6171, v6172, v6175, v6176, v6177, v6178, v6179, v6180, v6183, v6184, v6185, v6188, v6189, v619, v6190, v6191, v6192, v6193, v6196, v6197,
    v6198, v620, v6201, v6202, v6203, v6204, v6205, v6206, v6209, v621, v6210, v6211, v6214, v6215, v6216, v6217, v6218, v6219, v622, v6220, v6221, v6224,
    v6225, v6226, v6229, v623, v6230, v6231, v6232, v6233, v6234, v6237, v6238, v6239, v6242, v6243, v6244, v6245, v6246, v6247, v6250, v6251, v6252,
    v6255, v6256, v6257, v6258, v6259, v626, v6260, v6263, v6264, v6265, v6268, v6269, v627, v6270, v6271, v6272, v6273, v6274, v6275, v6277, v6279, v628,
    v6280, v6281, v6284, v6287, v6288, v629, v6290, v6292, v6293, v6294, v6295, v6296, v6299, v630, v6300, v6303, v6306, v6307, v6308, v6309, v6310,
    v6311, v6312, v6313, v6314, v6315, v6316, v6319, v6320, v6323, v6326, v6327, v6328, v6329, v633, v6330, v6331, v6332, v6333, v6334, v6335, v6336,
    v6339, v634, v6340, v6343, v6346, v6347, v6348, v6349, v635, v6350, v6351, v6352, v6353, v6354, v6355, v6356, v6359, v636, v6360, v6363, v6366, v6367,
    v6368, v6369, v637, v6370, v6371, v6372, v6373, v6375, v6377, v6378, v6380, v6381, v6382, v6385, v6386, v6387, v6388, v6389, v6390, v6393, v6394,
    v6395, v6396, v6397, v6398, v640, v6401, v6402, v6403, v6406, v6407, v6408, v6409, v641, v6410, v6411, v6414, v6415, v6416, v6419, v642, v6420, v6421,
    v6422, v6423, v6424, v6427, v6428, v6429, v643, v6432, v6433, v6434, v6435, v6436, v6437, v644, v6440, v6441, v6442, v6445, v6446, v6447, v6448,
    v6449, v6450, v6451, v6452, v6455, v6456, v6457, v6460, v6461, v6467, v6468, v6469, v647, v6470, v6473, v6474, v6475, v6478, v6479, v648, v6480,
    v6481, v6482, v6483, v6486, v6487, v6488, v649, v6491, v6492, v6493, v6494, v6495, v6496, v6499, v650, v6500, v6501, v6504, v6505, v6506, v6507,
    v6508, v6509, v651, v6510, v6511, v6513, v6515, v6516, v6517, v6520, v6523, v6524, v6526, v6528, v6529, v6530, v6531, v6532, v6535, v6536, v6539,
    v654, v6542, v6543, v6544, v6545, v6546, v6547, v6548, v6549, v655, v6550, v6551, v6552, v6555, v6556, v6559, v656, v6562, v6563, v6564, v6565, v6566,
    v6567, v6568, v6569, v657, v6570, v6571, v6572, v6575, v6576, v6579, v6582, v6583, v6584, v6585, v6586, v6587, v6588, v6589, v659, v6590, v6591,
    v6594, v6595, v6596, v6599, v660, v6600, v6606, v6607, v6608, v6609, v6612, v6613, v6614, v6617, v6618, v662, v6624, v6625, v6626, v6627, v663, v6630,
    v6631, v6632, v6635, v6636, v6637, v6638, v6639, v6640, v6643, v6644, v6645, v6648, v6649, v6650, v6651, v6652, v6653, v6654, v6655, v6656, v6659,
    v666, v6660, v6661, v6664, v6665, v667, v6671, v6672, v6673, v6674, v6677, v6678, v6679, v668, v6682, v6683, v6689, v669, v6690, v6691, v6692, v6695,
    v6696, v6697, v670, v6700, v6701, v6702, v6703, v6704, v6705, v6706, v6707, v6709, v6711, v6712, v6713, v6716, v6719, v6720, v6722, v6724, v6725,
    v6726, v6727, v6728, v673, v6731, v6732, v6735, v6738, v6739, v674, v6740, v6741, v6742, v6743, v6744, v6745, v6746, v6747, v6748, v675, v6751, v6752,
    v6755, v6758, v6759, v676, v6760, v6761, v6762, v6763, v6764, v6765, v6767, v6769, v677, v6770, v6772, v6773, v6776, v6777, v6778, v6779, v6780,
    v6781, v6784, v6785, v6786, v6789, v6790, v6796, v6797, v6798, v6799, v680, v6802, v6803, v6804, v6807, v6808, v681, v6814, v6815, v6816, v6817,
    v6819, v682, v6820, v6823, v6824, v6825, v6828, v6829, v683, v6835, v6836, v6837, v6838, v6839, v684, v6840, v6841, v6842, v6843, v6844, v6845, v6846,
    v6849, v6852, v6853, v6854, v6855, v6857, v6859, v6860, v6861, v6862, v6865, v6866, v6869, v687, v6872, v6873, v6874, v6875, v6876, v6877, v6878,
    v6879, v688, v6880, v6881, v6882, v6887, v6888, v6889, v689, v6890, v6893, v6894, v6895, v6896, v6897, v6898, v690, v6901, v6902, v6903, v6904, v6905,
    v6906, v6909, v691, v6910, v6911, v6912, v6913, v6914, v6915, v6917, v6918, v6930, v694, v6940, v6941, v6942, v6943, v6944, v6945, v6946, v6947,
    v6948, v6949, v695, v6950, v6951, v6952, v6953, v6954, v6955, v6956, v6957, v6958, v6959, v696, v6960, v6961, v6962, v6963, v6964, v6965, v6966,
    v6967, v6968, v6969, v697, v6970, v6971, v6972, v6973, v6974, v6975, v6976, v6977, v6978, v6979, v698, v6980, v6981, v6982, v6983, v6984, v6985,
    v6986, v6987, v6988, v6989, v6990, v6991, v6992, v6993, v6994, v6995, v6996, v6999, v7000, v7001, v7004, v7005, v7006, v7007, v7008, v7009, v701,
    v7012, v7013, v7014, v7017, v7018, v7019, v702, v7020, v7021, v7022, v7025, v7026, v7027, v703, v7030, v7031, v7032, v7033, v7034, v7035, v7038,
    v7039, v704, v7040, v7043, v7044, v7045, v7046, v7047, v7048, v7049, v705, v7050, v7051, v7052, v7053, v7054, v7055, v7056, v7057, v7058, v7061,
    v7062, v7063, v7066, v7068, v7069, v7070, v7071, v7072, v7073, v7074, v7075, v7076, v7079, v708, v7082, v7083, v7084, v7085, v7086, v7087, v7088,
    v7089, v709, v7090, v7091, v7092, v7093, v7094, v7095, v7096, v7099, v710, v7102, v7103, v7104, v7105, v7106, v7107, v7108, v7109, v711, v7110, v7111,
    v7112, v7113, v7114, v7115, v7116, v7119, v712, v7122, v7123, v7124, v7125, v7126, v7127, v7128, v7129, v7130, v7131, v7132, v7133, v7134, v7135,
    v7136, v7139, v7142, v7143, v7144, v7145, v7146, v7147, v7148, v7149, v715, v7150, v7151, v7152, v7155, v7156, v7159, v716, v7162, v7163, v7164,
    v7165, v7166, v7167, v7168, v7169, v717, v7170, v7171, v7172, v7175, v7176, v7179, v718, v7182, v7183, v7184, v7185, v7186, v7187, v7188, v7189, v719,
    v7190, v7191, v7192, v7195, v7196, v7199, v7202, v7203, v7204, v7205, v7206, v7207, v7208, v7209, v7210, v7211, v7212, v7215, v7216, v7219, v722,
    v7222, v7223, v7224, v7225, v7226, v7227, v7228, v7229, v723, v7231, v7232, v7234, v7235, v7238, v7239, v724, v7240, v7241, v7244, v7245, v7246,
    v7247, v725, v7250, v7251, v7252, v7253, v7256, v7257, v7258, v7259, v726, v7262, v7263, v7264, v7265, v7266, v7269, v7270, v7271, v7272, v7273,
    v7276, v7277, v7278, v7279, v7280, v7283, v7284, v7285, v7286, v7287, v729, v7290, v7291, v7292, v7293, v7294, v7297, v7298, v7299, v730, v7300,
    v7301, v7304, v7305, v7306, v7307, v7308, v731, v7311, v7312, v7313, v7314, v7315, v7318, v7319, v732, v7320, v7321, v7322, v7325, v7326, v7327,
    v7328, v7329, v733, v7332, v7333, v7334, v7335, v7336, v7339, v7340, v7341, v7342, v7343, v7344, v7347, v7348, v7349, v7352, v7353, v7354, v7355,
    v7356, v7357, v736, v7360, v7361, v7362, v7365, v7366, v7367, v7368, v7369, v737, v7370, v7373, v7374, v7375, v7378, v7379, v738, v7380, v7381, v7382,
    v7383, v7386, v7387, v7388, v739, v7391, v7392, v7393, v7394, v7395, v7396, v7397, v7398, v740, v7401, v7402, v7403, v7406, v7407, v7408, v7409,
    v7410, v7411, v7414, v7415, v7416, v7419, v7420, v7421, v7422, v7423, v7424, v7427, v7428, v7429, v743, v7432, v7433, v7434, v7435, v7436, v7437,
    v744, v7440, v7441, v7442, v7445, v7446, v7447, v7448, v7449, v745, v7450, v7451, v7452, v7454, v7456, v7457, v7458, v7459, v746, v7460, v7463, v7464,
    v7465, v7468, v7469, v747, v7471, v7472, v7473, v7474, v7475, v7478, v7479, v7482, v7485, v7486, v7487, v7488, v7489, v7490, v7491, v7492, v7493,
    v7494, v7495, v7498, v7499, v750, v7502, v7505, v7506, v7507, v7508, v7509, v751, v7510, v7511, v7512, v7513, v7514, v7515, v7518, v7519, v752, v7522,
    v7525, v7526, v7527, v7528, v7529, v753, v7530, v7531, v7532, v7533, v7534, v7535, v7538, v7539, v754, v7542, v7545, v7546, v7547, v7548, v7549,
    v7550, v7551, v7552, v7553, v7554, v7555, v7558, v7559, v7562, v7565, v7566, v7567, v7568, v7569, v757, v7570, v7571, v7572, v7573, v7574, v7575,
    v7578, v7579, v758, v7582, v7585, v7586, v7587, v7588, v7589, v759, v7590, v7591, v7592, v7593, v7594, v7595, v7598, v7599, v760, v7602, v7605, v7606,
    v7607, v7608, v7609, v761, v7610, v7611, v7612, v7613, v7614, v7615, v7618, v7619, v7622, v7625, v7626, v7627, v7628, v7629, v7630, v7631, v7632,
    v7634, v7635, v7637, v7638, v764, v7641, v7642, v7643, v7644, v7645, v7648, v7649, v765, v7650, v7651, v7652, v7655, v7656, v7657, v7658, v7659, v766,
    v7662, v7663, v7664, v7665, v7666, v7669, v767, v7670, v7671, v7672, v7673, v7676, v7677, v7678, v7679, v768, v7680, v7683, v7684, v7685, v7686,
    v7687, v7690, v7691, v7692, v7693, v7694, v7697, v7698, v7699, v7700, v7701, v7704, v7705, v7706, v7707, v7708, v771, v7711, v7712, v7713, v7714,
    v7715, v7718, v7719, v772, v7720, v7721, v7722, v7723, v7726, v7727, v7728, v7729, v773, v7730, v7733, v7734, v7735, v7736, v7737, v774, v7740, v7741,
    v7742, v7743, v7744, v7747, v7748, v7749, v7750, v7751, v7752, v7755, v7756, v7757, v776, v7760, v7761, v7762, v7763, v7764, v7765, v7768, v7769,
    v777, v7770, v7773, v7774, v7775, v7776, v7777, v7778, v7781, v7782, v7783, v7786, v7787, v7788, v7789, v779, v7790, v7791, v7794, v7795, v7796,
    v7799, v780, v7800, v7801, v7802, v7803, v7804, v7805, v7806, v7809, v7810, v7811, v7814, v7815, v7816, v7817, v7818, v7819, v7822, v7823, v7824,
    v7827, v7828, v7829, v783, v7830, v7831, v7832, v7835, v7836, v7837, v784, v7840, v7841, v7842, v7843, v7844, v7845, v7848, v7849, v785, v7850, v7853,
    v7854, v7855, v7856, v7857, v7858, v7859, v786, v7860, v7862, v7864, v7865, v7866, v7867, v7868, v787, v7871, v7872, v7873, v7876, v7877, v7879,
    v7880, v7881, v7882, v7883, v7886, v7887, v7890, v7893, v7894, v7895, v7896, v7897, v7898, v7899, v790, v7900, v7901, v7902, v7903, v7906, v7907,
    v791, v7910, v7913, v7914, v7915, v7916, v7917, v7918, v7919, v792, v7920, v7921, v7922, v7923, v7926, v7927, v793, v7930, v7933, v7934, v7935, v7936,
    v7937, v7938, v7939, v794, v7940, v7941, v7942, v7943, v7946, v7947, v7950, v7953, v7954, v7955, v7956, v7957, v7958, v7959, v7960, v7961, v7962,
    v7963, v7966, v7967, v797, v7970, v7973, v7974, v7975, v7976, v7977, v7978, v7979, v798, v7980, v7981, v7982, v7983, v7986, v7987, v799, v7990, v7993,
    v7994, v7995, v7996, v7997, v7998, v7999, v800, v8000, v8001, v8002, v8003, v8006, v8007, v801, v8010, v8013, v8014, v8015, v8016, v8017, v8018,
    v8019, v8020, v8021, v8022, v8023, v8026, v8027, v8030, v8033, v8034, v8035, v8036, v8037, v8038, v8039, v804, v8040, v8041, v8042, v8045, v8046,
    v8047, v805, v8050, v8051, v8052, v8053, v8054, v8055, v8058, v8059, v806, v8060, v8063, v8064, v8065, v8066, v8067, v8068, v807, v8071, v8072, v8073,
    v8076, v8077, v8078, v8079, v808, v8080, v8081, v8084, v8085, v8086, v8089, v8090, v8091, v8092, v8093, v8094, v8095, v8096, v8099, v8100, v8101,
    v8104, v8105, v8106, v8107, v8108, v8109, v811, v8112, v8113, v8114, v8117, v8118, v8119, v812, v8120, v8121, v8122, v8125, v8126, v8127, v813, v8130,
    v8131, v8132, v8133, v8134, v8135, v8138, v8139, v814, v8140, v8143, v8144, v8145, v8146, v8147, v8148, v8149, v815, v8150, v8152, v8154, v8155,
    v8156, v8157, v8158, v8161, v8162, v8163, v8166, v8167, v8169, v8170, v8171, v8172, v8173, v8176, v8177, v818, v8180, v8183, v8184, v8185, v8186,
    v8187, v8188, v8189, v819, v8190, v8191, v8192, v8193, v8196, v8197, v820, v8200, v8203, v8204, v8205, v8206, v8207, v8208, v8209, v821, v8210, v8211,
    v8212, v8213, v8216, v8217, v822, v8220, v8223, v8224, v8225, v8226, v8227, v8228, v8229, v8230, v8231, v8232, v8233, v8236, v8237, v8240, v8243,
    v8244, v8245, v8246, v8247, v8248, v8249, v825, v8250, v8251, v8252, v8253, v8256, v8257, v826, v8260, v8263, v8264, v8265, v8266, v8267, v8268,
    v8269, v827, v8270, v8271, v8272, v8273, v8276, v8277, v828, v8280, v8283, v8284, v8285, v8286, v8287, v8288, v8289, v829, v8290, v8291, v8292, v8293,
    v8296, v8297, v8300, v8303, v8304, v8305, v8306, v8307, v8308, v8309, v8310, v8311, v8312, v8313, v8316, v8317, v832, v8320, v8323, v8324, v8325,
    v8326, v8327, v8328, v8329, v833, v8330, v8332, v8335, v8337, v8338, v8339, v834, v8342, v8343, v8344, v8345, v8346, v8347, v835, v8350, v8351, v8352,
    v8353, v8354, v8357, v8358, v8359, v836, v8360, v8361, v8364, v8365, v8366, v8367, v8368, v8369, v8372, v8373, v8374, v8377, v8378, v8379, v8380,
    v8381, v8382, v8385, v8386, v8387, v839, v8390, v8391, v8392, v8393, v8394, v8395, v8398, v8399, v840, v8400, v8403, v8404, v8405, v8406, v8407,
    v8408, v841, v8411, v8412, v8413, v8416, v8417, v8418, v8419, v842, v8420, v8421, v8422, v8423, v8426, v8427, v8428, v843, v8431, v8432, v8433, v8434,
    v8435, v8436, v8439, v8440, v8441, v8444, v8445, v8446, v8447, v8448, v8449, v8452, v8453, v8454, v8457, v8458, v8459, v846, v8460, v8461, v8462,
    v8465, v8466, v8467, v847, v8470, v8471, v8472, v8473, v8474, v8475, v8476, v8477, v8479, v848, v8481, v8483, v8484, v8485, v8488, v8489, v849, v8490,
    v8493, v8494, v8497, v8498, v8499, v850, v8500, v8503, v8504, v8507, v8510, v8511, v8512, v8513, v8514, v8515, v8516, v8517, v8518, v8519, v8520,
    v8523, v8524, v8527, v853, v8530, v8531, v8532, v8533, v8534, v8535, v8536, v8537, v8538, v8539, v854, v8540, v8543, v8544, v8547, v855, v8550, v8551,
    v8552, v8553, v8554, v8555, v8556, v8557, v8558, v8559, v856, v8560, v8563, v8564, v8567, v857, v8570, v8571, v8572, v8573, v8574, v8575, v8576,
    v8577, v8578, v8579, v8580, v8583, v8584, v8587, v8590, v8591, v8592, v8593, v8594, v8595, v8596, v8597, v8598, v8599, v860, v8600, v8603, v8604,
    v8607, v861, v8610, v8611, v8612, v8613, v8614, v8615, v8616, v8617, v8618, v8619, v862, v8620, v8623, v8624, v8627, v863, v8630, v8631, v8632, v8633,
    v8634, v8635, v8636, v8637, v8638, v8639, v864, v8640, v8643, v8644, v8647, v865, v8650, v8651, v8652, v8653, v8654, v8655, v8656, v8657, v8658,
    v8659, v8662, v8663, v8664, v8667, v8668, v8669, v8670, v8671, v8672, v8675, v8676, v8677, v868, v8680, v8681, v8682, v8683, v8684, v8685, v8688,
    v8689, v869, v8690, v8693, v8694, v8695, v8696, v8697, v8698, v870, v8701, v8702, v8703, v8706, v8707, v8708, v8709, v871, v8710, v8711, v8712, v8713,
    v8716, v8717, v8718, v872, v8721, v8722, v8723, v8724, v8725, v8726, v8729, v8730, v8731, v8734, v8735, v8736, v8737, v8738, v8739, v8742, v8743,
    v8744, v8747, v8748, v8749, v875, v8750, v8751, v8752, v8755, v8756, v8757, v876, v8760, v8761, v8762, v8763, v8764, v8765, v8766, v8767, v8769, v877,
    v8771, v8773, v8774, v8775, v8778, v8779, v878, v8780, v8783, v8784, v8787, v8788, v8789, v879, v8790, v8793, v8794, v8797, v8800, v8801, v8802,
    v8803, v8804, v8805, v8806, v8807, v8808, v8809, v8810, v8813, v8814, v8817, v882, v8820, v8821, v8822, v8823, v8824, v8825, v8826, v8827, v8828,
    v8829, v883, v8830, v8833, v8834, v8837, v884, v8840, v8841, v8842, v8843, v8844, v8845, v8846, v8847, v8848, v8849, v885, v8850, v8853, v8854, v8857,
    v886, v8860, v8861, v8862, v8863, v8864, v8865, v8866, v8867, v8868, v8869, v8870, v8873, v8874, v8877, v8880, v8881, v8882, v8883, v8884, v8885,
    v8886, v8887, v8888, v8889, v889, v8890, v8893, v8894, v8897, v890, v8900, v8901, v8902, v8903, v8904, v8905, v8906, v8907, v8908, v8909, v891, v8910,
    v8913, v8914, v8917, v892, v8920, v8921, v8922, v8923, v8924, v8925, v8926, v8927, v8928, v8929, v8930, v8933, v8934, v8937, v894, v8940, v8941,
    v8942, v8943, v8944, v8945, v8946, v8947, v8949, v8951, v8952, v8954, v8955, v8956, v8959, v8960, v8961, v8962, v8963, v8964, v8967, v8968, v8969,
    v897, v8970, v8971, v8974, v8975, v8976, v8977, v8978, v8979, v898, v8982, v8983, v8984, v8987, v8988, v8989, v899, v8990, v8991, v8992, v8995, v8996,
    v8997, v900, v9000, v9001, v9002, v9003, v9004, v9005, v9008, v9009, v901, v9010, v9013, v9014, v9015, v9016, v9017, v9018, v9021, v9022, v9023,
    v9026, v9027, v9028, v9029, v9030, v9031, v9032, v9033, v9036, v9037, v9038, v904, v9041, v9042, v9043, v9044, v9045, v9046, v9049, v905, v9050,
    v9051, v9054, v9055, v9056, v9057, v9058, v9059, v906, v9062, v9063, v9064, v9067, v9068, v9069, v907, v9070, v9071, v9072, v9075, v9076, v9077, v908,
    v9080, v9081, v9082, v9083, v9084, v9085, v9086, v9087, v9089, v909, v9091, v9093, v9094, v9095, v9098, v9099, v9100, v9103, v9104, v9106, v9109,
    v9110, v9111, v9112, v9115, v9116, v9119, v912, v9122, v9123, v9124, v9125, v9126, v9127, v9128, v9129, v913, v9130, v9131, v9132, v9135, v9136,
    v9139, v914, v9142, v9143, v9144, v9145, v9146, v9147, v9148, v9149, v915, v9150, v9151, v9152, v9155, v9156, v9159, v916, v9162, v9163, v9164, v9165,
    v9166, v9167, v9168, v9169, v9170, v9171, v9172, v9175, v9176, v9179, v9182, v9183, v9184, v9185, v9186, v9187, v9188, v9189, v919, v9191, v9193,
    v9194, v9196, v9197, v9198, v920, v9201, v9202, v9203, v9204, v9205, v9206, v9209, v921, v9210, v9211, v9212, v9213, v9214, v9217, v9218, v9219, v922,
    v9222, v9223, v9224, v9225, v9226, v9227, v923, v9230, v9231, v9232, v9235, v9236, v9237, v9238, v9239, v9240, v9243, v9244, v9245, v9248, v9249,
    v9250, v9251, v9252, v9253, v9256, v9257, v9258, v926, v9261, v9262, v9263, v9264, v9265, v9266, v9267, v9268, v927, v9271, v9272, v9273, v9276,
    v9277, v928, v9283, v9284, v9285, v9286, v9289, v929, v9290, v9291, v9294, v9295, v9296, v9297, v9298, v9299, v9302, v9303, v9304, v9307, v9308,
    v9309, v931, v9310, v9311, v9312, v9315, v9316, v9317, v9320, v9321, v9322, v9323, v9324, v9325, v9326, v9327, v9329, v933, v9331, v9333, v9334,
    v9335, v9338, v9339, v934, v9340, v9343, v9344, v9346, v9348, v9349, v935, v9350, v9351, v9352, v9355, v9356, v9359, v936, v9362, v9363, v9364, v9365,
    v9366, v9367, v9368, v9369, v937, v9370, v9371, v9372, v9375, v9376, v9379, v938, v9382, v9383, v9384, v9385, v9386, v9387, v9388, v9389, v9390,
    v9391, v9392, v9395, v9396, v9399, v9402, v9403, v9404, v9405, v9406, v9407, v9408, v9409, v941, v9410, v9411, v9414, v9415, v9416, v9419, v942,
    v9420, v9426, v9427, v9428, v9429, v943, v9432, v9433, v9434, v9437, v9438, v944, v9444, v9445, v9446, v9447, v945, v9450, v9451, v9452, v9455, v9456,
    v9457, v9458, v9459, v946, v9460, v9463, v9464, v9465, v9468, v9469, v9470, v9471, v9472, v9473, v9475, v9476, v9479, v9480, v9481, v9484, v9485,
    v949, v9491, v9492, v9493, v9494, v9497, v9498, v9499, v950, v9502, v9503, v9509, v951, v9510, v9511, v9512, v9515, v9516, v9517, v952, v9520, v9521,
    v9522, v9523, v9524, v9525, v9526, v9527, v9529, v953, v9531, v9533, v9534, v9535, v9538, v9539, v9540, v9543, v9544, v9546, v9548, v9549, v9550,
    v9551, v9552, v9555, v9556, v9559, v956, v9562, v9563, v9564, v9565, v9566, v9567, v9568, v9569, v957, v9570, v9571, v9572, v9575, v9576, v9579, v958,
    v9582, v9583, v9584, v9585, v9586, v9587, v9588, v9589, v959, v9591, v9593, v9594, v9596, v9597, v9600, v9601, v9602, v9603, v9604, v9605, v9608,
    v9609, v961, v9610, v9613, v9614, v9620, v9621, v9622, v9623, v9626, v9627, v9628, v963, v9631, v9632, v9638, v9639, v964, v9640, v9641, v9643, v9644,
    v9647, v9648, v9649, v965, v9652, v9653, v9659, v966, v9660, v9661, v9662, v9663, v9664, v9665, v9666, v9667, v9668, v967, v9670, v9671, v9672, v9675,
    v9676, v9677, v968, v9680, v9682, v9683, v9685, v9687, v9688, v9689, v9690, v9693, v9694, v9697, v9700, v9701, v9702, v9703, v9704, v9705, v9706,
    v9707, v9708, v9709, v971, v9710, v9716, v9717, v9718, v972, v9721, v9722, v9724, v9725, v9726, v9729, v973, v9730, v9732, v9733, v9734, v9737, v9738,
    v9739, v974, v9740, v9741, v9742, v9743, v9745, v9746, v975, v9758, v976, v9768, v9769, v9770, v9771, v9772, v9773, v9774, v9775, v9776, v9777, v9778,
    v9779, v9780, v9781, v9782, v9783, v9784, v9785, v9786, v9787, v9788, v9789, v979, v9790, v9791, v9792, v9793, v9794, v9795, v9796, v9797, v9798,
    v9799, v980, v9800, v9801, v9802, v9803, v9804, v9805, v9806, v9807, v9808, v9809, v981, v9810, v9811, v9812, v9813, v9814, v9815, v9816, v9817,
    v9818, v9819, v982, v9820, v9821, v9822, v9823, v9824, v9827, v9828, v9829, v9832, v9833, v9834, v9835, v9836, v9837, v984, v9840, v9841, v9842,
    v9845, v9846, v9847, v9848, v9849, v9850, v9853, v9854, v9855, v9858, v9859, v986, v9860, v9861, v9862, v9863, v9866, v9867, v9868, v987, v9871,
    v9872, v9873, v9874, v9875, v9876, v9877, v9878, v9879, v988, v9880, v9881, v9882, v9884, v9885, v9886, v9889, v989, v9890, v9891, v9894, v9897,
    v9898, v9899, v990, v9900, v9901, v9902, v9903, v9904, v9907, v9910, v9911, v9912, v9913, v9914, v9915, v9916, v9917, v9918, v9919, v9920, v9921,
    v9922, v9923, v9924, v9927, v993, v9930, v9931, v9932, v9933, v9934, v9935, v9936, v9937, v9938, v9939, v994, v9940, v9941, v9942, v9943, v9944,
    v9947, v995, v9950, v9951, v9952, v9953, v9954, v9955, v9956, v9957, v9958, v9959, v996, v9960, v9961, v9962, v9963, v9964, v9967, v997, v9970, v9971,
    v9972, v9973, v9974, v9975, v9976, v9977, v9978, v9979, v998, v9980, v9983, v9984, v9987, v999, v9990, v9991, v9992, v9993, v9994, v9995, v9996,
    v9997, v9998, v9999, cast_ab_1ab, cast_1ab_ab, cast_11ab_ab, cast_ab_11ab, cast_a_1a, cast_same, slice_tl, transpose_tl, truncf_tl, extf_tl,
    readAt_e4m3, readAt_e5m2, readCov_whole, readCov_hit, readCov_skip3, readCov_skip2, readCov_pair, mul_ts, add_bias, far_tile, maxs_step, sums_step,
    nt_step, nn_step, zero_add_tile, zero_add_bcast, sums_all, maxs_all, nt_all, nn_all, red_sum, red_max, red_colSum, red_colMax, mm_nt_512x96_512x96,
    mm_nt_128x96_512x96, mm_nt_128x96_384x96, mm_nt_128x96_256x96, mm_nt_128x96_128x96, mm_nt_256x96_512x96, mm_nt_96x512_256x512, mm_nt_96x256_256x256,
    mm_nn_96x256_256x512, mm_nn_96x256_256x256, ↓sum16_eq, ↓max16_eq, ↓sum8_eq, ↓max8_eq, ↓c4_8_eq, ↓c4_128_eq, ↓c2_128_eq, ↓c2_512_eq, ↓c2_256_eq,
    ↓c2_96_eq, row_all, cat4_8, cat4_128, cat4_zero, cat2_128, cat2_zero, stack_512, stack_256, pad_512, exp_sub, p_dp, p_inv, dp_row, p_ds, inv_row,
    drow_row, mul_scalar, Env.P_van, Env.PDP_van, Env.PN_van, Env.DS_van, hts, hd, hs, hdq, hdk, hdv, pay_q, pay_o, pay_k, Nat.reduceAdd, Nat.reduceMul,
    Nat.reduceSub, Nat.reduceDiv, Nat.reduceMod, Nat.reduceLeDiff, Nat.reduceLT, Nat.reduceEqDiff, Nat.zero_add, Nat.add_zero, eq_self, and_self,
    and_true, true_and, ne_eq, not_true, not_false_iff, true_or, or_true, or_false, false_or, or_self]
end Cert.Attn
-- ==== Proof.Store.lean ====
module
public import proofs.«01_k».proof.Proof.Strips
public import proofs.«01_k».proof.Proof.Gen.KernelIdeal.Frame
public import Idealize.ShloMosaic.Lib.Pipeline.ReadBack
public import Idealize.ShloMosaic.Lib.Pipeline.ValueKit
@[expose] public section
set_option maxRecDepth 100000
noncomputable section
namespace Cert.Attn
open Idealize.ShloMosaic Cert.KernelIdeal Cert.KernelIdeal.Gen Idealize.ShloMosaic.TcCoe Idealize.ShloMosaic.Tactic
/-! # The six strips of a gradient make the whole slab -/

/-- A strip of 512 rows stored at row `o` holds the rows of the slab there. -/
theorem strip (f : ℕ → ℕ → EReal) (o : ℕ) (inb) {v : S1x1x512x96.Idx → EReal} (e : v = tl S1x1x512x96 f o 0) (x : S1x1x512x96.Idx) :
    v x = tl S1x1x3072x96 f 0 0 ((Rect.unit (s := S1x1x3072x96) ![0, 0, o, 0] ![1, 1, 512, 96] inb).emb x) := by
  rw [e]
  show f (o + (x 2).val) (0 + (x 3).val) = f (0 + (o + 1 * (x 2).val)) (0 + (0 + 1 * (x 3).val))
  simp only [Nat.zero_add, Nat.one_mul]
/-- Pieces of one array that cover it leave that array. -/
theorem canon_strips (G : S1x1x3072x96.Idx → EReal) (L : List (View.Piece (Elt Ideal) S1x1x3072x96 .bf16)) (h : View.PiecesOf G L) (y : S1x1x3072x96.Idx)
    (hc : ∃ p ∈ L, y ∈ p.1.set) : View.canon L y = G y := by
  have e := View.canon_append_of_piecesOf (e := .bf16) G [] L h y hc
  rwa [List.append_nil] at e

section
open Cert.KernelIdeal.Gen.kernelRun0_A.sl
variable (c : Dev nD) (i : grid0.Coords) (arg2 : Memref sig .tc .smem S3x24 .f32) (harg2 : arg2.IsWhole) (arg3 : Memref sig .tc .smem S3x24 .f32)
  (harg3 : arg3.IsWhole) (arg4 : Memref sig .tc .smem S3x24 .f32) (harg4 : arg4.IsWhole) (arg5 : Memref sig .tc .smem S3x24 .f32) (harg5 : arg5.IsWhole)
  (arg6 : Memref sig .tc .smem S24x32 .f32) (harg6 : arg6.IsWhole) (arg7 : Memref sig .tc .vmem S1x1x3072x96 .fp8e4m3) (harg7 : arg7.IsWhole) (arg8 :
  Memref sig .tc .vmem S1x1x3072x96 .fp8e4m3) (harg8 : arg8.IsWhole) (arg9 : Memref sig .tc .vmem S1x1x3072x96 .fp8e4m3) (harg9 : arg9.IsWhole) (arg10 :
  Memref sig .tc .vmem S1x1x3072x96 .fp8e5m2) (harg10 : arg10.IsWhole) (arg11 : Memref sig .tc .vmem S1x1x3072x96 .bf16) (harg11 : arg11.IsWhole) (arg12
  : Memref sig .tc .vmem S1x1x3072x96 .bf16) (harg12 : arg12.IsWhole) (arg13 : Memref sig .tc .vmem S1x1x3072x96 .bf16) (harg13 : arg13.IsWhole) (arg14
  : Memref sig .tc .vmem S1x32x128 .f32) (harg14 : arg14.IsWhole) (arg15 : Memref sig .tc .vmem S3x3072x512 .f32) (harg15 : arg15.IsWhole) (arg16 :
  Memref sig .tc .vmem S2x3072x512 .f32) (harg16 : arg16.IsWhole) (arg17 : Memref sig .tc .vmem S96x3072 .f32) (harg17 : arg17.IsWhole) (arg18 : Memref
  sig .tc .vmem S96x3072 .f32) (harg18 : arg18.IsWhole) (arg19 : Memref sig .tc .vmem S96x3072 .bf16) (harg19 : arg19.IsWhole) (arg20 : Memref sig .tc
  .vmem S96x3072 .bf16) (harg20 : arg20.IsWhole) (arg21 : Memref sig .tc .vmem S96x3072 .bf16) (harg21 : arg21.IsWhole) (arg22 : Memref sig .tc .vmem
  S128x256 .f32) (harg22 : arg22.IsWhole) (hc0 : cond0_0 i) (hc1 : ¬cond0_1 i) (x0 : Vec Ideal S3x24 .f32) (x1 : Vec Ideal S3x24 .f32) (x2 : Vec Ideal
  S3x24 .f32) (x3 : Vec Ideal S3x24 .f32) (x4 : Vec Ideal S24x32 .f32) (x5 : Vec Ideal S1x1x3072x96 .fp8e4m3) (x6 : Vec Ideal S1x1x3072x96 .fp8e4m3) (x7
  : Vec Ideal S1x1x3072x96 .fp8e4m3) (x8 : Vec Ideal S1x1x3072x96 .fp8e5m2)

/-- `dq` from its six strips, at the first batch entry of a head. -/
theorem readA9 (f : ℕ → ℕ → EReal)
  (e0 : v14290 (F := Ideal) c i arg2 harg2 arg3 harg3 arg4 harg4 arg5 harg5 arg6 harg6 arg7 harg7 arg8 harg8 arg9 harg9 arg10 harg10 arg15 arg16 arg21
  x0 x1 x2 x3 x4 x5 x6 x7 x8 = tl S1x1x512x96 f 0 0) (e1 : v14029 (F := Ideal) c i arg2 harg2 arg3 harg3 arg4 harg4 arg5 harg5 arg6 harg6 arg7 harg7
  arg8 harg8 arg9 harg9 arg10 harg10 arg15 arg16 arg21 x0 x1 x2 x3 x4 x5 x6 x7 x8 = tl S1x1x512x96 f 512 0) (e2 : v13283 (F := Ideal) c i arg2 harg2
  arg3 harg3 arg4 harg4 arg5 harg5 arg6 harg6 arg7 harg7 arg8 harg8 arg9 harg9 arg10 harg10 arg15 arg16 arg21 x0 x1 x2 x3 x4 x5 x6 x7 x8 = tl
  S1x1x512x96 f 1024 0) (e3 : v11852 (F := Ideal) c i arg2 harg2 arg3 harg3 arg4 harg4 arg5 harg5 arg6 harg6 arg7 harg7 arg8 harg8 arg9 harg9 arg10
  harg10 arg15 arg16 arg21 x0 x1 x2 x3 x4 x5 x6 x7 x8 = tl S1x1x512x96 f 1536 0) (e4 : v9721 (F := Ideal) c i arg2 harg2 arg3 harg3 arg4 harg4 arg5
  harg5 arg6 harg6 arg7 harg7 arg8 harg8 arg9 harg9 arg10 harg10 arg15 arg16 arg21 x0 x1 x2 x3 x4 x5 x6 x7 x8 = tl S1x1x512x96 f 2048 0) (e5 : v6893 (F
  := Ideal) c i arg2 harg2 arg3 harg3 arg4 harg4 arg5 harg5 arg6 harg6 arg7 harg7 arg8 harg8 arg9 harg9 arg10 harg10 arg15 arg16 arg21 x0 x1 x2 x3 x4 x5
  x6 x7 x8 = tl S1x1x512x96 f 2560 0) :
  out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 = tl S1x1x3072x96 f 0 0 := by
  funext y
  unfold out0_A_9
  rw [View.read_writes_junk_eq_canon]
  refine canon_strips (tl S1x1x3072x96 f 0 0) _ ?_ y (cover0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 y)
  unfold kernelRun0_A
  dsimp only
  exact ⟨strip f 0 (by decide) e0, strip f 512 (by decide) e1, strip f 1024 (by decide) e2, strip f 1536 (by decide) e3, strip f 2048 (by decide) e4, strip f 2560 (by decide) e5, trivial⟩

/-- `dk` from its six strips, at the first batch entry of a head. -/
theorem readA10 (f : ℕ → ℕ → EReal)
  (e0 : v14298 (F := Ideal) c i arg2 harg2 arg3 harg3 arg4 harg4 arg5 harg5 arg6 harg6 arg7 harg7 arg8 harg8 arg9 harg9 arg10 harg10 arg15 arg16 arg17
  arg19 x0 x1 x2 x3 x4 x5 x6 x7 x8 = tl S1x1x512x96 f 0 0) (e1 : v14037 (F := Ideal) c i arg2 harg2 arg3 harg3 arg4 harg4 arg5 harg5 arg6 harg6 arg7
  harg7 arg8 harg8 arg9 harg9 arg10 harg10 arg15 arg16 arg17 arg19 x0 x1 x2 x3 x4 x5 x6 x7 x8 = tl S1x1x512x96 f 512 0) (e2 : v13291 (F := Ideal) c i
  arg2 harg2 arg3 harg3 arg4 harg4 arg5 harg5 arg6 harg6 arg7 harg7 arg8 harg8 arg9 harg9 arg10 harg10 arg15 arg16 arg17 arg19 x0 x1 x2 x3 x4 x5 x6 x7
  x8 = tl S1x1x512x96 f 1024 0) (e3 : v11860 (F := Ideal) c i arg2 harg2 arg3 harg3 arg4 harg4 arg5 harg5 arg6 harg6 arg7 harg7 arg8 harg8 arg9 harg9
  arg10 harg10 arg15 arg16 arg17 arg19 x0 x1 x2 x3 x4 x5 x6 x7 x8 = tl S1x1x512x96 f 1536 0) (e4 : v9729 (F := Ideal) c i arg2 harg2 arg3 harg3 arg4
  harg4 arg5 harg5 arg6 harg6 arg7 harg7 arg8 harg8 arg9 harg9 arg10 harg10 arg15 arg16 arg17 arg19 x0 x1 x2 x3 x4 x5 x6 x7 x8 = tl S1x1x512x96 f 2048
  0) (e5 : v6901 (F := Ideal) c i arg2 harg2 arg3 harg3 arg4 harg4 arg5 harg5 arg6 harg6 arg7 harg7 arg8 harg8 arg9 harg9 arg10 harg10 arg15 arg16 arg17
  arg19 x0 x1 x2 x3 x4 x5 x6 x7 x8 = tl S1x1x512x96 f 2560 0) :
  out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 = tl S1x1x3072x96 f 0 0 := by
  funext y
  unfold out0_A_10
  rw [View.read_writes_junk_eq_canon]
  refine canon_strips (tl S1x1x3072x96 f 0 0) _ ?_ y (cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 y)
  unfold kernelRun0_A
  dsimp only
  exact ⟨strip f 0 (by decide) e0, strip f 512 (by decide) e1, strip f 1024 (by decide) e2, strip f 1536 (by decide) e3, strip f 2048 (by decide) e4, strip f 2560 (by decide) e5, trivial⟩

/-- `dv` from its six strips, at the first batch entry of a head. -/
theorem readA11 (f : ℕ → ℕ → EReal)
  (e0 : v14306 (F := Ideal) c i arg2 harg2 arg3 harg3 arg5 harg5 arg6 harg6 arg7 harg7 arg8 harg8 arg10 harg10 arg15 arg18 arg20 x0 x1 x3 x4 x5 x6 x8 =
  tl S1x1x512x96 f 0 0) (e1 : v14045 (F := Ideal) c i arg2 harg2 arg3 harg3 arg5 harg5 arg6 harg6 arg7 harg7 arg8 harg8 arg10 harg10 arg15 arg18 arg20
  x0 x1 x3 x4 x5 x6 x8 = tl S1x1x512x96 f 512 0) (e2 : v13299 (F := Ideal) c i arg2 harg2 arg3 harg3 arg5 harg5 arg6 harg6 arg7 harg7 arg8 harg8 arg10
  harg10 arg15 arg18 arg20 x0 x1 x3 x4 x5 x6 x8 = tl S1x1x512x96 f 1024 0) (e3 : v11868 (F := Ideal) c i arg2 harg2 arg3 harg3 arg5 harg5 arg6 harg6
  arg7 harg7 arg8 harg8 arg10 harg10 arg15 arg18 arg20 x0 x1 x3 x4 x5 x6 x8 = tl S1x1x512x96 f 1536 0) (e4 : v9737 (F := Ideal) c i arg2 harg2 arg3
  harg3 arg5 harg5 arg6 harg6 arg7 harg7 arg8 harg8 arg10 harg10 arg15 arg18 arg20 x0 x1 x3 x4 x5 x6 x8 = tl S1x1x512x96 f 2048 0) (e5 : v6909 (F :=
  Ideal) c i arg2 harg2 arg3 harg3 arg5 harg5 arg6 harg6 arg7 harg7 arg8 harg8 arg10 harg10 arg15 arg18 arg20 x0 x1 x3 x4 x5 x6 x8 = tl S1x1x512x96 f
  2560 0) :
  out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 = tl S1x1x3072x96 f 0 0 := by
  funext y
  unfold out0_A_11
  rw [View.read_writes_junk_eq_canon]
  refine canon_strips (tl S1x1x3072x96 f 0 0) _ ?_ y (cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 y)
  unfold kernelRun0_A
  dsimp only
  exact ⟨strip f 0 (by decide) e0, strip f 512 (by decide) e1, strip f 1024 (by decide) e2, strip f 1536 (by decide) e3, strip f 2048 (by decide) e4, strip f 2560 (by decide) e5, trivial⟩
end

section
open Cert.KernelIdeal.Gen.kernelRun0_B.sl
variable (c : Dev nD) (i : grid0.Coords) (arg2 : Memref sig .tc .smem S3x24 .f32) (harg2 : arg2.IsWhole) (arg3 : Memref sig .tc .smem S3x24 .f32)
  (harg3 : arg3.IsWhole) (arg4 : Memref sig .tc .smem S3x24 .f32) (harg4 : arg4.IsWhole) (arg5 : Memref sig .tc .smem S3x24 .f32) (harg5 : arg5.IsWhole)
  (arg6 : Memref sig .tc .smem S24x32 .f32) (harg6 : arg6.IsWhole) (arg7 : Memref sig .tc .vmem S1x1x3072x96 .fp8e4m3) (harg7 : arg7.IsWhole) (arg8 :
  Memref sig .tc .vmem S1x1x3072x96 .fp8e4m3) (harg8 : arg8.IsWhole) (arg9 : Memref sig .tc .vmem S1x1x3072x96 .fp8e4m3) (harg9 : arg9.IsWhole) (arg10 :
  Memref sig .tc .vmem S1x1x3072x96 .fp8e5m2) (harg10 : arg10.IsWhole) (arg11 : Memref sig .tc .vmem S1x1x3072x96 .bf16) (harg11 : arg11.IsWhole) (arg12
  : Memref sig .tc .vmem S1x1x3072x96 .bf16) (harg12 : arg12.IsWhole) (arg13 : Memref sig .tc .vmem S1x1x3072x96 .bf16) (harg13 : arg13.IsWhole) (arg14
  : Memref sig .tc .vmem S1x32x128 .f32) (harg14 : arg14.IsWhole) (arg15 : Memref sig .tc .vmem S3x3072x512 .f32) (harg15 : arg15.IsWhole) (arg16 :
  Memref sig .tc .vmem S2x3072x512 .f32) (harg16 : arg16.IsWhole) (arg17 : Memref sig .tc .vmem S96x3072 .f32) (harg17 : arg17.IsWhole) (arg18 : Memref
  sig .tc .vmem S96x3072 .f32) (harg18 : arg18.IsWhole) (arg19 : Memref sig .tc .vmem S96x3072 .bf16) (harg19 : arg19.IsWhole) (arg20 : Memref sig .tc
  .vmem S96x3072 .bf16) (harg20 : arg20.IsWhole) (arg21 : Memref sig .tc .vmem S96x3072 .bf16) (harg21 : arg21.IsWhole) (arg22 : Memref sig .tc .vmem
  S128x256 .f32) (harg22 : arg22.IsWhole) (hc0 : ¬cond0_0 i) (hc1 : cond0_1 i) (x0 : Vec Ideal S3x24 .f32) (x1 : Vec Ideal S3x24 .f32) (x2 : Vec Ideal
  S3x24 .f32) (x3 : Vec Ideal S3x24 .f32) (x4 : Vec Ideal S24x32 .f32) (x5 : Vec Ideal S1x1x3072x96 .fp8e4m3) (x6 : Vec Ideal S1x1x3072x96 .fp8e4m3) (x7
  : Vec Ideal S1x1x3072x96 .fp8e4m3) (x8 : Vec Ideal S1x1x3072x96 .fp8e5m2) (x12 : Vec Ideal S1x32x128 .f32)

/-- `dq` from its six strips, at the other batch entries. -/
theorem readB9 (f : ℕ → ℕ → EReal)
  (e0 : v14290 (F := Ideal) c i arg2 harg2 arg3 harg3 arg4 harg4 arg5 harg5 arg6 harg6 arg7 harg7 arg8 harg8 arg9 harg9 arg10 harg10 arg15 arg16 arg21
  x0 x1 x2 x3 x4 x5 x6 x7 x8 = tl S1x1x512x96 f 0 0) (e1 : v14029 (F := Ideal) c i arg2 harg2 arg3 harg3 arg4 harg4 arg5 harg5 arg6 harg6 arg7 harg7
  arg8 harg8 arg9 harg9 arg10 harg10 arg15 arg16 arg21 x0 x1 x2 x3 x4 x5 x6 x7 x8 = tl S1x1x512x96 f 512 0) (e2 : v13283 (F := Ideal) c i arg2 harg2
  arg3 harg3 arg4 harg4 arg5 harg5 arg6 harg6 arg7 harg7 arg8 harg8 arg9 harg9 arg10 harg10 arg15 arg16 arg21 x0 x1 x2 x3 x4 x5 x6 x7 x8 = tl
  S1x1x512x96 f 1024 0) (e3 : v11852 (F := Ideal) c i arg2 harg2 arg3 harg3 arg4 harg4 arg5 harg5 arg6 harg6 arg7 harg7 arg8 harg8 arg9 harg9 arg10
  harg10 arg15 arg16 arg21 x0 x1 x2 x3 x4 x5 x6 x7 x8 = tl S1x1x512x96 f 1536 0) (e4 : v9721 (F := Ideal) c i arg2 harg2 arg3 harg3 arg4 harg4 arg5
  harg5 arg6 harg6 arg7 harg7 arg8 harg8 arg9 harg9 arg10 harg10 arg15 arg16 arg21 x0 x1 x2 x3 x4 x5 x6 x7 x8 = tl S1x1x512x96 f 2048 0) (e5 : v6893 (F
  := Ideal) c i arg2 harg2 arg3 harg3 arg4 harg4 arg5 harg5 arg6 harg6 arg7 harg7 arg8 harg8 arg9 harg9 arg10 harg10 arg15 arg16 arg21 x0 x1 x2 x3 x4 x5
  x6 x7 x8 = tl S1x1x512x96 f 2560 0) :
  out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x12 = tl S1x1x3072x96 f 0 0 := by
  funext y
  unfold out0_B_9
  rw [View.read_writes_junk_eq_canon]
  refine canon_strips (tl S1x1x3072x96 f 0 0) _ ?_ y (cover0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x12 y)
  unfold kernelRun0_B
  dsimp only
  exact ⟨strip f 0 (by decide) e0, strip f 512 (by decide) e1, strip f 1024 (by decide) e2, strip f 1536 (by decide) e3, strip f 2048 (by decide) e4, strip f 2560 (by decide) e5, trivial⟩

/-- `dk` from its six strips, at the other batch entries. -/
theorem readB10 (f : ℕ → ℕ → EReal)
  (e0 : v14298 (F := Ideal) c i arg2 harg2 arg3 harg3 arg4 harg4 arg5 harg5 arg6 harg6 arg7 harg7 arg8 harg8 arg9 harg9 arg10 harg10 arg15 arg16 arg17
  arg19 x0 x1 x2 x3 x4 x5 x6 x7 x8 = tl S1x1x512x96 f 0 0) (e1 : v14037 (F := Ideal) c i arg2 harg2 arg3 harg3 arg4 harg4 arg5 harg5 arg6 harg6 arg7
  harg7 arg8 harg8 arg9 harg9 arg10 harg10 arg15 arg16 arg17 arg19 x0 x1 x2 x3 x4 x5 x6 x7 x8 = tl S1x1x512x96 f 512 0) (e2 : v13291 (F := Ideal) c i
  arg2 harg2 arg3 harg3 arg4 harg4 arg5 harg5 arg6 harg6 arg7 harg7 arg8 harg8 arg9 harg9 arg10 harg10 arg15 arg16 arg17 arg19 x0 x1 x2 x3 x4 x5 x6 x7
  x8 = tl S1x1x512x96 f 1024 0) (e3 : v11860 (F := Ideal) c i arg2 harg2 arg3 harg3 arg4 harg4 arg5 harg5 arg6 harg6 arg7 harg7 arg8 harg8 arg9 harg9
  arg10 harg10 arg15 arg16 arg17 arg19 x0 x1 x2 x3 x4 x5 x6 x7 x8 = tl S1x1x512x96 f 1536 0) (e4 : v9729 (F := Ideal) c i arg2 harg2 arg3 harg3 arg4
  harg4 arg5 harg5 arg6 harg6 arg7 harg7 arg8 harg8 arg9 harg9 arg10 harg10 arg15 arg16 arg17 arg19 x0 x1 x2 x3 x4 x5 x6 x7 x8 = tl S1x1x512x96 f 2048
  0) (e5 : v6901 (F := Ideal) c i arg2 harg2 arg3 harg3 arg4 harg4 arg5 harg5 arg6 harg6 arg7 harg7 arg8 harg8 arg9 harg9 arg10 harg10 arg15 arg16 arg17
  arg19 x0 x1 x2 x3 x4 x5 x6 x7 x8 = tl S1x1x512x96 f 2560 0) :
  out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x12 = tl S1x1x3072x96 f 0 0 := by
  funext y
  unfold out0_B_10
  rw [View.read_writes_junk_eq_canon]
  refine canon_strips (tl S1x1x3072x96 f 0 0) _ ?_ y (cover0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x12 y)
  unfold kernelRun0_B
  dsimp only
  exact ⟨strip f 0 (by decide) e0, strip f 512 (by decide) e1, strip f 1024 (by decide) e2, strip f 1536 (by decide) e3, strip f 2048 (by decide) e4, strip f 2560 (by decide) e5, trivial⟩

/-- `dv` from its six strips, at the other batch entries. -/
theorem readB11 (f : ℕ → ℕ → EReal)
  (e0 : v14306 (F := Ideal) c i arg2 harg2 arg3 harg3 arg5 harg5 arg6 harg6 arg7 harg7 arg8 harg8 arg10 harg10 arg15 arg18 arg20 x0 x1 x3 x4 x5 x6 x8 =
  tl S1x1x512x96 f 0 0) (e1 : v14045 (F := Ideal) c i arg2 harg2 arg3 harg3 arg5 harg5 arg6 harg6 arg7 harg7 arg8 harg8 arg10 harg10 arg15 arg18 arg20
  x0 x1 x3 x4 x5 x6 x8 = tl S1x1x512x96 f 512 0) (e2 : v13299 (F := Ideal) c i arg2 harg2 arg3 harg3 arg5 harg5 arg6 harg6 arg7 harg7 arg8 harg8 arg10
  harg10 arg15 arg18 arg20 x0 x1 x3 x4 x5 x6 x8 = tl S1x1x512x96 f 1024 0) (e3 : v11868 (F := Ideal) c i arg2 harg2 arg3 harg3 arg5 harg5 arg6 harg6
  arg7 harg7 arg8 harg8 arg10 harg10 arg15 arg18 arg20 x0 x1 x3 x4 x5 x6 x8 = tl S1x1x512x96 f 1536 0) (e4 : v9737 (F := Ideal) c i arg2 harg2 arg3
  harg3 arg5 harg5 arg6 harg6 arg7 harg7 arg8 harg8 arg10 harg10 arg15 arg18 arg20 x0 x1 x3 x4 x5 x6 x8 = tl S1x1x512x96 f 2048 0) (e5 : v6909 (F :=
  Ideal) c i arg2 harg2 arg3 harg3 arg5 harg5 arg6 harg6 arg7 harg7 arg8 harg8 arg10 harg10 arg15 arg18 arg20 x0 x1 x3 x4 x5 x6 x8 = tl S1x1x512x96 f
  2560 0) :
  out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x12 = tl S1x1x3072x96 f 0 0 := by
  funext y
  unfold out0_B_11
  rw [View.read_writes_junk_eq_canon]
  refine canon_strips (tl S1x1x3072x96 f 0 0) _ ?_ y (cover0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x12 y)
  unfold kernelRun0_B
  dsimp only
  exact ⟨strip f 0 (by decide) e0, strip f 512 (by decide) e1, strip f 1024 (by decide) e2, strip f 1536 (by decide) e3, strip f 2048 (by decide) e4, strip f 2560 (by decide) e5, trivial⟩
end
end Cert.Attn
-- ==== Proof.Bias.lean ====
module
public import proofs.«01_k».proof.Proof.Pay
@[expose] public section
set_option maxRecDepth 16384
noncomputable section
namespace Cert.Attn
open Idealize.ShloMosaic Cert.KernelIdeal Cert.KernelIdeal.Gen
/-! # The kernel's two bias tiles

The bias of a query and a key depends on the bucket of their distance. The kernel builds the row of biases by distance with one
select per bucket, then rotates row `i` of 128 copies of it by `i` lanes. -/

/-- The bucket of a distance. -/
def bkt (n : ℕ) : ℕ :=
  if 113 ≤ n then 31 else if 99 ≤ n then 30 else if 87 ≤ n then 29 else if 77 ≤ n then 28 else if 67 ≤ n then 27 else if 59 ≤ n then 26 else if 52 ≤ n
  then 25 else if 46 ≤ n then 24 else if 40 ≤ n then 23 else if 35 ≤ n then 22 else if 31 ≤ n then 21 else if 27 ≤ n then 20 else if 24 ≤ n then 19 else
  if 21 ≤ n then 18 else if 19 ≤ n then 17 else if 16 ≤ n then 16 else if 15 ≤ n then 15 else if 14 ≤ n then 14 else if 13 ≤ n then 13 else if 12 ≤ n
  then 12 else if 11 ≤ n then 11 else if 10 ≤ n then 10 else if 9 ≤ n then 9 else if 8 ≤ n then 8 else if 7 ≤ n then 7 else if 6 ≤ n then 6 else if 5 ≤
  n then 5 else if 4 ≤ n then 4 else if 3 ≤ n then 3 else if 2 ≤ n then 2 else if 1 ≤ n then 1 else 0
/-- Distances of 113 and more share the last bucket. -/
theorem bkt_far (n : ℕ) (h : 113 ≤ n) : bkt n = 31 := if_pos h
/-- A choice between two small numbers is small. -/
theorem ite_lt {c : Prop} [Decidable c] {x y : ℕ} (hx : x < 32) (hy : y < 32) : (if c then x else y) < 32 := by
  by_cases h : c
  · rwa [if_pos h]
  · rwa [if_neg h]
/-- There are 32 buckets. -/
theorem bkt_lt (n : ℕ) : bkt n < 32 := by
  unfold bkt
  repeat (first | exact (by decide : (0 : ℕ) < 32) | refine ite_lt (by decide) ?_)

/-- A bias in base two, relative to the last bucket's. -/
def bval (b : ℕ → ℝ) (u : ℕ) : EReal := (((b u - b 31) * (Real.log 2)⁻¹ : ℝ) : EReal)

/-- Comparing small lane numbers. -/
theorem sge_lane (t n : ℕ) (ht : t < 256) (hn : n < 256) :
    IntOp.cmpi .sge (BitVec.ofNat 32 n) (BitVec.ofNat 32 t) = if t ≤ n then 1#1 else 0#1 := by
  have e : (BitVec.ofNat 32 t).sle (BitVec.ofNat 32 n) = decide (t ≤ n) := by
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp only [Nat.cast_le]
  simp only [IntOp.cmpi, e]
  by_cases h : t ≤ n <;> simp [h]
/-- Selecting by a comparison's bit. -/
theorem sel_ite {α : Type} (c : Prop) [Decidable c] (x y : α) : Scalar.select (if c then 1#1 else 0#1) x y = if c then x else y := by
  by_cases h : c
  · rw [if_pos h, if_pos h]; exact if_pos rfl
  · rw [if_neg h, if_neg h]; exact if_neg (by decide)

/-- The named constant is `1 / log 2`. -/
theorem log2e : (Named.named Cert.KernelIdeal.κ "log2e" 0x3FB8AA3B#32 : Ideal .f32) = (((Real.log 2)⁻¹ : ℝ) : EReal) :=
  IdealRules.named_const.ideal_named_scalar _ _ _ _ rfl
/-- The kernel's bias word is the bias less the far bias, in units of `log 2`. -/
theorem bval_eq (b : ℕ → ℝ) (u : ℕ) :
    Scalar.mulf (F := Ideal) (φ := .f32) (Scalar.subf (F := Ideal) (φ := .f32) (b u : EReal) (b 31 : EReal)) (Named.named Cert.KernelIdeal.κ "log2e" 0x3FB8AA3B#32)
      = bval b u := by
  rw [log2e]
  show ((b u : EReal) - (b 31 : EReal)) * _ = _
  rw [← EReal.coe_sub, ← EReal.coe_mul]; rfl

variable [Facts₀]
/-- The lane numbers. -/
def lanes : IVec S8x256 32 := iota .tc S8x256 32 [1] iota_S8x256_d1_w32
/-- The row of biases by distance, before the last two buckets, over the biases `b`. -/
def brow (b : ℕ → ℝ) : FVec Ideal S8x256 .f32 :=
  have B (u : ℕ) : EReal := (b u : EReal)
  k0_pay15 (F := Ideal) lanes (B 31) (k0_pay13 (F := Ideal) lanes (B 31) (k0_pay12 (F := Ideal) lanes (B 31) (k0_pay10 (F := Ideal) lanes (B 31)
    (k0_pay9 (F := Ideal) lanes (B 31) (k0_pay6 (F := Ideal) (B 31) (B 0) (B 1) (B 2)) k0_pay7 (k0_pay8 (F := Ideal) (B 31) (B 3)) (B 4) (B 5) (B 6) (B 7) (B 8)) 9#32 (B 9) (B 10) (B 11) (B 12) (B 13))
    (k0_pay11 lanes) (B 14) (B 15) (B 16) (B 17) (B 18) (B 19)) (B 20) (B 21) (B 22) (B 23) (B 24)) (k0_pay14 lanes) (B 25) (B 26) (B 27) (B 28) (B 29)
/-- Both bias tiles side by side. -/
def brot (b : ℕ → ℝ) : FVec Ideal S128x256 .f32 :=
  k0_pay18 (F := Ideal) lanes (b 31 : EReal) (brow b) (k0_pay16 lanes) (k0_pay17 (F := Ideal) (b 31 : EReal) (b 30 : EReal)) (b 31 : EReal)

/-- The select chain at a lane is the bias of the lane's bucket. -/
theorem brow_apply (b : ℕ → ℝ) (r : Fin 8) (n : Fin 256) :
    Scalar.select (IntOp.cmpi .sge (lanes (ix2 r n)) 113#32) (bval b 31)
      (Scalar.select (IntOp.cmpi .sge (lanes (ix2 r n)) 99#32) (bval b 30) (brow b (ix2 r n))) = bval b (bkt n.val) := by
  have hl : lanes (ix2 r n) = BitVec.ofNat 32 n.val := by
    show BitVec.ofNat 32 (0 * 256 + n.val) = _
    rw [Nat.zero_mul, Nat.zero_add]
  have hn := n.isLt
  have hl' : iota .tc S8x256 32 [1] iota_S8x256_d1_w32 (ix2 r n) = BitVec.ofNat 32 n.val := hl
  simp only [brow, k0_pay6, k0_pay7, k0_pay8, k0_pay9, k0_pay10, k0_pay11, k0_pay12, k0_pay13, k0_pay14, k0_pay15, select, cmpi, broadcast, bval_eq, hl, hl', bkt, apply_ite (bval b)]
  repeat (rw [sge_lane _ _ (by omega) hn, sel_ite]; refine if_congr Iff.rfl rfl ?_)
  rw [sge_lane _ _ (by omega) hn, sel_ite]

/-- The rotated rows: row `i` holds at lane `j` the bias of distance `j - i`. -/
theorem brot_apply (b : ℕ → ℝ) (i : Fin 128) (j : Fin 256) : brot b (ix2 i j) = bval b (bkt ((j.val + 256 - i.val) % 256)) := by
  have hi := i.isLt
  rw [← brow_apply b 0 ⟨(j.val + 256 - i.val) % 256, Nat.mod_lt _ (by decide)⟩]
  unfold brot k0_pay18
  unfold dynamicRotate
  refine (broadcastTo_apply _ _ _ (ix2 (0 : Fin 1) ⟨(j.val + 256 - i.val) % 256, Nat.mod_lt _ (by decide)⟩) (fun a => ?_)).trans ?_
  · match a with
    | ⟨0, _⟩ => rfl
    | ⟨1, _⟩ =>
      show (j.val + 256 - i.val) % 256 = if (256 : ℕ) = 1 then 0 else (j.val + 256 - (0 + 1 * i.val) % 256) % 256
      rw [if_neg (by decide), Nat.zero_add, Nat.one_mul, Nat.mod_eq_of_lt (by omega : i.val < 256)]
  rw [cast_same]
  refine (extractStridedSlice_apply _ _ _ _ (ix2 (0 : Fin 8) ⟨(j.val + 256 - i.val) % 256, Nat.mod_lt _ (by decide)⟩) (fun a => ?_)).trans ?_
  · match a with
    | ⟨0, _⟩ => rfl
    | ⟨1, _⟩ => exact (Nat.zero_add _).symm
  simp only [k0_pay16, k0_pay17, select, cmpi, broadcast, bval_eq]

/-- The tile on the diagonal: `⊥` where the key follows the query. -/
theorem diag_tile (b : ℕ → ℝ) (E : Env) (hE : ∀ n, E.bd n = bval b (bkt n)) :
    k0_pay19 (F := Ideal) lanes (b 31 : EReal) (brow b) (k0_pay16 lanes) (k0_pay17 (F := Ideal) (b 31 : EReal) (b 30 : EReal)) (b 31 : EReal)
      = tl S128x128 E.BD 0 0 := by
  funext x
  obtain ⟨i, j, rfl⟩ : ∃ (i j : Fin 128), x = ix2 i j := ⟨x 0, x 1, ValueIdx.eq_ix2 x⟩
  have hi := i.isLt
  have hj := j.isLt
  unfold k0_pay19
  show Scalar.select (IntOp.cmpi .sle (BitVec.ofNat 32 (0 * 128 + i.val)) (BitVec.ofNat 32 (0 * 128 + j.val)))
    (extractStridedSlice S128x128 ![0, 0] (brot b) slices_S128x256_o0_0_S128x128 (ix2 i j)) (Ideal.ofBits .f32 0xFF800000#32) = E.BD (0 + i.val) (0 + j.val)
  simp only [Nat.zero_mul, Nat.zero_add]
  rw [
    show IntOp.cmpi .sle (BitVec.ofNat 32 i.val) (BitVec.ofNat 32 j.val) = if i.val ≤ j.val then 1#1 else 0#1 from sge_lane i.val j.val (by omega) (by omega),
    sel_ite, extractStridedSlice_apply ![0, 0] (brot b) _ (ix2 i j) (ix2 i ⟨j.val, by omega⟩) (fun a => match a with
      | ⟨0, _⟩ => (Nat.zero_add _).symm
      | ⟨1, _⟩ => (Nat.zero_add _).symm), brot_apply]
  unfold Env.BD
  by_cases h : i.val ≤ j.val
  · rw [if_pos h, if_pos h, hE, show (j.val + 256 - i.val) % 256 = j.val - i.val by omega]
  · rw [if_neg h, if_neg h]
    simp [Ideal.ofBits, Ideal.ieee]
/-- The tile right of the diagonal. -/
theorem sub_tile (b : ℕ → ℝ) (E : Env) (hE : ∀ n, E.bd n = bval b (bkt n)) :
    k0_pay20 (F := Ideal) lanes (b 31 : EReal) (brow b) (k0_pay16 lanes) (k0_pay17 (F := Ideal) (b 31 : EReal) (b 30 : EReal)) (b 31 : EReal)
      = tl S128x128 E.BD 0 128 := by
  funext x
  obtain ⟨i, j, rfl⟩ : ∃ (i j : Fin 128), x = ix2 i j := ⟨x 0, x 1, ValueIdx.eq_ix2 x⟩
  have hi := i.isLt
  have hj := j.isLt
  unfold k0_pay20
  show extractStridedSlice S128x128 ![0, 128] (brot b) slices_S128x256_o0_128_S128x128 (ix2 i j) = E.BD (0 + i.val) (128 + j.val)
  rw [extractStridedSlice_apply ![0, 128] (brot b) _ (ix2 i j) (ix2 i ⟨128 + j.val, by omega⟩) (fun a => match a with
      | ⟨0, _⟩ => (Nat.zero_add _).symm
      | ⟨1, _⟩ => rfl), brot_apply, Nat.zero_add]
  unfold Env.BD
  rw [if_pos (by omega), hE]
  show bval b (bkt ((128 + j.val + 256 - i.val) % 256)) = _
  rw [show (128 + j.val + 256 - i.val) % 256 = 128 + j.val - i.val by omega]
end Cert.Attn
-- ==== Proof.Words.lean ====
module
public import proofs.«01_k».proof.Proof.Bias
public import proofs.«01_k».proof.Proof.Gen.KernelIdeal.Frame
public import Idealize.ShloMosaic.Lib.Pipeline.ValueKit
@[expose] public section
set_option maxRecDepth 100000
noncomputable section
namespace Cert.Attn
open Idealize.ShloMosaic Cert.KernelIdeal Cert.KernelIdeal.Gen Idealize.ShloMosaic.TcCoe Idealize.ShloMosaic.Tactic
/-! # The words the kernel body reads from scalar memory -/

/-- The reference's `1 / sqrt 96` as a 32-bit float. -/
def σ : ℝ := (Ideal.ofBits .f32 0x3DD105EC#32 : EReal).toReal
/-- Its word is that real. -/
theorem σ_eq : (Ideal.ofBits .f32 0x3DD105EC#32 : EReal) = (σ : EReal) := by
  have h : ∃ r : ℝ, (Ideal.ofBits .f32 0x3DD105EC#32 : EReal) = (r : EReal) := ⟨_, by simp [Ideal.ofBits, Ideal.ieee]; rfl⟩
  obtain ⟨r, h⟩ := h
  rw [σ, h, EReal.toReal_coe]
/-- The product of the score scales, in units of `log 2`. -/
theorem scales_mul (x y : ℝ) : Scalar.mulf (F := Ideal) (φ := .f32) (Scalar.mulf (F := Ideal) (φ := .f32) (Scalar.mulf (F := Ideal) (φ := .f32) (Ideal.ofBits .f32 0x3DD105EC#32) (x : EReal)) (y : EReal))
    (((Real.log 2)⁻¹ : ℝ) : EReal) = ((σ * x * y * (Real.log 2)⁻¹ : ℝ) : EReal) := by
  rw [σ_eq]; show (σ : EReal) * x * y * _ = _
  rw [← EReal.coe_mul, ← EReal.coe_mul, ← EReal.coe_mul]
/-- The product of the scales of a gradient. -/
theorem scales_mul' (x y z : ℝ) : Scalar.mulf (F := Ideal) (φ := .f32) (Scalar.mulf (F := Ideal) (φ := .f32) (x : EReal) (y : EReal)) (Scalar.mulf (F := Ideal) (φ := .f32) (Ideal.ofBits .f32 0x3DD105EC#32) (z : EReal))
    = ((x * y * (σ * z) : ℝ) : EReal) := by
  rw [σ_eq]; show (x : EReal) * y * ((σ : EReal) * z) = _
  rw [← EReal.coe_mul, ← EReal.coe_mul, ← EReal.coe_mul]

/-- A load of one word at `(a, b)`. -/
theorem load {n k : ℕ} (m : Memref sig .tc .smem ⟨2, ![n, k]⟩ .f32) (hm : m.IsWhole) (x : Vec Ideal ⟨2, ![n, k]⟩ .f32) (off : Fin 2 → ℕ) (inb) (hp) (a : Fin n) (b : Fin k)
    (h0 : off 0 = a.val) (h1 : off 1 = b.val) :
    View.readAt (Elt Ideal) m.view (Rect.unit (s := ⟨2, ![n, k]⟩) off S1x1.size inb).toLoadRect (hm.unread x) (Shape.Idx.first hp) = x (ix2 a b) := by
  rw [View.readAt_eq_ld, hm.read_unread]
  refine View.ld_unit_apply_of x off _ inb _ (ix2 a b) fun j => ?_
  match j with
  | ⟨0, _⟩ => exact h0.symm
  | ⟨1, _⟩ => exact h1.symm
/-- A load from the bias table. -/
theorem load_bias (m : Memref sig .tc .smem S24x32 .f32) (hm : m.IsWhole) (x : Vec Ideal S24x32 .f32) (i : grid0.Coords) (h : Fin 24) (e : (i 0).val = h.val) (b : ℕ → ℝ)
    (hb : ∀ u : Fin 32, x (ix2 h u) = (b u.val : EReal)) (off : Fin 2 → ℕ) (inb) (hp) (u : Fin 32) (hu : off = ![(i 0).val, u.val]) :
    View.readAt (Elt Ideal) m.view (Rect.unit (s := S24x32) off S1x1.size inb).toLoadRect (hm.unread x) (Shape.Idx.first hp) = (b u.val : EReal) :=
  (load m hm x off inb hp h u ((congrFun hu 0).trans e) (congrFun hu 1)).trans (hb u)

section
open Cert.KernelIdeal.Gen.kernelRun0_A.sl
/-- The bias tile on the diagonal, at the first batch entry of a head. -/
theorem diagA (m : Memref sig .tc .smem S24x32 .f32) (hm : m.IsWhole) (x : Vec Ideal S24x32 .f32) (c : Dev nD) (i : grid0.Coords) (h : Fin 24) (e : (i 0).val = h.val)
    (b : ℕ → ℝ) (hb : ∀ u : Fin 32, x (ix2 h u) = (b u.val : EReal)) (E : Env) (hE : ∀ n, E.bd n = bval b (bkt n)) :
    r_46 (F := Ideal) c i m hm x = tl S128x128 E.BD 0 0 ∧ r_47 (F := Ideal) c i m hm x = tl S128x128 E.BD 0 128 := by
  have h := fun off inb hp u hu => load_bias m hm x i h e b hb off inb hp u hu
  rw [← diag_tile b E hE, ← sub_tile b E hE]
  constructor
  · simp only [r_47, r_46, r_45, r_44, r_43, r_42, r_41, r_40, r_39, r_38, r_37, r_36, r_35, r_34, r_33, r_32, r_31, r_30, r_29, r_28, r_27, r_26, r_25, r_24, r_23, r_22, r_21, r_20, r_19, r_18, r_17, r_16, r_15, r_14, r_13, r_12, r_11, r_8, r_7, r_6, r_5, r_4, h _ _ _ 31 (k0_off2_eq i), h _ _ _ 0 (k0_off3_eq i), h _ _ _ 1 (k0_off4_eq i), h _ _ _ 2 (k0_off5_eq i), h _ _ _ 3 (k0_off6_eq i), h _ _ _ 4 (k0_off7_eq i), h _ _ _ 5 (k0_off8_eq i), h _ _ _ 6 (k0_off9_eq i), h _ _ _ 7 (k0_off10_eq i), h _ _ _ 8 (k0_off11_eq i), h _ _ _ 9 (k0_off12_eq i), h _ _ _ 10 (k0_off13_eq i), h _ _ _ 11 (k0_off14_eq i), h _ _ _ 12 (k0_off15_eq i), h _ _ _ 13 (k0_off16_eq i), h _ _ _ 14 (k0_off17_eq i), h _ _ _ 15 (k0_off18_eq i), h _ _ _ 16 (k0_off19_eq i), h _ _ _ 17 (k0_off20_eq i), h _ _ _ 18 (k0_off21_eq i), h _ _ _ 19 (k0_off22_eq i), h _ _ _ 20 (k0_off23_eq i), h _ _ _ 21 (k0_off24_eq i), h _ _ _ 22 (k0_off25_eq i), h _ _ _ 23 (k0_off26_eq i), h _ _ _ 24 (k0_off27_eq i), h _ _ _ 25 (k0_off28_eq i), h _ _ _ 26 (k0_off29_eq i), h _ _ _ 27 (k0_off30_eq i), h _ _ _ 28 (k0_off31_eq i), h _ _ _ 29 (k0_off32_eq i), h _ _ _ 30 (k0_off33_eq i)]
    rfl
  · simp only [r_47, r_46, r_45, r_44, r_43, r_42, r_41, r_40, r_39, r_38, r_37, r_36, r_35, r_34, r_33, r_32, r_31, r_30, r_29, r_28, r_27, r_26, r_25, r_24, r_23, r_22, r_21, r_20, r_19, r_18, r_17, r_16, r_15, r_14, r_13, r_12, r_11, r_8, r_7, r_6, r_5, r_4, h _ _ _ 31 (k0_off2_eq i), h _ _ _ 0 (k0_off3_eq i), h _ _ _ 1 (k0_off4_eq i), h _ _ _ 2 (k0_off5_eq i), h _ _ _ 3 (k0_off6_eq i), h _ _ _ 4 (k0_off7_eq i), h _ _ _ 5 (k0_off8_eq i), h _ _ _ 6 (k0_off9_eq i), h _ _ _ 7 (k0_off10_eq i), h _ _ _ 8 (k0_off11_eq i), h _ _ _ 9 (k0_off12_eq i), h _ _ _ 10 (k0_off13_eq i), h _ _ _ 11 (k0_off14_eq i), h _ _ _ 12 (k0_off15_eq i), h _ _ _ 13 (k0_off16_eq i), h _ _ _ 14 (k0_off17_eq i), h _ _ _ 15 (k0_off18_eq i), h _ _ _ 16 (k0_off19_eq i), h _ _ _ 17 (k0_off20_eq i), h _ _ _ 18 (k0_off21_eq i), h _ _ _ 19 (k0_off22_eq i), h _ _ _ 20 (k0_off23_eq i), h _ _ _ 21 (k0_off24_eq i), h _ _ _ 22 (k0_off25_eq i), h _ _ _ 23 (k0_off26_eq i), h _ _ _ 24 (k0_off27_eq i), h _ _ _ 25 (k0_off28_eq i), h _ _ _ 26 (k0_off29_eq i), h _ _ _ 27 (k0_off30_eq i), h _ _ _ 28 (k0_off31_eq i), h _ _ _ 29 (k0_off32_eq i), h _ _ _ 30 (k0_off33_eq i)]
    rfl
/-- The score scale and the three output scales. -/
theorem scalesA (c : Dev nD) (i : grid0.Coords) (m0 m1 m2 m3 : Memref sig .tc .smem S3x24 .f32) (h0 : m0.IsWhole) (h1 : m1.IsWhole) (h2 : m2.IsWhole) (h3 : m3.IsWhole)
    (x0 x1 x2 x3 : Vec Ideal S3x24 .f32) (b : Fin 3) (h : Fin 24) (e0 : (i 0).val = h.val) (e1 : (i 1).val = b.val) (sq sk sv so : ℝ)
    (hq : x0 (ix2 b h) = (sq : EReal)) (hk : x1 (ix2 b h) = (sk : EReal)) (hv : x2 (ix2 b h) = (sv : EReal)) (ho : x3 (ix2 b h) = (so : EReal)) :
    r_9 (F := Ideal) c i m0 h0 m1 h1 x0 x1 = ((σ * sq * sk * (Real.log 2)⁻¹ : ℝ) : EReal)
      ∧ v6884 (F := Ideal) c i m1 h1 m2 h2 m3 h3 x1 x2 x3 = ((so * sv * (σ * sk) : ℝ) : EReal)
      ∧ v6886 (F := Ideal) c i m0 h0 m2 h2 m3 h3 x0 x2 x3 = ((so * sv * (σ * sq) : ℝ) : EReal)
      ∧ r_3 (F := Ideal) c i m3 h3 x3 = (so : EReal) := by
  have l (m : Memref sig .tc .smem S3x24 .f32) (hm : m.IsWhole) (x : Vec Ideal S3x24 .f32) inb hp :
      View.readAt (Elt Ideal) m.view (Rect.unit (s := S3x24) (k0_off1 i) S1x1.size inb).toLoadRect (hm.unread x) (Shape.Idx.first hp) = x (ix2 b h) :=
    load m hm x _ inb hp b h ((congrFun (k0_off1_eq i) 0).trans e1) ((congrFun (k0_off1_eq i) 1).trans e0)
  refine ⟨?_, ?_, ?_, ?_⟩
  · simp only [r_9, r, r_1, l, k0_pay4, hq, hk, log2e]
    exact scales_mul sq sk
  · simp only [v6884, r_10, v6883, r_1, r_2, r_3, l, k0_pay5, hv, hk, ho, cst_3831]
    exact scales_mul' so sv sk
  · simp only [v6886, r_10, v6885, r, r_2, r_3, l, k0_pay5, hv, hq, ho, cst_3831]
    exact scales_mul' so sv sq
  · simp only [r_3, l, ho]
end

section
open Cert.KernelIdeal.Gen.kernelRun0_B.sl
/-- The bias tile on the diagonal, at the other batch entries. -/
theorem diagB (m : Memref sig .tc .smem S24x32 .f32) (hm : m.IsWhole) (x : Vec Ideal S24x32 .f32) (c : Dev nD) (i : grid0.Coords) (h : Fin 24) (e : (i 0).val = h.val)
    (b : ℕ → ℝ) (hb : ∀ u : Fin 32, x (ix2 h u) = (b u.val : EReal)) (E : Env) (hE : ∀ n, E.bd n = bval b (bkt n)) :
    r_46 (F := Ideal) c i m hm x = tl S128x128 E.BD 0 0 ∧ r_47 (F := Ideal) c i m hm x = tl S128x128 E.BD 0 128 := by
  have h := fun off inb hp u hu => load_bias m hm x i h e b hb off inb hp u hu
  rw [← diag_tile b E hE, ← sub_tile b E hE]
  constructor
  · simp only [r_47, r_46, r_45, r_44, r_43, r_42, r_41, r_40, r_39, r_38, r_37, r_36, r_35, r_34, r_33, r_32, r_31, r_30, r_29, r_28, r_27, r_26, r_25, r_24, r_23, r_22, r_21, r_20, r_19, r_18, r_17, r_16, r_15, r_14, r_13, r_12, r_11, r_8, r_7, r_6, r_5, r_4, h _ _ _ 31 (k0_off2_eq i), h _ _ _ 0 (k0_off3_eq i), h _ _ _ 1 (k0_off4_eq i), h _ _ _ 2 (k0_off5_eq i), h _ _ _ 3 (k0_off6_eq i), h _ _ _ 4 (k0_off7_eq i), h _ _ _ 5 (k0_off8_eq i), h _ _ _ 6 (k0_off9_eq i), h _ _ _ 7 (k0_off10_eq i), h _ _ _ 8 (k0_off11_eq i), h _ _ _ 9 (k0_off12_eq i), h _ _ _ 10 (k0_off13_eq i), h _ _ _ 11 (k0_off14_eq i), h _ _ _ 12 (k0_off15_eq i), h _ _ _ 13 (k0_off16_eq i), h _ _ _ 14 (k0_off17_eq i), h _ _ _ 15 (k0_off18_eq i), h _ _ _ 16 (k0_off19_eq i), h _ _ _ 17 (k0_off20_eq i), h _ _ _ 18 (k0_off21_eq i), h _ _ _ 19 (k0_off22_eq i), h _ _ _ 20 (k0_off23_eq i), h _ _ _ 21 (k0_off24_eq i), h _ _ _ 22 (k0_off25_eq i), h _ _ _ 23 (k0_off26_eq i), h _ _ _ 24 (k0_off27_eq i), h _ _ _ 25 (k0_off28_eq i), h _ _ _ 26 (k0_off29_eq i), h _ _ _ 27 (k0_off30_eq i), h _ _ _ 28 (k0_off31_eq i), h _ _ _ 29 (k0_off32_eq i), h _ _ _ 30 (k0_off33_eq i)]
    rfl
  · simp only [r_47, r_46, r_45, r_44, r_43, r_42, r_41, r_40, r_39, r_38, r_37, r_36, r_35, r_34, r_33, r_32, r_31, r_30, r_29, r_28, r_27, r_26, r_25, r_24, r_23, r_22, r_21, r_20, r_19, r_18, r_17, r_16, r_15, r_14, r_13, r_12, r_11, r_8, r_7, r_6, r_5, r_4, h _ _ _ 31 (k0_off2_eq i), h _ _ _ 0 (k0_off3_eq i), h _ _ _ 1 (k0_off4_eq i), h _ _ _ 2 (k0_off5_eq i), h _ _ _ 3 (k0_off6_eq i), h _ _ _ 4 (k0_off7_eq i), h _ _ _ 5 (k0_off8_eq i), h _ _ _ 6 (k0_off9_eq i), h _ _ _ 7 (k0_off10_eq i), h _ _ _ 8 (k0_off11_eq i), h _ _ _ 9 (k0_off12_eq i), h _ _ _ 10 (k0_off13_eq i), h _ _ _ 11 (k0_off14_eq i), h _ _ _ 12 (k0_off15_eq i), h _ _ _ 13 (k0_off16_eq i), h _ _ _ 14 (k0_off17_eq i), h _ _ _ 15 (k0_off18_eq i), h _ _ _ 16 (k0_off19_eq i), h _ _ _ 17 (k0_off20_eq i), h _ _ _ 18 (k0_off21_eq i), h _ _ _ 19 (k0_off22_eq i), h _ _ _ 20 (k0_off23_eq i), h _ _ _ 21 (k0_off24_eq i), h _ _ _ 22 (k0_off25_eq i), h _ _ _ 23 (k0_off26_eq i), h _ _ _ 24 (k0_off27_eq i), h _ _ _ 25 (k0_off28_eq i), h _ _ _ 26 (k0_off29_eq i), h _ _ _ 27 (k0_off30_eq i), h _ _ _ 28 (k0_off31_eq i), h _ _ _ 29 (k0_off32_eq i), h _ _ _ 30 (k0_off33_eq i)]
    rfl
/-- The score scale and the three output scales. -/
theorem scalesB (c : Dev nD) (i : grid0.Coords) (m0 m1 m2 m3 : Memref sig .tc .smem S3x24 .f32) (h0 : m0.IsWhole) (h1 : m1.IsWhole) (h2 : m2.IsWhole) (h3 : m3.IsWhole)
    (x0 x1 x2 x3 : Vec Ideal S3x24 .f32) (b : Fin 3) (h : Fin 24) (e0 : (i 0).val = h.val) (e1 : (i 1).val = b.val) (sq sk sv so : ℝ)
    (hq : x0 (ix2 b h) = (sq : EReal)) (hk : x1 (ix2 b h) = (sk : EReal)) (hv : x2 (ix2 b h) = (sv : EReal)) (ho : x3 (ix2 b h) = (so : EReal)) :
    r_9 (F := Ideal) c i m0 h0 m1 h1 x0 x1 = ((σ * sq * sk * (Real.log 2)⁻¹ : ℝ) : EReal)
      ∧ v6884 (F := Ideal) c i m1 h1 m2 h2 m3 h3 x1 x2 x3 = ((so * sv * (σ * sk) : ℝ) : EReal)
      ∧ v6886 (F := Ideal) c i m0 h0 m2 h2 m3 h3 x0 x2 x3 = ((so * sv * (σ * sq) : ℝ) : EReal)
      ∧ r_3 (F := Ideal) c i m3 h3 x3 = (so : EReal) := by
  have l (m : Memref sig .tc .smem S3x24 .f32) (hm : m.IsWhole) (x : Vec Ideal S3x24 .f32) inb hp :
      View.readAt (Elt Ideal) m.view (Rect.unit (s := S3x24) (k0_off1 i) S1x1.size inb).toLoadRect (hm.unread x) (Shape.Idx.first hp) = x (ix2 b h) :=
    load m hm x _ inb hp b h ((congrFun (k0_off1_eq i) 0).trans e1) ((congrFun (k0_off1_eq i) 1).trans e0)
  refine ⟨?_, ?_, ?_, ?_⟩
  · simp only [r_9, r, r_1, l, k0_pay4, hq, hk, log2e]
    exact scales_mul sq sk
  · simp only [v6884, r_10, v6883, r_1, r_2, r_3, l, k0_pay5, hv, hk, ho, cst_3831]
    exact scales_mul' so sv sk
  · simp only [v6886, r_10, v6885, r, r_2, r_3, l, k0_pay5, hv, hq, ho, cst_3831]
    exact scales_mul' so sv sq
  · simp only [r_3, l, ho]
end
end Cert.Attn
-- ==== Proof.Heads.lean ====
module
public import proofs.«01_k».proof.Proof.Words
@[expose] public section
set_option maxRecDepth 16384
noncomputable section
namespace Cert.Attn
open Idealize.ShloMosaic Cert.KernelIdeal Cert.KernelIdeal.Gen Idealize.ShloMosaic.TcCoe Idealize.ShloMosaic.Tactic
/-! # One head of the arguments, and the blocks a grid point sees of it -/

/-- The arguments: four arrays of codes, the scales of each head as reals, and the bias table as reals. -/
structure Args where
  xq : S3x3072x24x96.Idx → EReal
  xk : S3x3072x24x96.Idx → EReal
  xv : S3x3072x24x96.Idx → EReal
  xo : S3x3072x24x96.Idx → EReal
  sq : Fin 3 → Fin 24 → ℝ
  sk : Fin 3 → Fin 24 → ℝ
  sv : Fin 3 → Fin 24 → ℝ
  so : Fin 3 → Fin 24 → ℝ
  bb : Fin 24 → ℕ → ℝ

/-- One head's matrix of codes, zero outside the array. -/
def mat (x : S3x3072x24x96.Idx → EReal) (b : Fin 3) (h : Fin 24) (n d : ℕ) : EReal :=
  if hh : n < 3072 ∧ d < 96 then x (ix4 b ⟨n, hh.1⟩ h ⟨d, hh.2⟩) else 0
/-- An entry of a head's matrix inside the array. -/
theorem mat_apply (x : S3x3072x24x96.Idx → EReal) (b : Fin 3) (h : Fin 24) (n : Fin 3072) (d : Fin 96) : mat x b h n d = x (ix4 b n h d) :=
  dif_pos ⟨n.isLt, d.isLt⟩

/-- The head `(b, h)` of the arguments, with the scales as the kernel combines them. -/
def Args.env (A : Args) (b : Fin 3) (h : Fin 24) : Env where
  K := mat A.xk b h
  Q := mat A.xq b h
  V := mat A.xv b h
  O := mat A.xo b h
  ts := ((σ * A.sq b h * A.sk b h * (Real.log 2)⁻¹ : ℝ) : EReal)
  dqs := ((A.so b h * A.sv b h * (σ * A.sk b h) : ℝ) : EReal)
  dks := ((A.so b h * A.sv b h * (σ * A.sq b h) : ℝ) : EReal)
  dvs := (A.so b h : EReal)
  bd n := bval (A.bb h) (bkt n)
  far n hn := by
    show bval (A.bb h) (bkt n) = 0
    rw [bkt_far n hn, bval, sub_self, zero_mul, EReal.coe_zero]

variable (m : (ℓ : Loc nD τ sig) → Buf (Elt Ideal) ℓ) (c : Dev nD)
/-- The memory `m` holds the arguments `A` on device `c`. -/
structure Holds (A : Args) : Prop where
  hQ : m ((c : Thread nD τ).loc main_arg0) = A.xq
  hK : m ((c : Thread nD τ).loc main_arg1) = A.xk
  hV : m ((c : Thread nD τ).loc main_arg2) = A.xv
  hO : m ((c : Thread nD τ).loc main_arg6) = A.xo
  hq : ∀ (b : Fin 3) (h : Fin 24), (m ((c : Thread nD τ).loc main_arg3) : S3x24.Idx → EReal) (ix2 b h) = (A.sq b h : EReal)
  hk : ∀ (b : Fin 3) (h : Fin 24), (m ((c : Thread nD τ).loc main_arg4) : S3x24.Idx → EReal) (ix2 b h) = (A.sk b h : EReal)
  hv : ∀ (b : Fin 3) (h : Fin 24), (m ((c : Thread nD τ).loc main_arg5) : S3x24.Idx → EReal) (ix2 b h) = (A.sv b h : EReal)
  ho : ∀ (b : Fin 3) (h : Fin 24), (m ((c : Thread nD τ).loc main_arg7) : S3x24.Idx → EReal) (ix2 b h) = (A.so b h : EReal)
  hb : ∀ (h : Fin 24) (u : Fin 32), (m ((c : Thread nD τ).loc main_arg8) : S24x32.Idx → EReal) (ix2 h u) = (A.bb h u.val : EReal)

/-- Where each window's block lies. -/
theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![(grid0.coords t 1).val, (grid0.coords t 0).val, 0, 0] ∧ win0_6.index t = ![(grid0.coords t 1).val, (grid0.coords t 0).val, 0, 0]
    ∧ win0_7.index t = ![(grid0.coords t 1).val, (grid0.coords t 0).val, 0, 0] ∧ win0_8.index t = ![(grid0.coords t 1).val, (grid0.coords t 0).val, 0, 0]
    ∧ win0_9.index t = ![(grid0.coords t 1).val, (grid0.coords t 0).val, 0, 0] ∧ win0_10.index t = ![(grid0.coords t 1).val, (grid0.coords t 0).val, 0, 0]
    ∧ win0_11.index t = ![(grid0.coords t 1).val, (grid0.coords t 0).val, 0, 0] :=
  (by decide +kernel : ∀ t : Fin grid0.N, _)

/-- The scale words and the bias table are staged whole. -/
theorem iblk0 (t : Fin cfg0.N) (x : S3x24.Idx) : (iblk m c 0 t : S3x24.Idx → EReal) x = (m ((c : Thread nD τ).loc main_arg3) : S3x24.Idx → EReal) x := by
  blk_ext [iblk, V, idx t]
/-- This scale or bias array is staged whole. -/
theorem iblk1 (t : Fin cfg0.N) (x : S3x24.Idx) : (iblk m c 1 t : S3x24.Idx → EReal) x = (m ((c : Thread nD τ).loc main_arg4) : S3x24.Idx → EReal) x := by
  blk_ext [iblk, V, idx t]
/-- This scale or bias array is staged whole. -/
theorem iblk2 (t : Fin cfg0.N) (x : S3x24.Idx) : (iblk m c 2 t : S3x24.Idx → EReal) x = (m ((c : Thread nD τ).loc main_arg5) : S3x24.Idx → EReal) x := by
  blk_ext [iblk, V, idx t]
/-- This scale or bias array is staged whole. -/
theorem iblk3 (t : Fin cfg0.N) (x : S3x24.Idx) : (iblk m c 3 t : S3x24.Idx → EReal) x = (m ((c : Thread nD τ).loc main_arg7) : S3x24.Idx → EReal) x := by
  blk_ext [iblk, V, idx t]
/-- This scale or bias array is staged whole. -/
theorem iblk4 (t : Fin cfg0.N) (x : S24x32.Idx) : (iblk m c 4 t : S24x32.Idx → EReal) x = (m ((c : Thread nD τ).loc main_arg8) : S24x32.Idx → EReal) x := by
  blk_ext [iblk, V, idx t]

/-- An entry of a slab of a head. -/
theorem tl_mat (x : S3x3072x24x96.Idx → EReal) (b : Fin 3) (h : Fin 24) (y : S1x1x3072x96.Idx) :
    tl S1x1x3072x96 (mat x b h) 0 0 y = x (ix4 b (y 2) h (y 3)) := by
  show mat x b h (0 + (y 2).val) (0 + (y 3).val) = _
  rw [Nat.zero_add, Nat.zero_add]
  exact mat_apply x b h (y 2) (y 3)
/-- An entry of an array with its second and third axes exchanged. -/
theorem slab (x : S3x3072x24x96.Idx → EReal) (b : Fin 3) (h : Fin 24) (y : S1x1x3072x96.Idx) (hp) (e : S3x24x3072x96.Idx) (h0 : (e 0).val = b.val)
    (h1 : (e 1).val = h.val) (h2 : (e 2).val = (y 2).val) (h3 : (e 3).val = (y 3).val) :
    transpose S3x24x3072x96 [0, 2, 1, 3] x hp e = x (ix4 b (y 2) h (y 3)) := by
  refine transpose_apply _ _ _ _ _ fun a => ?_
  match a with
  | ⟨0, _⟩ => exact h0.symm
  | ⟨1, _⟩ => exact h1.symm
  | ⟨2, _⟩ => exact h2.symm
  | ⟨3, _⟩ => exact h3.symm
/-- The slab of window 5 is one head's matrix of codes. -/
theorem iblk5 (t : Fin cfg0.N) (b : Fin 3) (h : Fin 24) (eb : (grid0.coords t 1).val = b.val) (eh : (grid0.coords t 0).val = h.val) :
    (iblk m c 5 t : S1x1x3072x96.Idx → EReal) = tl S1x1x3072x96 (mat (m ((c : Thread nD τ).loc main_arg0) : S3x3072x24x96.Idx → EReal) b h) 0 0 := by
  funext y
  rw [tl_mat]
  blk_simp [iblk]
  entry_read
  refine slab _ b h y _ _ ?_ ?_ ?_ ?_ <;> blk_simp [idx t]
  · exact eb
  · exact eh
/-- The slab of window 6 is one head's matrix of codes. -/
theorem iblk6 (t : Fin cfg0.N) (b : Fin 3) (h : Fin 24) (eb : (grid0.coords t 1).val = b.val) (eh : (grid0.coords t 0).val = h.val) :
    (iblk m c 6 t : S1x1x3072x96.Idx → EReal) = tl S1x1x3072x96 (mat (m ((c : Thread nD τ).loc main_arg1) : S3x3072x24x96.Idx → EReal) b h) 0 0 := by
  funext y
  rw [tl_mat]
  blk_simp [iblk]
  entry_read
  refine slab _ b h y _ _ ?_ ?_ ?_ ?_ <;> blk_simp [idx t]
  · exact eb
  · exact eh
/-- The slab of window 7 is one head's matrix of codes. -/
theorem iblk7 (t : Fin cfg0.N) (b : Fin 3) (h : Fin 24) (eb : (grid0.coords t 1).val = b.val) (eh : (grid0.coords t 0).val = h.val) :
    (iblk m c 7 t : S1x1x3072x96.Idx → EReal) = tl S1x1x3072x96 (mat (m ((c : Thread nD τ).loc main_arg2) : S3x3072x24x96.Idx → EReal) b h) 0 0 := by
  funext y
  rw [tl_mat]
  blk_simp [iblk]
  entry_read
  refine slab _ b h y _ _ ?_ ?_ ?_ ?_ <;> blk_simp [idx t]
  · exact eb
  · exact eh
/-- The slab of window 8 is one head's matrix of codes. -/
theorem iblk8 (t : Fin cfg0.N) (b : Fin 3) (h : Fin 24) (eb : (grid0.coords t 1).val = b.val) (eh : (grid0.coords t 0).val = h.val) :
    (iblk m c 8 t : S1x1x3072x96.Idx → EReal) = tl S1x1x3072x96 (mat (m ((c : Thread nD τ).loc main_arg6) : S3x3072x24x96.Idx → EReal) b h) 0 0 := by
  funext y
  rw [tl_mat]
  blk_simp [iblk]
  entry_read
  refine slab _ b h y _ _ ?_ ?_ ?_ ?_ <;> blk_simp [idx t]
  · exact eb
  · exact eh
end Cert.Attn
-- ==== Proof.Kern.lean ====
module
public import proofs.«01_k».proof.Proof.OutA
public import proofs.«01_k».proof.Proof.OutB
public import proofs.«01_k».proof.Proof.Store
public import proofs.«01_k».proof.Proof.Heads
public import proofs.«01_k».proof.Proof.Gen.KernelIdeal.Value
@[expose] public section
set_option maxRecDepth 16384
noncomputable section
namespace Cert.Attn
open Idealize.ShloMosaic Cert.KernelIdeal Cert.KernelIdeal.Gen Idealize.ShloMosaic.TcCoe Idealize.ShloMosaic.Tactic
/-! # The kernel's three gradient arrays after the run -/

/-- The gradients of one head. -/
def Env.dq (E : Env) : ℕ → ℕ → EReal := tr (sc (nnF (tr E.K) E.DS) E.dqs)
/-- The head's dk. -/
def Env.dk (E : Env) : ℕ → ℕ → EReal := tr (sc (ntF (tr E.Q) E.DS) E.dks)
/-- The head's dv. -/
def Env.dv (E : Env) : ℕ → ℕ → EReal := tr (sc (ntF (tr E.O) E.PN) E.dvs)

section
open Cert.KernelIdeal.Gen.kernelRun0_A.sl
variable (c : Dev nD) (i : grid0.Coords) (arg2 : Memref sig .tc .smem S3x24 .f32) (harg2 : arg2.IsWhole) (arg3 : Memref sig .tc .smem S3x24 .f32)
  (harg3 : arg3.IsWhole) (arg4 : Memref sig .tc .smem S3x24 .f32) (harg4 : arg4.IsWhole) (arg5 : Memref sig .tc .smem S3x24 .f32) (harg5 : arg5.IsWhole)
  (arg6 : Memref sig .tc .smem S24x32 .f32) (harg6 : arg6.IsWhole) (arg7 : Memref sig .tc .vmem S1x1x3072x96 .fp8e4m3) (harg7 : arg7.IsWhole) (arg8 :
  Memref sig .tc .vmem S1x1x3072x96 .fp8e4m3) (harg8 : arg8.IsWhole) (arg9 : Memref sig .tc .vmem S1x1x3072x96 .fp8e4m3) (harg9 : arg9.IsWhole) (arg10 :
  Memref sig .tc .vmem S1x1x3072x96 .fp8e5m2) (harg10 : arg10.IsWhole) (arg11 : Memref sig .tc .vmem S1x1x3072x96 .bf16) (harg11 : arg11.IsWhole) (arg12
  : Memref sig .tc .vmem S1x1x3072x96 .bf16) (harg12 : arg12.IsWhole) (arg13 : Memref sig .tc .vmem S1x1x3072x96 .bf16) (harg13 : arg13.IsWhole) (arg14
  : Memref sig .tc .vmem S1x32x128 .f32) (harg14 : arg14.IsWhole) (arg15 : Memref sig .tc .vmem S3x3072x512 .f32) (harg15 : arg15.IsWhole) (arg16 :
  Memref sig .tc .vmem S2x3072x512 .f32) (harg16 : arg16.IsWhole) (arg17 : Memref sig .tc .vmem S96x3072 .f32) (harg17 : arg17.IsWhole) (arg18 : Memref
  sig .tc .vmem S96x3072 .f32) (harg18 : arg18.IsWhole) (arg19 : Memref sig .tc .vmem S96x3072 .bf16) (harg19 : arg19.IsWhole) (arg20 : Memref sig .tc
  .vmem S96x3072 .bf16) (harg20 : arg20.IsWhole) (arg21 : Memref sig .tc .vmem S96x3072 .bf16) (harg21 : arg21.IsWhole) (arg22 : Memref sig .tc .vmem
  S128x256 .f32) (harg22 : arg22.IsWhole) (hc0 : cond0_0 i) (hc1 : ¬cond0_1 i) (x0 : Vec Ideal S3x24 .f32) (x1 : Vec Ideal S3x24 .f32) (x2 : Vec Ideal
  S3x24 .f32) (x3 : Vec Ideal S3x24 .f32) (x4 : Vec Ideal S24x32 .f32) (x5 : Vec Ideal S1x1x3072x96 .fp8e4m3) (x6 : Vec Ideal S1x1x3072x96 .fp8e4m3) (x7
  : Vec Ideal S1x1x3072x96 .fp8e4m3) (x8 : Vec Ideal S1x1x3072x96 .fp8e5m2)
/-- What a grid point leaves in the three blocks, at the first batch entry of a head. -/
theorem pointA (E : Env)
  (hts : r_9 (F := Ideal) c i arg2 harg2 arg3 harg3 x0 x1 = E.ts) (hb : r_46 (F := Ideal) c i arg6 harg6 x4 = tl S128x128 E.BD 0 0 ∧ r_47 (F := Ideal) c i arg6 harg6 x4 = tl S128x128 E.BD 0 128)
  (hdq : v6884 (F := Ideal) c i arg3 harg3 arg4 harg4 arg5 harg5 x1 x2 x3 = E.dqs) (hdk : v6886 (F := Ideal) c i arg2 harg2 arg4 harg4 arg5 harg5 x0 x2 x3 = E.dks) (hdv : r_3 (F := Ideal) c i arg5 harg5 x3 = E.dvs)
  (h5 : x5 = tl S1x1x3072x96 E.Q 0 0) (h6 : x6 = tl S1x1x3072x96 E.K 0 0) (h7 : x7 = tl S1x1x3072x96 E.V 0 0) (h8 : x8 = tl S1x1x3072x96 E.O 0 0) :
  out0_A_9 (F := Ideal) c i arg2 harg2 arg3 harg3 arg4 harg4 arg5 harg5 arg6 harg6 arg7 harg7 arg8 harg8 arg9 harg9 arg10 harg10 arg11 harg11 arg12
  harg12 arg13 harg13 arg14 harg14 arg15 harg15 arg16 harg16 arg17 harg17 arg18 harg18 arg19 harg19 arg20 harg20 arg21 harg21 arg22 harg22 hc0 hc1 x0 x1
  x2 x3 x4 x5 x6 x7 x8 = tl S1x1x3072x96 E.dq 0 0
  ∧ out0_A_10 (F := Ideal) c i arg2 harg2 arg3 harg3 arg4 harg4 arg5 harg5 arg6 harg6 arg7 harg7 arg8 harg8 arg9 harg9 arg10 harg10 arg11 harg11 arg12
  harg12 arg13 harg13 arg14 harg14 arg15 harg15 arg16 harg16 arg17 harg17 arg18 harg18 arg19 harg19 arg20 harg20 arg21 harg21 arg22 harg22 hc0 hc1 x0 x1
  x2 x3 x4 x5 x6 x7 x8 = tl S1x1x3072x96 E.dk 0 0
  ∧ out0_A_11 (F := Ideal) c i arg2 harg2 arg3 harg3 arg4 harg4 arg5 harg5 arg6 harg6 arg7 harg7 arg8 harg8 arg9 harg9 arg10 harg10 arg11 harg11 arg12
  harg12 arg13 harg13 arg14 harg14 arg15 harg15 arg16 harg16 arg17 harg17 arg18 harg18 arg19 harg19 arg20 harg20 arg21 harg21 arg22 harg22 hc0 hc1 x0 x1
  x2 x3 x4 x5 x6 x7 x8 = tl S1x1x3072x96 E.dv 0 0 := by
  obtain ⟨p0, p1, p2, p3, p4, p5, q0, q1, q2, q3, q4, q5, r0, r1, r2, r3, r4, r5⟩ :=
    outA E c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 hc0 hc1 x0 x1 x2 x3 x4 x5 x6 x7
      x8 hts hb.1 hb.2 hdq hdk hdv h5 h6 h7 h8
  exact ⟨readA9 c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 hc0 hc1 x0 x1 x2 x3 x4 x5 x6 x7
      x8 _ p0 p1 p2 p3 p4 p5,
    readA10 c i arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 arg22 harg22 hc0 hc1 x0 x1 x2 x3 x4 x5
      x6 x7 x8 _ q0 q1 q2 q3 q4 q5,
    readA11 c i arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 arg22 harg22 hc0 hc1 x0 x1 x2 x3 x4 x5
      x6 x7 x8 _ r0 r1 r2 r3 r4 r5⟩
end

section
open Cert.KernelIdeal.Gen.kernelRun0_B.sl
variable (c : Dev nD) (i : grid0.Coords) (arg2 : Memref sig .tc .smem S3x24 .f32) (harg2 : arg2.IsWhole) (arg3 : Memref sig .tc .smem S3x24 .f32)
  (harg3 : arg3.IsWhole) (arg4 : Memref sig .tc .smem S3x24 .f32) (harg4 : arg4.IsWhole) (arg5 : Memref sig .tc .smem S3x24 .f32) (harg5 : arg5.IsWhole)
  (arg6 : Memref sig .tc .smem S24x32 .f32) (harg6 : arg6.IsWhole) (arg7 : Memref sig .tc .vmem S1x1x3072x96 .fp8e4m3) (harg7 : arg7.IsWhole) (arg8 :
  Memref sig .tc .vmem S1x1x3072x96 .fp8e4m3) (harg8 : arg8.IsWhole) (arg9 : Memref sig .tc .vmem S1x1x3072x96 .fp8e4m3) (harg9 : arg9.IsWhole) (arg10 :
  Memref sig .tc .vmem S1x1x3072x96 .fp8e5m2) (harg10 : arg10.IsWhole) (arg11 : Memref sig .tc .vmem S1x1x3072x96 .bf16) (harg11 : arg11.IsWhole) (arg12
  : Memref sig .tc .vmem S1x1x3072x96 .bf16) (harg12 : arg12.IsWhole) (arg13 : Memref sig .tc .vmem S1x1x3072x96 .bf16) (harg13 : arg13.IsWhole) (arg14
  : Memref sig .tc .vmem S1x32x128 .f32) (harg14 : arg14.IsWhole) (arg15 : Memref sig .tc .vmem S3x3072x512 .f32) (harg15 : arg15.IsWhole) (arg16 :
  Memref sig .tc .vmem S2x3072x512 .f32) (harg16 : arg16.IsWhole) (arg17 : Memref sig .tc .vmem S96x3072 .f32) (harg17 : arg17.IsWhole) (arg18 : Memref
  sig .tc .vmem S96x3072 .f32) (harg18 : arg18.IsWhole) (arg19 : Memref sig .tc .vmem S96x3072 .bf16) (harg19 : arg19.IsWhole) (arg20 : Memref sig .tc
  .vmem S96x3072 .bf16) (harg20 : arg20.IsWhole) (arg21 : Memref sig .tc .vmem S96x3072 .bf16) (harg21 : arg21.IsWhole) (arg22 : Memref sig .tc .vmem
  S128x256 .f32) (harg22 : arg22.IsWhole) (hc0 : ¬cond0_0 i) (hc1 : cond0_1 i) (x0 : Vec Ideal S3x24 .f32) (x1 : Vec Ideal S3x24 .f32) (x2 : Vec Ideal
  S3x24 .f32) (x3 : Vec Ideal S3x24 .f32) (x4 : Vec Ideal S24x32 .f32) (x5 : Vec Ideal S1x1x3072x96 .fp8e4m3) (x6 : Vec Ideal S1x1x3072x96 .fp8e4m3) (x7
  : Vec Ideal S1x1x3072x96 .fp8e4m3) (x8 : Vec Ideal S1x1x3072x96 .fp8e5m2) (x12 : Vec Ideal S1x32x128 .f32)
/-- What a grid point leaves in the three blocks, at the other batch entries. -/
theorem pointB (E : Env)
  (hts : r_9 (F := Ideal) c i arg2 harg2 arg3 harg3 x0 x1 = E.ts) (hb : r_46 (F := Ideal) c i arg6 harg6 x4 = tl S128x128 E.BD 0 0 ∧ r_47 (F := Ideal) c i arg6 harg6 x4 = tl S128x128 E.BD 0 128)
  (hdq : v6884 (F := Ideal) c i arg3 harg3 arg4 harg4 arg5 harg5 x1 x2 x3 = E.dqs) (hdk : v6886 (F := Ideal) c i arg2 harg2 arg4 harg4 arg5 harg5 x0 x2 x3 = E.dks) (hdv : r_3 (F := Ideal) c i arg5 harg5 x3 = E.dvs)
  (h5 : x5 = tl S1x1x3072x96 E.Q 0 0) (h6 : x6 = tl S1x1x3072x96 E.K 0 0) (h7 : x7 = tl S1x1x3072x96 E.V 0 0) (h8 : x8 = tl S1x1x3072x96 E.O 0 0) :
  out0_B_9 (F := Ideal) c i arg2 harg2 arg3 harg3 arg4 harg4 arg5 harg5 arg6 harg6 arg7 harg7 arg8 harg8 arg9 harg9 arg10 harg10 arg11 harg11 arg12
  harg12 arg13 harg13 arg14 harg14 arg15 harg15 arg16 harg16 arg17 harg17 arg18 harg18 arg19 harg19 arg20 harg20 arg21 harg21 arg22 harg22 hc0 hc1 x0 x1
  x2 x3 x4 x5 x6 x7 x8 x12 = tl S1x1x3072x96 E.dq 0 0
  ∧ out0_B_10 (F := Ideal) c i arg2 harg2 arg3 harg3 arg4 harg4 arg5 harg5 arg6 harg6 arg7 harg7 arg8 harg8 arg9 harg9 arg10 harg10 arg11 harg11 arg12
  harg12 arg13 harg13 arg14 harg14 arg15 harg15 arg16 harg16 arg17 harg17 arg18 harg18 arg19 harg19 arg20 harg20 arg21 harg21 arg22 harg22 hc0 hc1 x0 x1
  x2 x3 x4 x5 x6 x7 x8 x12 = tl S1x1x3072x96 E.dk 0 0
  ∧ out0_B_11 (F := Ideal) c i arg2 harg2 arg3 harg3 arg4 harg4 arg5 harg5 arg6 harg6 arg7 harg7 arg8 harg8 arg9 harg9 arg10 harg10 arg11 harg11 arg12
  harg12 arg13 harg13 arg14 harg14 arg15 harg15 arg16 harg16 arg17 harg17 arg18 harg18 arg19 harg19 arg20 harg20 arg21 harg21 arg22 harg22 hc0 hc1 x0 x1
  x2 x3 x4 x5 x6 x7 x8 x12 = tl S1x1x3072x96 E.dv 0 0 := by
  obtain ⟨p0, p1, p2, p3, p4, p5, q0, q1, q2, q3, q4, q5, r0, r1, r2, r3, r4, r5⟩ :=
    outB E c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 hc0 hc1 x0 x1 x2 x3 x4 x5 x6 x7
      x8 hts hb.1 hb.2 hdq hdk hdv h5 h6 h7 h8
  exact ⟨readB9 c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 hc0 hc1 x0 x1 x2 x3 x4 x5 x6 x7
      x8 x12 _ p0 p1 p2 p3 p4 p5,
    readB10 c i arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 arg22 harg22 hc0 hc1 x0 x1 x2 x3 x4 x5
      x6 x7 x8 x12 _ q0 q1 q2 q3 q4 q5,
    readB11 c i arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 arg22 harg22 hc0 hc1 x0 x1 x2 x3 x4 x5
      x6 x7 x8 x12 _ r0 r1 r2 r3 r4 r5⟩
end

variable (m : (ℓ : Loc nD τ sig) → Buf (Elt Ideal) ℓ) (c : Dev nD)
/-- What grid point `t` leaves in the three blocks, for the head of its coordinates. -/
theorem point (A : Args) (H : Holds m c A) (t : Fin cfg0.N) (b : Fin 3) (h : Fin 24) (eb : (grid0.coords t 1).val = b.val) (eh : (grid0.coords t 0).val = h.val) :
    (outsAt0 m c t.val t.isLt).1 = tl S1x1x3072x96 (A.env b h).dq 0 0 ∧ (outsAt0 m c t.val t.isLt).2.1 = tl S1x1x3072x96 (A.env b h).dk 0 0
      ∧ (outsAt0 m c t.val t.isLt).2.2.1 = tl S1x1x3072x96 (A.env b h).dv 0 0 := by
  have q0 := (iblk0 m c t (ix2 b h)).trans (H.hq b h)
  have q1 := (iblk1 m c t (ix2 b h)).trans (H.hk b h)
  have q2 := (iblk2 m c t (ix2 b h)).trans (H.hv b h)
  have q3 := (iblk3 m c t (ix2 b h)).trans (H.ho b h)
  have q4 := fun u : Fin 32 => (iblk4 m c t (ix2 h u)).trans (H.hb h u)
  have q5 := iblk5 m c t b h eb eh
  have q6 := iblk6 m c t b h eb eh
  have q7 := iblk7 m c t b h eb eh
  have q8 := iblk8 m c t b h eb eh
  rw [H.hQ] at q5
  rw [H.hK] at q6
  rw [H.hV] at q7
  rw [H.hO] at q8
  by_cases h0 : t.val % 3 = 0
  · rw [outsAt0_A m c t h0 (by omega)]
    dsimp only
    have s := scalesA c (grid0.coords t) (ms0_0 t) (ms0_1 t) (ms0_2 t) (ms0_3 t) (hs0_0 t) (hs0_1 t) (hs0_2 t) (hs0_3 t) (iblk m c 0 t) (iblk m c 1 t) (iblk m c 2 t) (iblk m c 3 t)
      b h eh eb (A.sq b h) (A.sk b h) (A.sv b h) (A.so b h) q0 q1 q2 q3
    exact pointA (E := A.env b h) (hts := s.1) (hb := diagA (ms0_4 t) (hs0_4 t) (iblk m c 4 t) c (grid0.coords t) h eh (A.bb h) q4 (A.env b h) (fun _ => rfl))
      (hdq := s.2.1) (hdk := s.2.2.1) (hdv := s.2.2.2) (h5 := q5) (h6 := q6) (h7 := q7) (h8 := q8) ..
  · rw [outsAt0_B m c t h0 (by omega)]
    dsimp only
    have s := scalesB c (grid0.coords t) (ms0_0 t) (ms0_1 t) (ms0_2 t) (ms0_3 t) (hs0_0 t) (hs0_1 t) (hs0_2 t) (hs0_3 t) (iblk m c 0 t) (iblk m c 1 t) (iblk m c 2 t) (iblk m c 3 t)
      b h eh eb (A.sq b h) (A.sk b h) (A.sv b h) (A.so b h) q0 q1 q2 q3
    exact pointB (E := A.env b h) (hts := s.1) (hb := diagB (ms0_4 t) (hs0_4 t) (iblk m c 4 t) c (grid0.coords t) h eh (A.bb h) q4 (A.env b h) (fun _ => rfl))
      (hdq := s.2.1) (hdk := s.2.2.1) (hdv := s.2.2.2) (h5 := q5) (h6 := q6) (h7 := q7) (h8 := q8) ..

/-- A block's entry lies in the array at the head of the grid point's coordinates. -/
theorem place (f : Fin 3 → Fin 24 → ℕ → ℕ → EReal) (b b' : Fin 3) (h h' : Fin 24) (y : S1x1x3072x96.Idx) (n d : ℕ) (h0 : b'.val = b.val) (h1 : h'.val = h.val)
    (h2 : n = (y 2).val) (h3 : d = (y 3).val) : tl S1x1x3072x96 (f b h) 0 0 y = f b' h' n d := by
  rw [Fin.ext h0, Fin.ext h1, h2, h3]
  show f b h (0 + (y 2).val) (0 + (y 3).val) = _
  rw [Nat.zero_add, Nat.zero_add]

/-- The array of `dq`: the gradient of every head. -/
theorem arr9 (A : Args) (H : Holds m c A) :
    (dats m 0 c).arrAt 9 cfg0.N = (fun j => (A.env (j 0) (j 1)).dq (j 2).val (j 3).val : S3x24x3072x96.Idx → EReal) := by
  refine (dats m 0 c).arrAt_eq_of_covers 9 _ (by decide +kernel) fun t hf y => ?_
  blk_simp
  rw [after0_9]
  have e := (point m c A H t (grid0.coords t 1) (grid0.coords t 0) rfl rfl).1
  refine (congrFun e _).trans ?_
  clear e
  refine place (fun b h => (A.env b h).dq) _ _ _ _ y _ _ ?_ ?_ ?_ ?_ <;> blk_simp [idx t]

/-- The array of `dk`: the gradient of every head. -/
theorem arr10 (A : Args) (H : Holds m c A) :
    (dats m 0 c).arrAt 10 cfg0.N = (fun j => (A.env (j 0) (j 1)).dk (j 2).val (j 3).val : S3x24x3072x96.Idx → EReal) := by
  refine (dats m 0 c).arrAt_eq_of_covers 10 _ (by decide +kernel) fun t hf y => ?_
  blk_simp
  rw [after0_10]
  have e := (point m c A H t (grid0.coords t 1) (grid0.coords t 0) rfl rfl).2.1
  refine (congrFun e _).trans ?_
  clear e
  refine place (fun b h => (A.env b h).dk) _ _ _ _ y _ _ ?_ ?_ ?_ ?_ <;> blk_simp [idx t]

/-- The array of `dv`: the gradient of every head. -/
theorem arr11 (A : Args) (H : Holds m c A) :
    (dats m 0 c).arrAt 11 cfg0.N = (fun j => (A.env (j 0) (j 1)).dv (j 2).val (j 3).val : S3x24x3072x96.Idx → EReal) := by
  refine (dats m 0 c).arrAt_eq_of_covers 11 _ (by decide +kernel) fun t hf y => ?_
  blk_simp
  rw [after0_11]
  have e := (point m c A H t (grid0.coords t 1) (grid0.coords t 0) rfl rfl).2.2
  refine (congrFun e _).trans ?_
  clear e
  refine place (fun b h => (A.env b h).dv) _ _ _ _ y _ _ ?_ ?_ ?_ ?_ <;> blk_simp [idx t]
end Cert.Attn
-- ==== Proof.Math.lean ====
module

public import proofs.«01_k».proof.Proof.Strips

@[expose] public section

noncomputable section
namespace Cert.Attn
open Idealize.ShloMosaic
open scoped BigOperators

/-! ## Sums and maxima over all positions -/

/-- A sum over 3072 positions, gathered by residue modulo eight. -/
theorem colSum_eq (f : ℕ → ℕ → EReal) (r q : ℕ) : colSum f r q = ∑ k ∈ Finset.range 3072, f k q := by
  show ∑ s ∈ Finset.range 8, ∑ j ∈ Finset.Ico 0 384, f (8 * j + s) q = _
  rw [← Finset.sum_product']
  refine Finset.sum_bij' (fun x _ => 8 * x.2 + x.1) (fun k _ => (k % 8, k / 8)) ?_ ?_ ?_ ?_ ?_
  · intro x hx; simp only [Finset.mem_product, Finset.mem_range, Finset.mem_Ico] at hx ⊢; omega
  · intro k hk; simp only [Finset.mem_product, Finset.mem_range, Finset.mem_Ico] at hk ⊢; omega
  · intro x hx; simp only [Finset.mem_product, Finset.mem_range, Finset.mem_Ico] at hx
    exact Prod.ext (by show (8 * x.2 + x.1) % 8 = x.1; omega) (by show (8 * x.2 + x.1) / 8 = x.2; omega)
  · intro k hk; show 8 * (k / 8) + k % 8 = k; omega
  · intro x hx; rfl
/-- The same for maxima. -/
theorem colMax_eq (f : ℕ → ℕ → EReal) (r q : ℕ) : colMax f r q = (Finset.range 3072).sup fun k => f k q := by
  show ((Finset.range 8).sup fun s => (Finset.Ico 0 384).sup fun j => f (8 * j + s) q) = _
  refine le_antisymm ?_ ?_
  · refine Finset.sup_le fun s hs => Finset.sup_le fun j hj => ?_
    simp only [Finset.mem_range, Finset.mem_Ico] at hs hj
    exact Finset.le_sup (f := fun k => f k q) (Finset.mem_range.mpr (by omega))
  · refine Finset.sup_le fun k hk => ?_
    simp only [Finset.mem_range] at hk
    have e : f k q = f (8 * (k / 8) + k % 8) q := by rw [Nat.div_add_mod]
    rw [e]
    refine le_trans ?_ (Finset.le_sup (f := fun s => (Finset.Ico 0 384).sup fun j => f (8 * j + s) q) (Finset.mem_range.mpr (show k % 8 < 8 by omega)))
    exact Finset.le_sup (f := fun j => f (8 * j + k % 8) q) (Finset.mem_Ico.mpr ⟨Nat.zero_le _, by omega⟩)

/-! ## Scalars over the extended reals -/

/-- A nonnegative real factor goes through a sum. -/
theorem sum_mul_real {ι : Type} (s : Finset ι) (u : ι → EReal) (c : ℝ) (hc : 0 ≤ c) :
    (∑ i ∈ s, u i) * (c : EReal) = ∑ i ∈ s, u i * (c : EReal) := by
  classical
  refine Finset.induction_on s (by simp) fun a s ha ih => ?_
  rw [Finset.sum_insert ha, Finset.sum_insert ha, ← ih]
  exact EReal.right_distrib_of_nonneg_of_ne_top (EReal.coe_nonneg.mpr hc) (EReal.coe_ne_top c) _ _

/-- A sum of reals, as an extended real. -/
theorem coe_sum {ι : Type} (s : Finset ι) (u : ι → ℝ) : ((∑ i ∈ s, u i : ℝ) : EReal) = ∑ i ∈ s, (u i : EReal) := by
  classical
  refine Finset.induction_on s (by simp) fun a s ha ih => ?_
  rw [Finset.sum_insert ha, Finset.sum_insert ha, EReal.coe_add, ih]

/-- A nonnegative real factor goes through a difference. -/
theorem sub_mul_real (x y : EReal) (c : ℝ) (hc : 0 ≤ c) : x * (c : EReal) - y * (c : EReal) = (x - y) * (c : EReal) := by
  rw [sub_eq_add_neg, sub_eq_add_neg, ← EReal.neg_mul]
  exact (EReal.right_distrib_of_nonneg_of_ne_top (EReal.coe_nonneg.mpr hc) (EReal.coe_ne_top c) _ _).symm

/-- The change of unit of the scores: base two, and relative to the bias `β` of the far bucket. -/
def unit2 (β : ℝ) (x : EReal) : EReal := (x - (β : EReal)) * (((Real.log 2)⁻¹ : ℝ) : EReal)

/-- One over `log 2` is positive. -/
theorem L_pos : 0 < (Real.log 2)⁻¹ := inv_pos.mpr (Real.log_pos one_lt_two)

/-- The change of units keeps minus infinity. -/
theorem unit2_bot (β : ℝ) : unit2 β ⊥ = ⊥ := by
  unfold unit2; rw [EReal.bot_sub, EReal.bot_mul_coe_of_pos L_pos]
/-- It keeps infinity. -/
theorem unit2_top (β : ℝ) : unit2 β ⊤ = ⊤ := by
  unfold unit2; rw [EReal.top_sub_coe, EReal.top_mul_coe_of_pos L_pos]
/-- Its value at a real. -/
theorem unit2_coe (β x : ℝ) : unit2 β (x : EReal) = (((x - β) * (Real.log 2)⁻¹ : ℝ) : EReal) := by
  unfold unit2; rw [← EReal.coe_sub, ← EReal.coe_mul]
/-- It is monotone. -/
theorem unit2_mono (β : ℝ) : Monotone (unit2 β) := fun x y h =>
  mul_le_mul_of_nonneg_right (EReal.sub_le_sub h le_rfl) (EReal.coe_nonneg.mpr L_pos.le)

/-- The kernel's score is the reference's score in the other unit. -/
theorem unit2_score (S : EReal) (a b β : ℝ) :
    S * (((a * (Real.log 2)⁻¹ : ℝ)) : EReal) + ((((b - β) * (Real.log 2)⁻¹ : ℝ)) : EReal) = unit2 β (S * (a : EReal) + (b : EReal)) := by
  have hL := L_pos
  induction S using EReal.rec with
  | bot =>
    rcases lt_trichotomy a 0 with h | h | h
    · rw [EReal.bot_mul_coe_of_neg (mul_neg_of_neg_of_pos h hL), EReal.bot_mul_coe_of_neg h, EReal.top_add_coe, EReal.top_add_coe, unit2_top]
    · subst h; simp only [zero_mul, EReal.coe_zero, mul_zero, zero_add]; exact (unit2_coe β b).symm
    · rw [EReal.bot_mul_coe_of_pos (mul_pos h hL), EReal.bot_mul_coe_of_pos h, EReal.bot_add, EReal.bot_add, unit2_bot]
  | top =>
    rcases lt_trichotomy a 0 with h | h | h
    · rw [EReal.top_mul_coe_of_neg (mul_neg_of_neg_of_pos h hL), EReal.top_mul_coe_of_neg h, EReal.bot_add, EReal.bot_add, unit2_bot]
    · subst h; simp only [zero_mul, EReal.coe_zero, mul_zero, zero_add]; exact (unit2_coe β b).symm
    · rw [EReal.top_mul_coe_of_pos (mul_pos h hL), EReal.top_mul_coe_of_pos h, EReal.top_add_coe, EReal.top_add_coe, unit2_top]
  | coe s =>
    rw [← EReal.coe_mul, ← EReal.coe_add, ← EReal.coe_mul, ← EReal.coe_add, unit2_coe]
    congr 1; ring

/-- Powers of two of the differences are exponentials of the differences. -/
theorem exp2_unit2 (β : ℝ) (x m : EReal) : Ideal.exp2 (unit2 β x - unit2 β m) = Ideal.exp (x - m) := by
  induction m using EReal.rec with
  | top => rw [unit2_top, EReal.sub_top, EReal.sub_top]; rfl
  | bot =>
    induction x using EReal.rec with
    | top => rw [unit2_top, unit2_bot]; rfl
    | bot => rw [unit2_bot]; rfl
    | coe x => rw [unit2_coe, unit2_bot]; rfl
  | coe m =>
    induction x using EReal.rec with
    | top => rw [unit2_top, unit2_coe, EReal.top_sub_coe, EReal.top_sub_coe]; rfl
    | bot => rw [unit2_bot, EReal.bot_sub, EReal.bot_sub]; rfl
    | coe x =>
      rw [unit2_coe, unit2_coe, ← EReal.coe_sub, ← EReal.coe_sub, Ideal.exp2_coe, Ideal.exp_coe]
      congr 1
      refine (Real.rpow_def_of_pos two_pos _).trans ?_
      congr 1
      have : Real.log 2 ≠ 0 := (Real.log_pos one_lt_two).ne'
      field_simp
      ring

/-- An exponential of a nonpositive number is a nonnegative real. -/
theorem exp_real (x m : EReal) (h : x ≤ m) : ∃ e : ℝ, 0 ≤ e ∧ Ideal.exp (x - m) = (e : EReal) := by
  induction m using EReal.rec with
  | top => rw [EReal.sub_top]; exact ⟨0, le_rfl, rfl⟩
  | bot => rw [le_bot_iff.mp h]; exact ⟨0, le_rfl, rfl⟩
  | coe m =>
    induction x using EReal.rec with
    | top => exact absurd h (by simp)
    | bot => rw [EReal.bot_sub]; exact ⟨0, le_rfl, rfl⟩
    | coe x => exact ⟨Real.exp (x - m), (Real.exp_pos _).le, rfl⟩

/-! ## The head, as the reference computes it -/

namespace Env
variable (E : Env)

/-- Scores by (key, query) with the factor `a` and the bias by distance `b`, `⊥` above the causal diagonal. -/
def X (a : ℝ) (b : ℕ → ℝ) : ℕ → ℕ → EReal := fun k q =>
  if k ≤ q then nt E.K E.Q 0 96 k q * (a : EReal) + ((b (q - k) : ℝ) : EReal) else ⊥

/-- How the scalars of the kernel come from those of the reference. -/
structure Scaled (a β : ℝ) (b : ℕ → ℝ) : Prop where
  ts : E.ts = ((a * (Real.log 2)⁻¹ : ℝ) : EReal)
  bd : ∀ n, E.bd n = (((b n - β) * (Real.log 2)⁻¹ : ℝ) : EReal)

variable {E} {a β : ℝ} {b : ℕ → ℝ}

/-- The kernel's biased score is the reference's in other units. -/
theorem T_eq (h : E.Scaled a β b) (k q : ℕ) : E.T k q = unit2 β (E.X a b k q) := by
  by_cases hk : k ≤ q
  · simp only [T, T0, BD, X, if_pos hk, h.ts, h.bd]
    exact unit2_score _ _ _ _
  · rw [T_van E k q (Nat.lt_of_not_le hk)]
    simp only [X, if_neg hk, unit2_bot]

/-- The kernel's column maximum is the reference's in other units. -/
theorem colMax_T (h : E.Scaled a β b) (q : ℕ) : colMax E.T 0 q = unit2 β ((Finset.range 3072).sup fun k => E.X a b k q) := by
  rw [colMax_eq, Finset.comp_sup_eq_sup_comp_of_is_total (unit2 β) (unit2_mono β) (unit2_bot β)]
  exact Finset.sup_congr rfl fun k _ => T_eq h k q

/-- The kernel's unnormalised probability is the reference's. -/
theorem P_eq (h : E.Scaled a β b) (k q : ℕ) :
    E.P k q = Ideal.exp (E.X a b k q - (Finset.range 3072).sup fun k => E.X a b k q) := by
  simp only [P]
  rw [T_eq h, colMax_T h, exp2_unit2]

/-- An unnormalised probability is a real, at least zero. -/
theorem P_real (h : E.Scaled a β b) (k q : ℕ) (hk : k < 3072) : ∃ e : ℝ, 0 ≤ e ∧ E.P k q = (e : EReal) := by
  rw [P_eq h]
  exact exp_real _ _ (Finset.le_sup (f := fun k => E.X a b k q) (Finset.mem_range.mpr hk))

/-- The row sum of the reference, up to its scale, is that of the kernel. -/
theorem DROW_eq (h : E.Scaled a β b) (q : ℕ) :
    E.DROW 0 q = ∑ k ∈ Finset.range 3072, E.PN k q * nt E.V E.O 0 96 k q := by
  simp only [DROW, PN, INV]
  rw [colSum_eq, colSum_eq]
  have hp : ∀ k, ∃ e : ℝ, 0 ≤ e ∧ (k < 3072 → E.P k q = (e : EReal)) := fun k => by
    by_cases hk : k < 3072
    · obtain ⟨e, he, hE⟩ := P_real h k q hk; exact ⟨e, he, fun _ => hE⟩
    · exact ⟨0, le_rfl, fun h' => absurd h' hk⟩
  choose e he hE using hp
  have hsum : ∑ k ∈ Finset.range 3072, E.P k q = ((∑ k ∈ Finset.range 3072, e k : ℝ) : EReal) := by
    rw [coe_sum]
    exact Finset.sum_congr rfl fun k hk => hE k (Finset.mem_range.mp hk)
  rw [hsum]
  by_cases hl : ∑ k ∈ Finset.range 3072, e k = 0
  · have h0 : ∀ k ∈ Finset.range 3072, E.P k q = 0 := fun k hk => by
      rw [hE k (Finset.mem_range.mp hk), (Finset.sum_eq_zero_iff_of_nonneg fun i _ => he i).mp hl k hk]; rfl
    rw [Finset.sum_eq_zero (fun k hk => by show E.P k q * _ = 0; rw [h0 k hk, zero_mul]), zero_mul]
    exact (Finset.sum_eq_zero fun k hk => by rw [h0 k hk, zero_mul, zero_mul]).symm
  · rw [Ideal.div_coe hl, one_mul, sum_mul_real _ _ _ (by have := Finset.sum_nonneg fun i (_ : i ∈ Finset.range 3072) => he i; positivity)]
    refine Finset.sum_congr rfl fun k _ => ?_
    show E.P k q * nt E.V E.O 0 96 k q * _ = _
    rw [mul_assoc, mul_comm (nt E.V E.O 0 96 k q), ← mul_assoc]

/-- The gradient of the scores of the reference is the kernel's, times the scale `C` of `dP`. -/
theorem DS_eq (h : E.Scaled a β b) (C : ℝ) (hC : 0 ≤ C) (k q : ℕ) :
    E.PN k q * (nt E.V E.O 0 96 k q * (C : EReal)
      - ∑ k ∈ Finset.range 3072, E.PN k q * (nt E.V E.O 0 96 k q * (C : EReal))) = E.DS k q * (C : EReal) := by
  have e : ∑ k ∈ Finset.range 3072, E.PN k q * (nt E.V E.O 0 96 k q * (C : EReal)) = E.DROW 0 q * (C : EReal) := by
    rw [DROW_eq h, sum_mul_real _ _ _ hC]
    exact Finset.sum_congr rfl fun k _ => (mul_assoc _ _ _).symm
  rw [e, sub_mul_real _ _ _ hC, ← mul_assoc]
  rfl

/-- A product with the gradient of the scores: the scale `C` moves to the end. -/
theorem prod_eq (C : ℝ) (hC : 0 ≤ C) (s : EReal) (u v : ℕ → EReal) (n : ℕ) :
    (∑ x ∈ Finset.range n, (u x * (C : EReal)) * v x) * s = (∑ x ∈ Finset.range n, v x * u x) * ((C : EReal) * s) := by
  rw [← mul_assoc, sum_mul_real _ _ _ hC]
  congr 1
  exact Finset.sum_congr rfl fun x _ => by rw [mul_comm (v x), mul_assoc, mul_assoc, mul_comm (v x)]

end Env
end Cert.Attn
-- ==== Proof.Ref.lean ====
module

public import proofs.«01_k».proof.Proof.Math
public import proofs.«01_k».proof.Proof.Gen.ReferenceIdeal.Read
public import Idealize.ShloMosaic.Lib.ValueIdxCore

@[expose] public section

noncomputable section
namespace Cert.Attn.Ref
open Idealize.ShloMosaic Cert.ReferenceIdeal Cert.ReferenceIdeal.Gen Cert.ReferenceIdeal.Read
open scoped BigOperators

/-! ## Indices -/

/-- Indices of rank two with equal coordinates are equal. -/
theorem ext2 {s : Fin 2 → ℕ} {i j : (⟨2, s⟩ : Shape).Idx} (h0 : (i 0).val = (j 0).val) (h1 : (i 1).val = (j 1).val) : i = j := by
  funext a; apply Fin.ext
  match a with
  | ⟨0, _⟩ => exact h0
  | ⟨1, _⟩ => exact h1
/-- Indices of rank three with equal coordinates are equal. -/
theorem ext3 {s : Fin 3 → ℕ} {i j : (⟨3, s⟩ : Shape).Idx} (h0 : (i 0).val = (j 0).val) (h1 : (i 1).val = (j 1).val)
    (h2 : (i 2).val = (j 2).val) : i = j := by
  funext a; apply Fin.ext
  match a with
  | ⟨0, _⟩ => exact h0
  | ⟨1, _⟩ => exact h1
  | ⟨2, _⟩ => exact h2
/-- Indices of rank four with equal coordinates are equal. -/
theorem ext4 {s : Fin 4 → ℕ} {i j : (⟨4, s⟩ : Shape).Idx} (h0 : (i 0).val = (j 0).val) (h1 : (i 1).val = (j 1).val)
    (h2 : (i 2).val = (j 2).val) (h3 : (i 3).val = (j 3).val) : i = j := by
  funext a; apply Fin.ext
  match a with
  | ⟨0, _⟩ => exact h0
  | ⟨1, _⟩ => exact h1
  | ⟨2, _⟩ => exact h2
  | ⟨3, _⟩ => exact h3

/-- A sum over all of `Fin n` of the values of a function of the number. -/
theorem sum_num {n : ℕ} (f : Fin n → EReal) (u : ℕ → EReal) (h : ∀ x, f x = u x.val) : ∑ x, f x = ∑ x ∈ Finset.range n, u x := by
  rw [Finset.sum_range]; exact Finset.sum_congr rfl fun x _ => h x

/-- An entry of a scaled whole product. -/
theorem nn_sc (f g : ℕ → ℕ → EReal) (s : EReal) (q d : ℕ) :
    tr (sc (nnF (tr f) g) s) q d = (∑ x ∈ Finset.range 3072, f x d * g x q) * s := by
  rw [Finset.range_eq_Ico]; rfl
/-- An entry of a scaled product along columns, transposed. -/
theorem nt_sc (f g : ℕ → ℕ → EReal) (s : EReal) (k d : ℕ) :
    tr (sc (ntF (tr f) g) s) k d = (∑ x ∈ Finset.range 3072, f x d * g k x) * s := by
  rw [Finset.range_eq_Ico]; rfl

/-! ## One head of the reference -/

/-- What relates the arrays of the reference to one head `E` (batch `b`, head `h`): the code matrices, the biases `bR` by
    distance, and the real scales `sq sk sv so`. -/
structure Head (x3 x4 x5 x7 : S3x24.Idx → EReal) (x8 : S24x32.Idx → EReal) (r0 r1 r2 r3 : S3x3072x24x96.Idx → EReal)
    (r4 : S3072x3072.Idx → BitVec 32) (b : Fin 3) (h : Fin 24) (E : Env) (sq sk sv so σ : ℝ) (bR : ℕ → ℝ) : Prop where
  hQ : ∀ (n : Fin 3072) (d : Fin 96), r0 (ix4 b n h d) = E.Q n d
  hK : ∀ (n : Fin 3072) (d : Fin 96), r1 (ix4 b n h d) = E.K n d
  hV : ∀ (n : Fin 3072) (d : Fin 96), r2 (ix4 b n h d) = E.V n d
  hO : ∀ (n : Fin 3072) (d : Fin 96), r3 (ix4 b n h d) = E.O n d
  hq : x3 (ix2 b h) = (sq : EReal)
  hk : x4 (ix2 b h) = (sk : EReal)
  hv : x5 (ix2 b h) = (sv : EReal)
  ho : x7 (ix2 b h) = (so : EReal)
  hσ : Ideal.ofBits .f32 0x3DD105EC#32 = (σ : EReal)
  hb : ∀ q k : Fin 3072, k ≤ q → val_main_v24 (F := Ideal) x8 r4 (ix3 h q k) = ((bR (q.val - k.val) : ℝ) : EReal)
  hC : 0 ≤ so * sv

variable {x3 x4 x5 x7 : S3x24.Idx → EReal} {x8 : S24x32.Idx → EReal} {r0 r1 r2 r3 : S3x3072x24x96.Idx → EReal}
  {r4 : S3072x3072.Idx → BitVec 32} {b : Fin 3} {h : Fin 24} {E : Env} {sq sk sv so σ : ℝ} {bR : ℕ → ℝ}
  (H : Head x3 x4 x5 x7 x8 r0 r1 r2 r3 r4 b h E sq sk sv so σ bR)
include H

/-- The reference's query codes. -/
theorem v1 (n : Fin 3072) (d : Fin 96) : val_main_v1 (F := Ideal) r0 (ix4 b h n d) = E.Q n d := by
  rw [val_main_v1_apply, show idx_main_v1 (ix4 b h n d) = ix4 b n h d from ext4 rfl rfl rfl rfl]
  exact H.hQ n d
/-- The reference's key codes. -/
theorem v2 (n : Fin 3072) (d : Fin 96) : val_main_v2 (F := Ideal) r1 (ix4 b h n d) = E.K n d := by
  rw [val_main_v2_apply, show idx_main_v2 (ix4 b h n d) = ix4 b n h d from ext4 rfl rfl rfl rfl]
  exact H.hK n d
/-- The reference's value codes. -/
theorem v3 (n : Fin 3072) (d : Fin 96) : val_main_v3 (F := Ideal) r2 (ix4 b h n d) = E.V n d := by
  rw [val_main_v3_apply, show idx_main_v3 (ix4 b h n d) = ix4 b n h d from ext4 rfl rfl rfl rfl]
  exact H.hV n d
/-- The reference's gradient codes. -/
theorem v4 (n : Fin 3072) (d : Fin 96) : val_main_v4 (F := Ideal) r3 (ix4 b h n d) = E.O n d := by
  rw [val_main_v4_apply, show idx_main_v4 (ix4 b h n d) = ix4 b n h d from ext4 rfl rfl rfl rfl]
  exact H.hO n d

/-- The products of the codes of the queries and the keys. -/
theorem v11 (q k : Fin 3072) : val_main_v11 (F := Ideal) r0 r1 (ix4 b h q k) = nt E.K E.Q 0 96 k q := by
  refine (val_main_v11_apply r0 r1 _).trans ?_
  show _ = ∑ x ∈ Finset.Ico 0 96, E.K k x * E.Q q x
  rw [← Finset.range_eq_Ico]
  refine sum_num _ _ fun x => ?_
  rw [show lidx_main_v11 (ix4 b h q k) x = ix4 b h q x from ext4 rfl rfl rfl rfl,
    show ridx_main_v11 (ix4 b h q k) x = ix4 b h k x from ext4 rfl rfl rfl rfl, v1 H, v2 H, mul_comm]
/-- The reference's `dP` before its scales. -/
theorem v40 (q k : Fin 3072) : val_main_v40 (F := Ideal) r2 r3 (ix4 b h q k) = nt E.V E.O 0 96 k q := by
  refine (val_main_v40_apply r2 r3 _).trans ?_
  show _ = ∑ x ∈ Finset.Ico 0 96, E.V k x * E.O q x
  rw [← Finset.range_eq_Ico]
  refine sum_num _ _ fun x => ?_
  rw [show lidx_main_v40 (ix4 b h q k) x = ix4 b h q x from ext4 rfl rfl rfl rfl,
    show ridx_main_v40 (ix4 b h q k) x = ix4 b h k x from ext4 rfl rfl rfl rfl, v4 H, v3 H, mul_comm]

/-- The causal mask. -/
theorem mask (q k : Fin 3072) : val_main_call0_v1 (F := Ideal) (ix4 b h q k) = if k ≤ q then 1#1 else 0#1 := by
  rw [val_main_call0_v1_apply, val_main_v10_apply, val_main_v8_apply, val_main_v9_apply, val_main_v6_apply, val_main_v7_apply,
    val_main_v5_apply, val_main_v5_apply]
  show IntOp.cmpi .sle (BitVec.ofNat 32 k.val) (BitVec.ofNat 32 q.val) = _
  have hk := k.isLt
  have hq := q.isLt
  have e : (BitVec.ofNat 32 k.val).sle (BitVec.ofNat 32 q.val) = decide (k ≤ q) := by
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp only [Nat.cast_le, Fin.le_def]
  simp only [IntOp.cmpi, e]
  by_cases h : k ≤ q <;> simp [h]

/-- The masked scores. -/
theorem v28 (q k : Fin 3072) : val_main_v28 (F := Ideal) x3 x4 x8 r0 r1 r4 (ix4 b h q k) = E.X (σ * sq * sk) bR k q := by
  rw [val_main_v28_apply, mask H]
  by_cases hk : k ≤ q
  · simp only [if_pos hk, Env.X, if_pos (Fin.le_def.mp hk)]
    refine (if_pos rfl).trans ?_
    rw [val_main_v27_apply, val_main_v17_apply, v11 H, val_main_v16_apply, val_main_v15_apply, val_main_v14_apply, val_main_v13_apply,
      val_main_v12_apply, val_main_v26_apply, val_main_v25_apply]
    rw [show idx_main_v25 (idx_main_v26 (ix4 b h q k)) = ix3 h q k from ext3 rfl rfl rfl,
      show idx_main_v15 (idx_main_v16 (ix4 b h q k)) = ix2 b h from ext2 rfl rfl, H.hb q k hk, H.hq, H.hk]
    show nt E.K E.Q 0 96 k q * (Ideal.ofBits .f32 0x3DD105EC#32 * (sq : EReal) * (sk : EReal)) + _ = _
    rw [H.hσ, EReal.coe_mul, EReal.coe_mul]
  · simp only [if_neg hk, Env.X, if_neg (fun h' => hk (Fin.le_def.mpr h'))]
    refine (if_neg (by decide)).trans ?_
    rw [val_main_call0_v2_apply, val_main_call0_v0_apply, val_main_cst_1_apply]
    show Ideal.ofBits .f32 0xFF800000#32 = ⊥
    simp [Ideal.ofBits, Ideal.ieee]

/-- The row maximum. -/
theorem v29 (q : Fin 3072) : val_main_v29 (F := Ideal) x3 x4 x8 r0 r1 r4 (ix3 b h q)
    = (Finset.range 3072).sup fun k => E.X (σ * sq * sk) bR k q := by
  unfold val_main_v29
  rw [Host.reduce_eq_fold_single FloatOps.maximumf _ _ reducesTo_S3x24x3072x3072_S3x24x3072_d3 (by decide) h_S_]
  refine Eq.trans ?_ ((max_fin (fun k => E.X (σ * sq * sk) bR k q) 0 3072).trans (by rw [Finset.range_eq_Ico]))
  refine congrArg (fun f => Finset.fold max (Ideal.ofBits .f32 0xFF800000#32) f (Finset.univ : Finset (Fin 3072))) (funext fun k => ?_)
  show val_main_v28 (F := Ideal) x3 x4 x8 r0 r1 r4 (Shape.Reduces.lift _ (ix3 b h q) k) = E.X (σ * sq * sk) bR (0 + k.val) q
  rw [Nat.zero_add]
  refine (congrArg (val_main_v28 (F := Ideal) x3 x4 x8 r0 r1 r4) ?_).trans (v28 H q k)
  exact ext4 rfl rfl rfl rfl

variable {β : ℝ} (hE : E.Scaled (σ * sq * sk) β bR)
include hE

/-- The exponentials are the kernel's unnormalised probabilities. -/
theorem v33 (q k : Fin 3072) : val_main_v33 (F := Ideal) x3 x4 x8 r0 r1 r4 (ix4 b h q k) = E.P k q := by
  rw [val_main_v33_apply, val_main_v32_apply, v28 H, val_main_v31_apply, val_main_v30_apply,
    show idx_main_v30 (idx_main_v31 (ix4 b h q k)) = ix3 b h q from ext3 rfl rfl rfl, v29 H, Env.P_eq hE]
  rfl
/-- The reference's sum of exponentials. -/
theorem v34 (q : Fin 3072) : val_main_v34 (F := Ideal) x3 x4 x8 r0 r1 r4 (ix3 b h q) = colSum E.P 0 q := by
  rw [val_main_v34_apply, val_main_cst_3_apply, colSum_eq]
  show Ideal.ofBits .f32 0x00000000#32 + _ = _
  rw [Ideal.ofBits_zero_f32, zero_add]
  refine sum_num _ _ fun k => ?_
  rw [show idx_main_v34 (ix3 b h q) k = ix4 b h q k from ext4 rfl rfl rfl rfl]
  exact v33 H hE q k
/-- The probabilities. -/
theorem v39 (q k : Fin 3072) : val_main_v39 (F := Ideal) x3 x4 x8 r0 r1 r4 (ix4 b h q k) = E.PN k q := by
  rw [val_main_v39_apply, v33 H hE, val_main_v38_apply, val_main_v37_apply, val_main_v36_apply, val_main_cst_4_apply, val_main_v35_apply,
    show idx_main_v35 (idx_main_v38 (ix4 b h q k)) = ix3 b h q from ext3 rfl rfl rfl, v34 H hE]
  show E.P k q * Ideal.div (Ideal.ofBits .f32 0x3F800000#32) _ = E.P k q * Ideal.div 1 _
  rw [Ideal.ofBits_one_f32]
/-- The gradient of the probabilities. -/
theorem v44 (q k : Fin 3072) : val_main_v44 (F := Ideal) x5 x7 r2 r3 (ix4 b h q k) = nt E.V E.O 0 96 k q * ((so * sv : ℝ) : EReal) := by
  rw [val_main_v44_apply, v40 H, val_main_v43_apply, val_main_v42_apply, val_main_v41_apply,
    show idx_main_v42 (idx_main_v43 (ix4 b h q k)) = ix2 b h from ext2 rfl rfl, H.ho, H.hv, EReal.coe_mul]
  rfl
/-- The reference's row term. -/
theorem v46 (q : Fin 3072) : val_main_v46 (F := Ideal) x3 x4 x5 x7 x8 r0 r1 r2 r3 r4 (ix3 b h q)
    = ∑ k ∈ Finset.range 3072, E.PN k q * (nt E.V E.O 0 96 k q * ((so * sv : ℝ) : EReal)) := by
  rw [val_main_v46_apply, val_main_cst_5_apply]
  show Ideal.ofBits .f32 0x00000000#32 + _ = _
  rw [Ideal.ofBits_zero_f32, zero_add]
  refine sum_num _ _ fun k => ?_
  rw [show idx_main_v46 (ix3 b h q) k = ix4 b h q k from ext4 rfl rfl rfl rfl, val_main_v45_apply, v39 H hE, v44 H hE]
  rfl
/-- The gradient of the scores. -/
theorem v51 (q k : Fin 3072) : val_main_v51 (F := Ideal) x3 x4 x5 x7 x8 r0 r1 r2 r3 r4 (ix4 b h q k) = E.DS k q * ((so * sv : ℝ) : EReal) := by
  rw [val_main_v51_apply, val_main_v50_apply, val_main_v49_apply, v39 H hE, v44 H hE, val_main_v48_apply, val_main_v47_apply,
    show idx_main_v47 (idx_main_v48 (ix4 b h q k)) = ix3 b h q from ext3 rfl rfl rfl, v46 H hE]
  exact Env.DS_eq hE _ H.hC k q

/-- dq of the reference. -/
theorem v61 (q : Fin 3072) (d : Fin 96) : val_main_v61 (F := Ideal) x3 x4 x5 x7 x8 r0 r1 r2 r3 r4 (ix4 b h q d)
    = tr (sc (nnF (tr E.K) E.DS) (((so * sv : ℝ) : EReal) * ((σ : EReal) * (sk : EReal)))) q d := by
  rw [val_main_v61_apply, val_main_v60_apply, val_main_v52_apply, val_main_v59_apply, val_main_v58_apply, val_main_v57_apply, val_main_v56_apply,
    show idx_main_v58 (idx_main_v59 (ix4 b h q d)) = ix2 b h from ext2 rfl rfl, H.hk, val_main_cst_6_apply]
  refine Eq.trans ?_ ((Env.prod_eq _ H.hC _ (fun x => E.DS x q) (fun x => E.K x d) 3072).trans (nn_sc _ _ _ _ _).symm)
  refine congrArg₂ (fun x y : EReal => x * y) (sum_num _ _ fun x => ?_) (congrArg (fun x : EReal => x * (sk : EReal)) H.hσ)
  rw [show lidx_main_v52 (ix4 b h q d) x = ix4 b h q x from ext4 rfl rfl rfl rfl,
    show ridx_main_v52 (ix4 b h q d) x = ix4 b h x d from ext4 rfl rfl rfl rfl, v51 H hE, v2 H]
/-- dk of the reference. -/
theorem v67 (k : Fin 3072) (d : Fin 96) : val_main_v67 (F := Ideal) x3 x4 x5 x7 x8 r0 r1 r2 r3 r4 (ix4 b h k d)
    = tr (sc (ntF (tr E.Q) E.DS) (((so * sv : ℝ) : EReal) * ((σ : EReal) * (sq : EReal)))) k d := by
  rw [val_main_v67_apply, val_main_v66_apply, val_main_v53_apply, val_main_v65_apply, val_main_v64_apply, val_main_v63_apply, val_main_v62_apply,
    show idx_main_v64 (idx_main_v65 (ix4 b h k d)) = ix2 b h from ext2 rfl rfl, H.hq, val_main_cst_7_apply]
  refine Eq.trans ?_ ((Env.prod_eq _ H.hC _ (fun x => E.DS k x) (fun x => E.Q x d) 3072).trans (nt_sc _ _ _ _ _).symm)
  refine congrArg₂ (fun x y : EReal => x * y) (sum_num _ _ fun x => ?_) (congrArg (fun x : EReal => x * (sq : EReal)) H.hσ)
  rw [show lidx_main_v53 (ix4 b h k d) x = ix4 b h x k from ext4 rfl rfl rfl rfl,
    show ridx_main_v53 (ix4 b h k d) x = ix4 b h x d from ext4 rfl rfl rfl rfl, v51 H hE, v1 H]
/-- dv of the reference. -/
theorem v71 (k : Fin 3072) (d : Fin 96) : val_main_v71 (F := Ideal) x3 x4 x7 x8 r0 r1 r3 r4 (ix4 b h k d)
    = tr (sc (ntF (tr E.O) E.PN) (so : EReal)) k d := by
  rw [val_main_v71_apply, val_main_v70_apply, val_main_v55_apply, val_main_v69_apply, val_main_v68_apply,
    show idx_main_v68 (idx_main_v69 (ix4 b h k d)) = ix2 b h from ext2 rfl rfl, H.ho]
  refine Eq.trans ?_ (nt_sc _ _ _ _ _).symm
  refine congrArg (fun x : EReal => x * (so : EReal)) (sum_num _ _ fun x => ?_)
  rw [show lidx_main_v55 (ix4 b h k d) x = ix4 b h x k from ext4 rfl rfl rfl rfl,
    show ridx_main_v55 (ix4 b h k d) x = ix4 b h x d from ext4 rfl rfl rfl rfl, val_main_v54_apply, v39 H hE, v4 H, mul_comm]
  rfl

end Cert.Attn.Ref
-- ==== Proof.Region.lean ====
module
public import proofs.«01_k».proof.Proof.Ref
public import proofs.«01_k».proof.Proof.Bias
public import proofs.«01_k».proof.Proof.Gen.ReferenceIdeal.Run
public import Idealize.ShloMosaic.Lib.Pipeline.ValueKit
@[expose] public section
set_option maxRecDepth 16384
noncomputable section
namespace Cert.Attn.Region
open Idealize.ShloMosaic Cert.ReferenceIdeal Cert.ReferenceIdeal.Gen Cert.ReferenceIdeal.Value Idealize.ShloMosaic.TcCoe
open Cert.Attn.Ref (ext2 ext3 ext4)
/-! # What the reference's first step leaves: the codes as they are, and the bucket of every pair -/

variable (m : (ℓ : Loc nD τ sig) → Buf (Elt Ideal) ℓ) (c : Dev nD)
/-- The step has one point, whose blocks are the whole arrays. -/
theorem idx : ∀ t : Fin cfg0.N, win0_0.index t = ![0, 0, 0, 0] ∧ win0_1.index t = ![0, 0, 0, 0] ∧ win0_2.index t = ![0, 0, 0, 0] ∧ win0_3.index t = ![0, 0, 0, 0]
    ∧ win0_4.index t = ![0, 0, 0, 0] ∧ win0_5.index t = ![0, 0, 0, 0] ∧ win0_6.index t = ![0, 0, 0, 0] ∧ win0_7.index t = ![0, 0, 0, 0] ∧ win0_8.index t = ![0, 0] :=
  (by decide +kernel : ∀ t : Fin grid0.N, _)

/-- The four code arrays pass through. -/
theorem reg0 : reg_main_v0_0 m c = (m ((c : Thread nD τ).loc main_arg0) : S3x3072x24x96.Idx → EReal) := by
  refine (dats m 0 c).arrAt_eq_of_covers 4 _ (by decide +kernel) fun t hf y => ?_
  blk_simp
  rw [after0_4]
  frame_out
  show (iblk m c 0 t : S3x3072x24x96.Idx → EReal) y = _
  blk_ext [iblk, V, idx t]
/-- The same for this array of codes. -/
theorem reg1 : reg_main_v0_1 m c = (m ((c : Thread nD τ).loc main_arg1) : S3x3072x24x96.Idx → EReal) := by
  refine (dats m 0 c).arrAt_eq_of_covers 5 _ (by decide +kernel) fun t hf y => ?_
  blk_simp
  rw [after0_5]
  frame_out
  show (iblk m c 1 t : S3x3072x24x96.Idx → EReal) y = _
  blk_ext [iblk, V, idx t]
/-- The same for this array of codes. -/
theorem reg2 : reg_main_v0_2 m c = (m ((c : Thread nD τ).loc main_arg2) : S3x3072x24x96.Idx → EReal) := by
  refine (dats m 0 c).arrAt_eq_of_covers 6 _ (by decide +kernel) fun t hf y => ?_
  blk_simp
  rw [after0_6]
  frame_out
  show (iblk m c 2 t : S3x3072x24x96.Idx → EReal) y = _
  blk_ext [iblk, V, idx t]
/-- The same for this array of codes. -/
theorem reg3 : reg_main_v0_3 m c = (m ((c : Thread nD τ).loc main_arg6) : S3x3072x24x96.Idx → EReal) := by
  refine (dats m 0 c).arrAt_eq_of_covers 7 _ (by decide +kernel) fun t hf y => ?_
  blk_simp
  rw [after0_7]
  frame_out
  show (iblk m c 3 t : S3x3072x24x96.Idx → EReal) y = _
  blk_ext [iblk, V, idx t]

/-- One threshold's contribution to the bucket of the word `d`. -/
def step (d t : BitVec 32) : BitVec 32 := (IntOp.cmpi .sge d t).setWidth 32
/-- The bucket the reference computes for the word `d`. -/
def bucket (d : BitVec 32) : BitVec 32 :=
  Scalar.select (IntOp.cmpi .slt d 16#32) d (IntOp.addi 16#32 (List.foldl (fun a t => IntOp.addi a (step d t)) 0#32
    [19#32, 21#32, 24#32, 27#32, 31#32, 35#32, 40#32, 46#32, 52#32, 59#32, 67#32, 77#32, 87#32, 99#32, 113#32]))
/-- It is the bucket of the distance. -/
theorem bucket_eq : ∀ n : Fin 3072, bucket (BitVec.ofNat 32 n.val) = BitVec.ofNat 32 (bkt n.val) := by
  decide +kernel

/-- The entry the step stores is the bucket of the distance word. -/
theorem word (x0 : Vec Ideal S3x3072x24x96 .fp8e4m3) (x1 : Vec Ideal S3x3072x24x96 .fp8e4m3) (x2 : Vec Ideal S3x3072x24x96 .fp8e4m3)
    (x3 : Vec Ideal S3x3072x24x96 .fp8e5m2) (y : S3072x3072.Idx) :
    k0_pay1 (k0_pay11 x0 x1 x2 x3) (k0_pay9 (k0_pay11 x0 x1 x2 x3) k0_pay7 k0_pay8) (k0_pay10 (k0_pay11 x0 x1 x2 x3)) y = bucket (k0_pay6 y) := by
  unfold bucket k0_pay1 k0_pay9 k0_pay10 k0_pay8 k0_pay7 k0_pay11 step
  generalize (k0_pay6 : IVec S3072x3072 32) = d
  rfl
/-- The array of buckets. -/
theorem reg4 : reg_main_v0_4 m c = (fun j => bucket (k0_pay6 j) : S3072x3072.Idx → BitVec 32) := by
  refine (dats m 0 c).arrAt_eq_of_covers 8 _ (by decide +kernel) fun t hf y => ?_
  blk_simp
  rw [after0_8]
  frame_out
  refine (word _ _ _ _ _).trans ?_
  refine congrArg (fun z => bucket (k0_pay6 z)) ?_
  blk_ext [iblk, V, idx t]

/-- The distance of a key before its query. -/
theorem dist (q k : Fin 3072) (h : k ≤ q) : k0_pay6 (ix2 q k) = BitVec.ofNat 32 (q.val - k.val) := by
  have hq := q.isLt
  have hk := k.isLt
  have h' : k.val ≤ q.val := h
  have e : BitVec.ofNat 32 q.val - BitVec.ofNat 32 k.val = BitVec.ofNat 32 (q.val - k.val) := by
    apply BitVec.eq_of_toNat_eq
    rw [BitVec.toNat_sub, BitVec.toNat_ofNat, BitVec.toNat_ofNat, BitVec.toNat_ofNat]
    omega
  show IntOp.maxsi (BitVec.ofNat 32 (0 * 3072 + q.val) - BitVec.ofNat 32 (0 * 3072 + k.val)) 0#32 = _
  simp only [Nat.zero_mul, Nat.zero_add]
  rw [e]
  unfold IntOp.maxsi
  split
  · rfl
  · rename_i hn
    have hz : q.val - k.val = 0 := by
      by_contra hz
      refine hn ?_
      have e0 : (BitVec.ofNat 32 (q.val - k.val)).toNat = q.val - k.val := by rw [BitVec.toNat_ofNat]; omega
      rw [BitVec.slt_iff_toInt_lt, BitVec.toInt_eq_toNat_of_lt (show 2 * (BitVec.ofNat 32 (q.val - k.val)).toNat < 2 ^ 32 by rw [e0]; omega), e0]
      show (0 : ℤ) < _
      omega
    rw [hz]

/-- A small word is not negative. -/
theorem nonneg : ∀ (u : Fin 32) (w : BitVec 32), Scalar.select (IntOp.cmpi .slt (BitVec.ofNat 32 u.val) 0#32) w (BitVec.ofNat 32 u.val) = BitVec.ofNat 32 u.val := by
  intro u w
  have : ∀ u : Fin 32, IntOp.cmpi .slt (BitVec.ofNat 32 u.val) 0#32 = 0#1 := by decide +kernel
  rw [this u]
  rfl
/-- The gather of the bias table by bucket. -/
theorem gather (x : S24x32.Idx → EReal) (ix : IVec S3072x3072x1 32) (h : Fin 24) (q k : Fin 3072) (u : Fin 32) (hu : ix (ix3 q k (0 : Fin 1)) = BitVec.ofNat 32 u.val) :
    Host.gather gather_S24x32_S3072x3072x1_S24x3072x3072_0_1_n_n_1_2_241 x ix (ix3 h q k) = x (ix2 h u) := by
  unfold Host.gather
  congr 1
  funext a
  refine Fin.ext ?_
  show (gather_S24x32_S3072x3072x1_S24x3072x3072_0_1_n_n_1_2_241).start (ix3 h q k) ix a + (gather_S24x32_S3072x3072x1_S24x3072x3072_0_1_n_n_1_2_241).batchCoord (ix3 h q k) a
      + (gather_S24x32_S3072x3072x1_S24x3072x3072_0_1_n_n_1_2_241).offCoord (ix3 h q k) a = _
  have h01 : a = 0 ∨ a = 1 := by
    match a with
    | ⟨0, _⟩ => exact Or.inl rfl
    | ⟨1, _⟩ => exact Or.inr rfl
  rw [GatherDims.batchCoord_eq_zero _ _ _ (fun h => by simp [gather_S24x32_S3072x3072x1_S24x3072x3072_0_1_n_n_1_2_241] at h)]
  rcases h01 with rfl | rfl
  · unfold GatherDims.start
    rw [dif_neg (show (0 : Fin 2) ∉ (gather_S24x32_S3072x3072x1_S24x3072x3072_0_1_n_n_1_2_241).startIndexMap by decide)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S24x32_S3072x3072x1_S24x3072x3072_0_1_n_n_1_2_241).startIndexMap from List.mem_singleton.mpr rfl)]
    have hsi : (gather_S24x32_S3072x3072x1_S24x3072x3072_0_1_n_n_1_2_241).siIdx (ix3 h q k) ⟨List.idxOf (1 : Fin 2) (gather_S24x32_S3072x3072x1_S24x3072x3072_0_1_n_n_1_2_241).startIndexMap,
        List.idxOf_lt_length_iff.2 (List.mem_singleton.mpr rfl)⟩ = ix3 q k (0 : Fin 1) := by
      funext b; refine Fin.ext ?_
      match b with
      | ⟨0, _⟩ => rfl
      | ⟨1, _⟩ => rfl
      | ⟨2, _⟩ => rfl
    rw [hsi, hu]
    have hl := u.isLt
    have e0 : (BitVec.ofNat 32 u.val).toNat = u.val := by rw [BitVec.toNat_ofNat]; omega
    rw [BitVec.toInt_eq_toNat_of_lt (show 2 * (BitVec.ofNat 32 u.val).toNat < 2 ^ 32 by rw [e0]; omega), e0]
    show min u.val (32 - 1) = u.val
    omega

/-- The bias of a pair is the table's entry at the bucket of its distance. -/
theorem bias (x : S24x32.Idx → EReal) (h : Fin 24) (q k : Fin 3072) (hkq : k ≤ q) :
    Read.val_main_v24 (F := Ideal) x (fun j => bucket (k0_pay6 j)) (ix3 h q k) = x (ix2 h ⟨bkt (q.val - k.val), bkt_lt _⟩) := by
  refine gather x _ h q k ⟨bkt (q.val - k.val), bkt_lt _⟩ ?_
  rw [Read.val_main_v23_apply, Read.val_main_v22_apply, Read.val_main_v19_apply, Read.val_main_v18_apply, Read.val_main_c_apply,
    show Read.idx_main_v23 (ix3 q k (0 : Fin 1)) = ix2 q k from ext2 rfl rfl]
  have e : bucket (k0_pay6 (ix2 q k)) = BitVec.ofNat 32 (bkt (q.val - k.val)) := by
    rw [dist q k hkq]
    exact bucket_eq ⟨q.val - k.val, lt_of_le_of_lt (Nat.sub_le _ _) q.isLt⟩
  show Scalar.select (IntOp.cmpi .slt (bucket (k0_pay6 (ix2 q k))) 0#32) _ (bucket (k0_pay6 (ix2 q k))) = _
  rw [e]
  exact nonneg ⟨bkt (q.val - k.val), bkt_lt _⟩ _
end Cert.Attn.Region
-- ==== Proof.Agree.lean ====
module
public import proofs.«01_k».proof.Proof.Kern
public import proofs.«01_k».proof.Proof.Region
public import proofs.«01_k».proof.Defs
@[expose] public section
set_option maxRecDepth 16384
noncomputable section
namespace Cert.Attn.Agree
open Idealize.ShloMosaic Idealize.ShloMosaic.TcCoe
/-! # The two programs end with the same three arrays -/

/-- The result dq, head by head. -/
def dqOf (A : Args) : Cert.KernelIdeal.S3x24x3072x96.Idx → EReal := fun j => (A.env (j 0) (j 1)).dq (j 2).val (j 3).val
/-- The same for dk. -/
def dkOf (A : Args) : Cert.KernelIdeal.S3x24x3072x96.Idx → EReal := fun j => (A.env (j 0) (j 1)).dk (j 2).val (j 3).val
/-- The same for dv. -/
def dvOf (A : Args) : Cert.KernelIdeal.S3x24x3072x96.Idx → EReal := fun j => (A.env (j 0) (j 1)).dv (j 2).val (j 3).val

/-! ## What the precondition says -/

/-- The word of infinity. -/
theorem ofBits_inf : Ideal.ofBits .f32 0x7F800000#32 = ⊤ := by simp [Ideal.ofBits, Ideal.ieee]
/-- A value whose magnitude is below infinity is a real. -/
theorem real_of (x : EReal) (h : Ideal.cmp .olt (max x (-x)) (Ideal.ofBits .f32 0x7F800000#32) = 1#1) : x = ((x.toReal : ℝ) : EReal) := by
  have h' : max x (-x) < ⊤ := by
    rw [ofBits_inf] at h
    by_contra hn
    simp [Ideal.cmp, hn] at h
  refine (EReal.coe_toReal (fun e => ?_) (fun e => ?_)).symm
  · exact absurd (lt_of_le_of_lt (le_max_left _ _) h') (by rw [e]; exact lt_irrefl _)
  · exact absurd (lt_of_le_of_lt (le_max_right _ _) h') (by rw [e]; exact lt_irrefl _)
/-- A value that compares at least zero is at least zero. -/
theorem nonneg_of (x : EReal) (h : Ideal.cmp .oge x (Ideal.ofBits .f32 0x00000000#32) = 1#1) : 0 ≤ x := by
  rw [Ideal.ofBits_zero_f32] at h
  by_contra hn
  simp [Ideal.cmp, hn] at h

section
open Cert.KernelIdeal
variable (m : (ℓ : Loc nD τ sig) → Buf (Elt Ideal) ℓ) (c : Dev nD)
/-- The arguments in memory, the scales and the bias read as reals. -/
def argsOf : Args where
  xq := (m ((c : Thread nD τ).loc main_arg0) : S3x3072x24x96.Idx → EReal)
  xk := (m ((c : Thread nD τ).loc main_arg1) : S3x3072x24x96.Idx → EReal)
  xv := (m ((c : Thread nD τ).loc main_arg2) : S3x3072x24x96.Idx → EReal)
  xo := (m ((c : Thread nD τ).loc main_arg6) : S3x3072x24x96.Idx → EReal)
  sq b h := ((m ((c : Thread nD τ).loc main_arg3) : S3x24.Idx → EReal) (ix2 b h)).toReal
  sk b h := ((m ((c : Thread nD τ).loc main_arg4) : S3x24.Idx → EReal) (ix2 b h)).toReal
  sv b h := ((m ((c : Thread nD τ).loc main_arg5) : S3x24.Idx → EReal) (ix2 b h)).toReal
  so b h := ((m ((c : Thread nD τ).loc main_arg7) : S3x24.Idx → EReal) (ix2 b h)).toReal
  bb h u := if hu : u < 32 then ((m ((c : Thread nD τ).loc main_arg8) : S24x32.Idx → EReal) (ix2 h ⟨u, hu⟩)).toReal else 0

variable [hp : Cert.Pre_scales_finite.Facts]
/-- Under the precondition those are the arguments. -/
theorem holds (P : Cert.Pre_KernelIdeal_scales_finite m) : Holds m c (argsOf m c) := by
  obtain ⟨h3, h4, h5, -, h7, -, h8⟩ := P c
  exact {
    hQ := rfl
    hK := rfl
    hV := rfl
    hO := rfl
    hq := fun b h => real_of _ (congrFun h3 (ix2 b h))
    hk := fun b h => real_of _ (congrFun h4 (ix2 b h))
    hv := fun b h => real_of _ (congrFun h5 (ix2 b h))
    ho := fun b h => real_of _ (congrFun h7 (ix2 b h))
    hb := fun h u => (real_of _ (congrFun h8 (ix2 h u))).trans (by
      show _ = ((dite (u.val < 32) (fun hu => ((m ((c : Thread nD τ).loc main_arg8) : S24x32.Idx → EReal) (ix2 h ⟨u.val, hu⟩)).toReal) (fun _ => 0) : ℝ) : EReal)
      rw [dif_pos u.isLt]) }
/-- Under the precondition the product of the two scales is not negative. -/
theorem scales_nonneg (P : Cert.Pre_KernelIdeal_scales_finite m) (b : Fin 3) (h : Fin 24) : 0 ≤ (argsOf m c).so b h * (argsOf m c).sv b h := by
  obtain ⟨-, -, -, h5, -, h7, -⟩ := P c
  exact mul_nonneg (EReal.toReal_nonneg (nonneg_of _ (congrFun h7 (ix2 b h)))) (EReal.toReal_nonneg (nonneg_of _ (congrFun h5 (ix2 b h))))
end

/-! ## The reference -/

section
open Cert.ReferenceIdeal Cert.ReferenceIdeal.Value
variable (A : Args)
/-- One head of the reference's arrays is that head of the arguments. -/
theorem head {x3 x4 x5 x7 : S3x24.Idx → EReal} {x8 : S24x32.Idx → EReal} {r0 r1 r2 r3 : S3x3072x24x96.Idx → EReal}
    {r4 : S3072x3072.Idx → BitVec 32} (b : Fin 3) (h : Fin 24) (e0 : r0 = A.xq) (e1 : r1 = A.xk) (e2 : r2 = A.xv) (e3 : r3 = A.xo)
    (e4 : r4 = fun j => Region.bucket (Cert.ReferenceIdeal.Gen.k0_pay6 j)) (hq : x3 (ix2 b h) = (A.sq b h : EReal)) (hk : x4 (ix2 b h) = (A.sk b h : EReal))
    (hv : x5 (ix2 b h) = (A.sv b h : EReal)) (ho : x7 (ix2 b h) = (A.so b h : EReal)) (hb : ∀ u : Fin 32, x8 (ix2 h u) = (A.bb h u.val : EReal))
    (hC : 0 ≤ A.so b h * A.sv b h) :
    Ref.Head x3 x4 x5 x7 x8 r0 r1 r2 r3 r4 b h (A.env b h) (A.sq b h) (A.sk b h) (A.sv b h) (A.so b h) σ (fun n => A.bb h (bkt n)) := by
  subst e0 e1 e2 e3 e4
  exact {
    hQ := fun n d => (mat_apply A.xq b h n d).symm
    hK := fun n d => (mat_apply A.xk b h n d).symm
    hV := fun n d => (mat_apply A.xv b h n d).symm
    hO := fun n d => (mat_apply A.xo b h n d).symm
    hq := hq
    hk := hk
    hv := hv
    ho := ho
    hσ := σ_eq
    hb := fun q k hkq => (Region.bias x8 h q k hkq).trans (hb _)
    hC := hC }
/-- The scale and the bias of a head are those of the reference, in units of `log 2`. -/
theorem scaled (b : Fin 3) (h : Fin 24) : (A.env b h).Scaled (σ * A.sq b h * A.sk b h) (A.bb h 31) (fun n => A.bb h (bkt n)) :=
  ⟨rfl, fun _ => rfl⟩

variable (m : (ℓ : Loc nD τ sig) → Buf (Elt Ideal) ℓ) (c : Dev nD)
/-- The reference's memory holds the arguments `A`, with the signs the precondition asks for. -/
structure RHolds : Prop where
  hQ : (m ((c : Thread nD τ).loc main_arg0) : S3x3072x24x96.Idx → EReal) = A.xq
  hK : (m ((c : Thread nD τ).loc main_arg1) : S3x3072x24x96.Idx → EReal) = A.xk
  hV : (m ((c : Thread nD τ).loc main_arg2) : S3x3072x24x96.Idx → EReal) = A.xv
  hO : (m ((c : Thread nD τ).loc main_arg6) : S3x3072x24x96.Idx → EReal) = A.xo
  hq : ∀ (b : Fin 3) (h : Fin 24), (m ((c : Thread nD τ).loc main_arg3) : S3x24.Idx → EReal) (ix2 b h) = (A.sq b h : EReal)
  hk : ∀ (b : Fin 3) (h : Fin 24), (m ((c : Thread nD τ).loc main_arg4) : S3x24.Idx → EReal) (ix2 b h) = (A.sk b h : EReal)
  hv : ∀ (b : Fin 3) (h : Fin 24), (m ((c : Thread nD τ).loc main_arg5) : S3x24.Idx → EReal) (ix2 b h) = (A.sv b h : EReal)
  ho : ∀ (b : Fin 3) (h : Fin 24), (m ((c : Thread nD τ).loc main_arg7) : S3x24.Idx → EReal) (ix2 b h) = (A.so b h : EReal)
  hb : ∀ (h : Fin 24) (u : Fin 32), (m ((c : Thread nD τ).loc main_arg8) : S24x32.Idx → EReal) (ix2 h u) = (A.bb h u.val : EReal)
  hC : ∀ (b : Fin 3) (h : Fin 24), 0 ≤ A.so b h * A.sv b h

variable {A m c}
/-- Every head of the contents the reference's later operations read. -/
theorem rhead (H : RHolds A m c) (b : Fin 3) (h : Fin 24) :
    Ref.Head (exitV m c (Proc.devRef .tc main_arg3)) (exitV m c (Proc.devRef .tc main_arg4)) (exitV m c (Proc.devRef .tc main_arg5))
      (exitV m c (Proc.devRef .tc main_arg7)) (exitV m c (Proc.devRef .tc main_arg8)) (exitV m c (Proc.devRef .tc main_v0_0))
      (exitV m c (Proc.devRef .tc main_v0_1)) (exitV m c (Proc.devRef .tc main_v0_2)) (exitV m c (Proc.devRef .tc main_v0_3))
      (exitV m c (Proc.devRef .tc main_v0_4)) b h (A.env b h) (A.sq b h) (A.sk b h) (A.sv b h) (A.so b h) σ (fun n => A.bb h (bkt n)) :=
  head A b h ((exit_main_v0_0 m c).trans ((Region.reg0 m c).trans H.hQ)) ((exit_main_v0_1 m c).trans ((Region.reg1 m c).trans H.hK))
    ((exit_main_v0_2 m c).trans ((Region.reg2 m c).trans H.hV)) ((exit_main_v0_3 m c).trans ((Region.reg3 m c).trans H.hO))
    ((exit_main_v0_4 m c).trans (Region.reg4 m c)) ((congrFun (exit_main_arg3 m c) (ix2 b h)).trans (H.hq b h))
    ((congrFun (exit_main_arg4 m c) (ix2 b h)).trans (H.hk b h)) ((congrFun (exit_main_arg5 m c) (ix2 b h)).trans (H.hv b h))
    ((congrFun (exit_main_arg7 m c) (ix2 b h)).trans (H.ho b h)) (fun u => (congrFun (exit_main_arg8 m c) (ix2 h u)).trans (H.hb h u)) (H.hC b h)

/-- An index of an output array by its coordinates. -/
theorem split (j : S3x24x3072x96.Idx) : j = ix4 (j 0) (j 1) (j 2) (j 3) := Ref.ext4 rfl rfl rfl rfl

/-- The reference's dq. -/
theorem ref_dq (H : RHolds A m c) {v : S3x24x3072x96.Idx → EReal}
    (hv : v = Read.val_main_v61 (F := Ideal) (exitV m c (Proc.devRef .tc main_arg3)) (exitV m c (Proc.devRef .tc main_arg4)) (exitV m c (Proc.devRef .tc main_arg5))
      (exitV m c (Proc.devRef .tc main_arg7)) (exitV m c (Proc.devRef .tc main_arg8)) (exitV m c (Proc.devRef .tc main_v0_0))
      (exitV m c (Proc.devRef .tc main_v0_1)) (exitV m c (Proc.devRef .tc main_v0_2)) (exitV m c (Proc.devRef .tc main_v0_3))
      (exitV m c (Proc.devRef .tc main_v0_4))) : v = dqOf A := by
  refine hv.trans (funext fun j => ?_)
  rw [split j]
  refine (Ref.v61 (rhead H (j 0) (j 1)) (scaled A (j 0) (j 1)) (j 2) (j 3)).trans ?_
  rw [← EReal.coe_mul, ← EReal.coe_mul]
  rfl
/-- The reference's dk. -/
theorem ref_dk (H : RHolds A m c) {v : S3x24x3072x96.Idx → EReal}
    (hv : v = Read.val_main_v67 (F := Ideal) (exitV m c (Proc.devRef .tc main_arg3)) (exitV m c (Proc.devRef .tc main_arg4)) (exitV m c (Proc.devRef .tc main_arg5))
      (exitV m c (Proc.devRef .tc main_arg7)) (exitV m c (Proc.devRef .tc main_arg8)) (exitV m c (Proc.devRef .tc main_v0_0))
      (exitV m c (Proc.devRef .tc main_v0_1)) (exitV m c (Proc.devRef .tc main_v0_2)) (exitV m c (Proc.devRef .tc main_v0_3))
      (exitV m c (Proc.devRef .tc main_v0_4))) : v = dkOf A := by
  refine hv.trans (funext fun j => ?_)
  rw [split j]
  refine (Ref.v67 (rhead H (j 0) (j 1)) (scaled A (j 0) (j 1)) (j 2) (j 3)).trans ?_
  rw [← EReal.coe_mul, ← EReal.coe_mul]
  rfl
/-- The reference's dv. -/
theorem ref_dv (H : RHolds A m c) {v : S3x24x3072x96.Idx → EReal}
    (hv : v = Read.val_main_v71 (F := Ideal) (exitV m c (Proc.devRef .tc main_arg3)) (exitV m c (Proc.devRef .tc main_arg4))
      (exitV m c (Proc.devRef .tc main_arg7)) (exitV m c (Proc.devRef .tc main_arg8)) (exitV m c (Proc.devRef .tc main_v0_0))
      (exitV m c (Proc.devRef .tc main_v0_1)) (exitV m c (Proc.devRef .tc main_v0_3)) (exitV m c (Proc.devRef .tc main_v0_4))) : v = dvOf A := by
  refine hv.trans (funext fun j => ?_)
  rw [split j]
  exact Ref.v71 (rhead H (j 0) (j 1)) (scaled A (j 0) (j 1)) (j 2) (j 3)
end
end Cert.Attn.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The shape relations of the precondition hold. -/
theorem preFacts : Cert.Pre_scales_finite.Facts := ⟨by decide, by decide⟩

/-- The idealized kernel and the idealized reference, started on the same arguments with finite scales, a finite
    bias table and `v_scale`, `do_scale` at least zero, end with the same `dq`, `dk` and `dv`. -/
theorem same : algebraic_KernelIdeal_ReferenceIdeal_pre_scales_finite (hKernelIdeal := Cert.KernelIdeal.Gen.facts)
    (hReferenceIdeal := Cert.ReferenceIdeal.Gen.facts) (hPre_scales_finite := preFacts) := by
  haveI := preFacts
  intro m g m' g' hpre hargs
  refine ⟨fun c => Cert.Attn.Agree.dqOf (Cert.Attn.Agree.argsOf m c), fun c => Cert.Attn.Agree.dkOf (Cert.Attn.Agree.argsOf m c),
    fun c => Cert.Attn.Agree.dvOf (Cert.Attn.Agree.argsOf m c), ?_, ?_⟩
  · refine (θ_run _ _ _).mono ?_ (Cert.KernelIdeal.Value.run_blocks m g)
    intro r h c
    have H := Cert.Attn.Agree.holds m c hpre
    obtain ⟨h0, h1, h2, -, k⟩ := h c
    exact ⟨h0.trans (Cert.Attn.arr9 m c _ H), h1.trans (Cert.Attn.arr10 m c _ H), h2.trans (Cert.Attn.arr11 m c _ H), k⟩
  · refine (θ_run _ _ _).mono ?_ (Cert.ReferenceIdeal.Value.run m' g')
    intro r h c
    have H := Cert.Attn.Agree.holds m c hpre
    obtain ⟨a0, a1, a2, a3, a4, a5, a6, a7, a8⟩ := hargs c
    have R : Cert.Attn.Agree.RHolds (Cert.Attn.Agree.argsOf m c) m' c :=
      { hQ := a0.trans H.hQ
        hK := a1.trans H.hK
        hV := a2.trans H.hV
        hO := a6.trans H.hO
        hq := fun b n => (congrFun a3 (ix2 b n)).trans (H.hq b n)
        hk := fun b n => (congrFun a4 (ix2 b n)).trans (H.hk b n)
        hv := fun b n => (congrFun a5 (ix2 b n)).trans (H.hv b n)
        ho := fun b n => (congrFun a7 (ix2 b n)).trans (H.ho b n)
        hb := fun n u => (congrFun a8 (ix2 n u)).trans (H.hb n u)
        hC := fun b n => Cert.Attn.Agree.scales_nonneg m c hpre b n }
    obtain ⟨h0, h1, h2, k⟩ := h c
    exact ⟨Cert.Attn.Agree.ref_dq R (h0.trans (Cert.ReferenceIdeal.Read.val_main_v61_eq _)),
      Cert.Attn.Agree.ref_dk R (h1.trans (Cert.ReferenceIdeal.Read.val_main_v67_eq _)),
      Cert.Attn.Agree.ref_dv R (h2.trans (Cert.ReferenceIdeal.Read.val_main_v71_eq _)), k⟩

/-- The kernel, its idealization and the idealized reference run to the end without fault, leave their
    arguments and every semaphore as they were; the constant that the idealization names `log2e` is one
    that its rule admits; and the idealized kernel and reference end with the same results. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    IdealRules.named_const.statement Cert.KernelIdeal.κ "log2e" .f32 0x3FB8AA3B#32 (((Real.log 2)⁻¹ : ℝ) : EReal) rfl, same⟩

end Cert.Proof

end
